-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_words_fit [hPre_words_fit : Cert.Pre_words_fit.Facts] (m : (ℓ : Loc Cert.KernelIdeal.nD Cert.KernelIdeal.τ Cert.KernelIdeal.sig) → Buf (Elt Ideal) ℓ) : Prop :=
  ∀ c : Dev Cert.KernelIdeal.nD,
    (Cert.Pre_words_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_words_fit [hPre_words_fit : Cert.Pre_words_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_words_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_words_fit [hKernelIdeal : Cert.KernelIdeal.Facts] [hPre_words_fit : Cert.Pre_words_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_words_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_words_fit [hReferenceIdeal : Cert.ReferenceIdeal.Facts] [hPre_words_fit : Cert.Pre_words_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_words_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_words_fit [hKernelIdeal : Cert.KernelIdeal.Facts] [hReferenceIdeal : Cert.ReferenceIdeal.Facts] [hPre_words_fit : Cert.Pre_words_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_words_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v103_1) = v2 c
          ∧ r.2.mem ((c.tc : Thread Cert.ReferenceIdeal.nD Cert.ReferenceIdeal.τ).loc Cert.ReferenceIdeal.main_v124) = v3 c
          ∧ r.2.mem ((c.tc : Thread Cert.ReferenceIdeal.nD Cert.ReferenceIdeal.τ).loc Cert.ReferenceIdeal.main_v121_1) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_words_fit : Cert.Pre_words_fit.Facts),
    quiescent_Kernel (hKernel := hKernel)
    ∧ quiescent_KernelIdeal (hKernelIdeal := hKernelIdeal)
    ∧ quiescent_KernelIdeal_pre_words_fit (hKernelIdeal := hKernelIdeal) (hPre_words_fit := hPre_words_fit)
    ∧ quiescent_ReferenceIdeal (hReferenceIdeal := hReferenceIdeal)
    ∧ quiescent_ReferenceIdeal_pre_words_fit (hReferenceIdeal := hReferenceIdeal) (hPre_words_fit := hPre_words_fit)
    ∧ preserves_Kernel_KernelIdeal
    ∧ algebraic_KernelIdeal_ReferenceIdeal_pre_words_fit (hKernelIdeal := hKernelIdeal) (hReferenceIdeal := hReferenceIdeal) (hPre_words_fit := hPre_words_fit)
-- ==== Pre_words_fit.lean ====
abbrev S3211264 : Shape := ⟨1, ![3211264]⟩
abbrev S6272 : Shape := ⟨1, ![6272]⟩
abbrev S1568 : Shape := ⟨1, ![1568]⟩
abbrev S256 : Shape := ⟨1, ![256]⟩
abbrev S97 : Shape := ⟨1, ![97]⟩
abbrev S96 : Shape := ⟨1, ![96]⟩
abbrev S_ : Shape := ⟨0, ![]⟩

class Facts : Prop where
  bcast_S_S97 : S_.BroadcastsInDim S97 (![] : Fin 0 → Fin S97.rank)
  reducesTo_S97_S_d0 : S97.ReducesTo [0] S_
  h_S_ : 0 < S_.numel

variable [Facts]

def fn {F : FTy → Type} [FloatOps F] (main_arg0 : FVec F S3211264 .f32) (main_arg1 : FVec F S3211264 .fp8e5m2) (main_arg2 : FVec F S6272 .f32) (main_arg3 : IVec S3211264 8) (main_arg4 : FVec F S1568 .f32) (main_arg5 : IVec S3211264 8) (main_arg6 : FVec F S1568 .f32) (main_arg7 : FVec F S256 .f32) (main_arg8 : FVec F S256 .f32) (main_arg9 : IVec S97 32) (main_arg10 : FVec F S96 .f32) (main_arg11 : IVec S_ 32) : IVec S_ 1 :=
  let main_c : IVec S_ 32 := constantI S_ 32 2150236160#32
  let main_v0 : IVec S97 32 := broadcastInDim S97 ![] bcast_S_S97 main_c
  let main_v1 : IVec S97 1 := cmpi .sge main_arg9 main_v0
  let main_c_0 : IVec S_ 1 := constantI S_ 1 1#1
  let main_v2 : IVec S_ 1 := (fun x v => Host.reduce IntOp.andi x v reducesTo_S97_S_d0 h_S_) main_v1 main_c_0
  let main_c_1 : IVec S_ 32 := constantI S_ 32 0#32
  let main_v3 : IVec S_ 1 := cmpi .sge main_arg11 main_c_1
  let main_v4 : IVec S_ 1 := andi main_v2 main_v3
  main_v4
-- ==== Kernel.lean ====
abbrev S3211264 : Shape := ⟨1, ![3211264]⟩
abbrev S6272 : Shape := ⟨1, ![6272]⟩
abbrev S1568 : Shape := ⟨1, ![1568]⟩
abbrev S256 : Shape := ⟨1, ![256]⟩
abbrev S97 : Shape := ⟨1, ![97]⟩
abbrev S96 : Shape := ⟨1, ![96]⟩
abbrev S_ : Shape := ⟨0, ![]⟩
abbrev S1 : Shape := ⟨1, ![1]⟩
abbrev S25088x128 : Shape := ⟨2, ![25088, 128]⟩
abbrev S2x128 : Shape := ⟨2, ![2, 128]⟩
abbrev S1568x128 : Shape := ⟨2, ![1568, 128]⟩
abbrev S3584x128 : Shape := ⟨2, ![3584, 128]⟩
abbrev S224x128 : Shape := ⟨2, ![224, 128]⟩
abbrev S2x8x128 : Shape := ⟨3, ![2, 8, 128]⟩
abbrev S8x128 : Shape := ⟨2, ![8, 128]⟩
abbrev S1x8x128 : Shape := ⟨3, ![1, 8, 128]⟩
abbrev S64x128 : Shape := ⟨2, ![64, 128]⟩
abbrev S1x128 : Shape := ⟨2, ![1, 128]⟩
abbrev S8x128x1 : Shape := ⟨3, ![8, 128, 1]⟩
abbrev S16x128 : Shape := ⟨2, ![16, 128]⟩
abbrev S4x128 : Shape := ⟨2, ![4, 128]⟩
abbrev S1x16x128 : Shape := ⟨3, ![1, 16, 128]⟩
abbrev S1x1x1 : Shape := ⟨3, ![1, 1, 1]⟩
abbrev S1x1 : Shape := ⟨2, ![1, 1]⟩
abbrev S1568x1 : Shape := ⟨2, ![1568, 1]⟩

abbrev nBuf : Space → Nat
  | .hbm => 29
  | .vmem => 22
  | .smem => 8
  | _ => 0

abbrev bufTy : (tb : Table) → Fin (tcTables nBuf tb) → BufTy
  | .hbm, ⟨0, _⟩ => ⟨S3211264, .f32⟩
  | .hbm, ⟨1, _⟩ => ⟨S3211264, .fp8e5m2⟩
  | .hbm, ⟨2, _⟩ => ⟨S6272, .f32⟩
  | .hbm, ⟨3, _⟩ => ⟨S3211264, .i8⟩
  | .hbm, ⟨4, _⟩ => ⟨S1568, .f32⟩
  | .hbm, ⟨5, _⟩ => ⟨S3211264, .i8⟩
  | .hbm, ⟨6, _⟩ => ⟨S1568, .f32⟩
  | .hbm, ⟨7, _⟩ => ⟨S256, .f32⟩
  | .hbm, ⟨8, _⟩ => ⟨S256, .f32⟩
  | .hbm, ⟨9, _⟩ => ⟨S96, .f32⟩
  | .hbm, ⟨10, _⟩ => ⟨S_, .i32⟩
  | .hbm, ⟨11, _⟩ => ⟨S25088x128, .f32⟩
  | .hbm, ⟨12, _⟩ => ⟨S25088x128, .fp8e5m2⟩
  | .hbm, ⟨13, _⟩ => ⟨S25088x128, .i8⟩
  | .hbm, ⟨14, _⟩ => ⟨S25088x128, .i8⟩
  | .hbm, ⟨15, _⟩ => ⟨S2x128, .f32⟩
  | .hbm, ⟨16, _⟩ => ⟨S2x128, .f32⟩
  | .hbm, ⟨17, _⟩ => ⟨S25088x128, .f32⟩
  | .hbm, ⟨18, _⟩ => ⟨S25088x128, .i8⟩
  | .hbm, ⟨19, _⟩ => ⟨S25088x128, .i8⟩
  | .hbm, ⟨20, _⟩ => ⟨S1568x128, .f32⟩
  | .hbm, ⟨21, _⟩ => ⟨S1568x128, .f32⟩
  | .hbm, ⟨22, _⟩ => ⟨S3211264, .f32⟩
  | .hbm, ⟨23, _⟩ => ⟨S3211264, .i8⟩
  | .hbm, ⟨24, _⟩ => ⟨S1568x1, .f32⟩
  | .hbm, ⟨25, _⟩ => ⟨S1568, .f32⟩
  | .hbm, ⟨26, _⟩ => ⟨S3211264, .i8⟩
  | .hbm, ⟨27, _⟩ => ⟨S1568x1, .f32⟩
  | .hbm, ⟨28, _⟩ => ⟨S1568, .f32⟩
  | .local _ .vmem, ⟨0, _⟩ => ⟨S3584x128, .f32⟩
  | .local _ .vmem, ⟨1, _⟩ => ⟨S3584x128, .f32⟩
  | .local _ .vmem, ⟨2, _⟩ => ⟨S3584x128, .fp8e5m2⟩
  | .local _ .vmem, ⟨3, _⟩ => ⟨S3584x128, .fp8e5m2⟩
  | .local _ .vmem, ⟨4, _⟩ => ⟨S3584x128, .i8⟩
  | .local _ .vmem, ⟨5, _⟩ => ⟨S3584x128, .i8⟩
  | .local _ .vmem, ⟨6, _⟩ => ⟨S3584x128, .i8⟩
  | .local _ .vmem, ⟨7, _⟩ => ⟨S3584x128, .i8⟩
  | .local _ .vmem, ⟨8, _⟩ => ⟨S2x128, .f32⟩
  | .local _ .vmem, ⟨9, _⟩ => ⟨S2x128, .f32⟩
  | .local _ .vmem, ⟨10, _⟩ => ⟨S3584x128, .f32⟩
  | .local _ .vmem, ⟨11, _⟩ => ⟨S3584x128, .f32⟩
  | .local _ .vmem, ⟨12, _⟩ => ⟨S3584x128, .i8⟩
  | .local _ .vmem, ⟨13, _⟩ => ⟨S3584x128, .i8⟩
  | .local _ .vmem, ⟨14, _⟩ => ⟨S3584x128, .i8⟩
  | .local _ .vmem, ⟨15, _⟩ => ⟨S3584x128, .i8⟩
  | .local _ .vmem, ⟨16, _⟩ => ⟨S224x128, .f32⟩
  | .local _ .vmem, ⟨17, _⟩ => ⟨S224x128, .f32⟩
  | .local _ .vmem, ⟨18, _⟩ => ⟨S224x128, .f32⟩
  | .local _ .vmem, ⟨19, _⟩ => ⟨S224x128, .f32⟩
  | .local _ .vmem, ⟨20, _⟩ => ⟨S3584x128, .f32⟩
  | .local _ .vmem, ⟨21, _⟩ => ⟨S2x8x128, .f32⟩
  | .local _ .smem, ⟨0, _⟩ => ⟨S97, .i32⟩
  | .local _ .smem, ⟨1, _⟩ => ⟨S1, .i32⟩
  | .local _ .smem, ⟨2, _⟩ => ⟨S1568, .f32⟩
  | .local _ .smem, ⟨3, _⟩ => ⟨S1568, .f32⟩
  | .local _ .smem, ⟨4, _⟩ => ⟨S6272, .f32⟩
  | .local _ .smem, ⟨5, _⟩ => ⟨S96, .f32⟩
  | .local _ .smem, ⟨6, _⟩ => ⟨S256, .f32⟩
  | .local _ .smem, ⟨7, _⟩ => ⟨S256, .f32⟩
  | _, _ => ⟨S3211264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg10 : Ref sig .tc := ⟨.hbm, 9, rfl⟩
abbrev main_arg11 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_arg9 : Ref sig .tc := ⟨.smem, 0, rfl⟩
abbrev main_v0 : Ref sig .tc := ⟨.smem, 1, rfl⟩
abbrev cc0_stg6_0 : Ref sig .tc := ⟨.vmem, 0, rfl⟩
abbrev cc0_stg6_1 : Ref sig .tc := ⟨.vmem, 1, rfl⟩
abbrev cc0_stg7_0 : Ref sig .tc := ⟨.vmem, 2, rfl⟩
abbrev cc0_stg7_1 : Ref sig .tc := ⟨.vmem, 3, rfl⟩
abbrev cc0_stg8_0 : Ref sig .tc := ⟨.vmem, 4, rfl⟩
abbrev cc0_stg8_1 : Ref sig .tc := ⟨.vmem, 5, rfl⟩
abbrev cc0_stg9_0 : Ref sig .tc := ⟨.vmem, 6, rfl⟩
abbrev cc0_stg9_1 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg12_1 : Ref sig .tc := ⟨.vmem, 11, rfl⟩
abbrev cc0_stg13_0 : Ref sig .tc := ⟨.vmem, 12, rfl⟩
abbrev cc0_stg13_1 : Ref sig .tc := ⟨.vmem, 13, rfl⟩
abbrev cc0_stg14_0 : Ref sig .tc := ⟨.vmem, 14, rfl⟩
abbrev cc0_stg14_1 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 2, rfl⟩
abbrev cc0_stg1_0 : Ref sig .tc := ⟨.smem, 3, rfl⟩
abbrev cc0_stg2_0 : Ref sig .tc := ⟨.smem, 4, rfl⟩
abbrev cc0_stg3_0 : Ref sig .tc := ⟨.smem, 5, rfl⟩
abbrev cc0_stg4_0 : Ref sig .tc := ⟨.smem, 6, rfl⟩
abbrev cc0_stg5_0 : Ref sig .tc := ⟨.smem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![7], ![false]⟩

abbrev pre0 : Pipeline.Prefetch sig := ⟨2, ![main_arg9.idx, main_v0.idx], fun | 0 => main_arg9.names | 1 => main_v0.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32_4 : BitVec 32 := 0#32
  let c96_i32 : BitVec 32 := 96#32
  let v14 : BitVec 32 := Scalar.addi c0_i32_4 c96_i32
  let c1_i32 : BitVec 32 := 1#32
  ⟨c0_i32_4, v14, c1_i32⟩
def k0_off1 (k0_t1 : Fin k0_t1_loop.trips) : Fin 1 → Nat :=
  let c0_i32_4 : BitVec 32 := 0#32
  let c1_i32 : BitVec 32 := 1#32
  let arg22 : BitVec 32 := Scf.iv c0_i32_4 c1_i32 k0_t1
  let v16 : Index := Scalar.indexCast arg22
  ![v16.toNat]
def k0_off2 (k0_t1 : Fin k0_t1_loop.trips) : Fin 1 → Nat :=
  let c0_i32_4 : BitVec 32 := 0#32
  let c1_i32 : BitVec 32 := 1#32
  let arg22 : BitVec 32 := Scf.iv c0_i32_4 c1_i32 k0_t1
  let c1_i32_10 : BitVec 32 := 1#32
  let v21 : BitVec 32 := Scalar.addi arg22 c1_i32_10
  let v22 : Index := Scalar.indexCast v21
  ![v22.toNat]
def k0_off3 (k0_t1 : Fin k0_t1_loop.trips) : Fin 1 → Nat :=
  let c0_i32_4 : BitVec 32 := 0#32
  let c1_i32 : BitVec 32 := 1#32
  let arg22 : BitVec 32 := Scf.iv c0_i32_4 c1_i32 k0_t1
  let v27 : Index := Scalar.indexCast arg22
  ![v27.toNat]
@[reducible] def k0_t2_loop (i : grid0.Coords) (v17 : BitVec 32) (v23 : BitVec 32) : Scf.Loop 32 :=
  let c458752_i32 : BitVec 32 := 458752#32
  let c0_i32_9 : BitVec 32 := 0#32
  let arg0 : BitVec 32 := BitVec.ofNat 32 (i 0).val
  let c3584_i32 : BitVec 32 := 3584#32
  let v0 : BitVec 32 := Scalar.muli arg0 c3584_i32
  let c128_i32 : BitVec 32 := 128#32
  let v8 : BitVec 32 := Scalar.muli v0 c128_i32
  let v18 : BitVec 32 := Scalar.subi v17 v8
  let v19 : BitVec 32 := Scalar.maxsi c0_i32_9 v18
  let v20 : BitVec 32 := Scalar.minsi c458752_i32 v19
  let c0_i32_14 : BitVec 32 := 0#32
  let v31 : BitVec 1 := Scalar.cmpi .sgt v20 c0_i32_14
  let v32 : BitVec 32 := Scalar.extui v31
  let c0_i32_15 : BitVec 32 := 0#32
  let v33 : BitVec 1 := Scalar.cmpi .slt v20 c0_i32_15
  let v34 : BitVec 32 := Scalar.extui v33
  let v35 : BitVec 32 := Scalar.subi v32 v34
  let c1024_i32 : BitVec 32 := 1024#32
  let c0_i32_16 : BitVec 32 := 0#32
  let v36 : BitVec 1 := Scalar.cmpi .sgt c1024_i32 c0_i32_16
  let v37 : BitVec 32 := Scalar.extui v36
  let c0_i32_17 : BitVec 32 := 0#32
  let v38 : BitVec 1 := Scalar.cmpi .slt c1024_i32 c0_i32_17
  let v39 : BitVec 32 := Scalar.extui v38
  let v40 : BitVec 32 := Scalar.subi v37 v39
  let v41 : BitVec 1 := Scalar.cmpi .ne v35 v40
  let v42 : BitVec 32 := Scalar.remsi v20 c1024_i32
  let c0_i32_18 : BitVec 32 := 0#32
  let v43 : BitVec 1 := Scalar.cmpi .ne v42 c0_i32_18
  let v44 : BitVec 1 := Scalar.andi v41 v43
  let v30 : BitVec 32 := Scalar.divsi v20 c1024_i32
  let c1_i32_19 : BitVec 32 := 1#32
  let v45 : BitVec 32 := Scalar.subi v30 c1_i32_19
  let v46 : BitVec 32 := Scalar.select v44 v45 v30
  let c458752_i32_12 : BitVec 32 := 458752#32
  let c0_i32_11 : BitVec 32 := 0#32
  let v24 : BitVec 32 := Scalar.subi v23 v8
  let v25 : BitVec 32 := Scalar.maxsi c0_i32_11 v24
  let v26 : BitVec 32 := Scalar.minsi c458752_i32_12 v25
  let c1024_i32_20 : BitVec 32 := 1024#32
  let v47 : BitVec 32 := Scalar.addi v26 c1024_i32_20
  let c1_i32_21 : BitVec 32 := 1#32
  let v48 : BitVec 32 := Scalar.subi v47 c1_i32_21
  let c0_i32_23 : BitVec 32 := 0#32
  let v50 : BitVec 1 := Scalar.cmpi .sgt v48 c0_i32_23
  let v51 : BitVec 32 := Scalar.extui v50
  let c0_i32_24 : BitVec 32 := 0#32
  let v52 : BitVec 1 := Scalar.cmpi .slt v48 c0_i32_24
  let v53 : BitVec 32 := Scalar.extui v52
  let v54 : BitVec 32 := Scalar.subi v51 v53
  let c1024_i32_22 : BitVec 32 := 1024#32
  let c0_i32_25 : BitVec 32 := 0#32
  let v55 : BitVec 1 := Scalar.cmpi .sgt c1024_i32_22 c0_i32_25
  let v56 : BitVec 32 := Scalar.extui v55
  let c0_i32_26 : BitVec 32 := 0#32
  let v57 : BitVec 1 := Scalar.cmpi .slt c1024_i32_22 c0_i32_26
  let v58 : BitVec 32 := Scalar.extui v57
  let v59 : BitVec 32 := Scalar.subi v56 v58
  let v60 : BitVec 1 := Scalar.cmpi .ne v54 v59
  let v61 : BitVec 32 := Scalar.remsi v48 c1024_i32_22
  let c0_i32_27 : BitVec 32 := 0#32
  let v62 : BitVec 1 := Scalar.cmpi .ne v61 c0_i32_27
  let v63 : BitVec 1 := Scalar.andi v60 v62
  let v49 : BitVec 32 := Scalar.divsi v48 c1024_i32_22
  let c1_i32_28 : BitVec 32 := 1#32
  let v64 : BitVec 32 := Scalar.subi v49 c1_i32_28
  let v65 : BitVec 32 := Scalar.select v63 v64 v49
  let v66 : BitVec 32 := Scalar.subi v65 v46
  let c1_i32_29 : BitVec 32 := 1#32
  let v68 : BitVec 32 := Scalar.divsi v66 c1_i32_29
  let v69 : BitVec 32 := Scalar.muli v68 c1_i32_29
  let v70 : BitVec 32 := Scalar.addi v46 v69
  let c1_i32_30 : BitVec 32 := 1#32
  ⟨v46, v70, c1_i32_30⟩

def k0_mult1 (i : grid0.Coords) (v17 : BitVec 32) (v23 : BitVec 32) (k0_t2 : Fin (k0_t2_loop i v17 v23).trips) : BitVec 32 :=
  let c458752_i32 : BitVec 32 := 458752#32
  let c0_i32_9 : BitVec 32 := 0#32
  let arg0 : BitVec 32 := BitVec.ofNat 32 (i 0).val
  let c3584_i32 : BitVec 32 := 3584#32
  let v0 : BitVec 32 := Scalar.muli arg0 c3584_i32
  let c128_i32 : BitVec 32 := 128#32
  let v8 : BitVec 32 := Scalar.muli v0 c128_i32
  let v18 : BitVec 32 := Scalar.subi v17 v8
  let v19 : BitVec 32 := Scalar.maxsi c0_i32_9 v18
  let v20 : BitVec 32 := Scalar.minsi c458752_i32 v19
  let c0_i32_14 : BitVec 32 := 0#32
  let v31 : BitVec 1 := Scalar.cmpi .sgt v20 c0_i32_14
  let v32 : BitVec 32 := Scalar.extui v31
  let c0_i32_15 : BitVec 32 := 0#32
  let v33 : BitVec 1 := Scalar.cmpi .slt v20 c0_i32_15
  let v34 : BitVec 32 := Scalar.extui v33
  let v35 : BitVec 32 := Scalar.subi v32 v34
  let c1024_i32 : BitVec 32 := 1024#32
  let c0_i32_16 : BitVec 32 := 0#32
  let v36 : BitVec 1 := Scalar.cmpi .sgt c1024_i32 c0_i32_16
  let v37 : BitVec 32 := Scalar.extui v36
  let c0_i32_17 : BitVec 32 := 0#32
  let v38 : BitVec 1 := Scalar.cmpi .slt c1024_i32 c0_i32_17
  let v39 : BitVec 32 := Scalar.extui v38
  let v40 : BitVec 32 := Scalar.subi v37 v39
  let v41 : BitVec 1 := Scalar.cmpi .ne v35 v40
  let v42 : BitVec 32 := Scalar.remsi v20 c1024_i32
  let c0_i32_18 : BitVec 32 := 0#32
  let v43 : BitVec 1 := Scalar.cmpi .ne v42 c0_i32_18
  let v44 : BitVec 1 := Scalar.andi v41 v43
  let v30 : BitVec 32 := Scalar.divsi v20 c1024_i32
  let c1_i32_19 : BitVec 32 := 1#32
  let v45 : BitVec 32 := Scalar.subi v30 c1_i32_19
  let v46 : BitVec 32 := Scalar.select v44 v45 v30
  let c1_i32_30 : BitVec 32 := 1#32
  let arg23 : BitVec 32 := Scf.iv v46 c1_i32_30 k0_t2
  let c8_i32 : BitVec 32 := 8#32
  let v74 : BitVec 32 := Scalar.muli arg23 c8_i32
  v74
def k0_off4 (i : grid0.Coords) (v17 : BitVec 32) (v23 : BitVec 32) (k0_t2 : Fin (k0_t2_loop i v17 v23).trips) : Fin 2 → Nat :=
  let c458752_i32 : BitVec 32 := 458752#32
  let c0_i32_9 : BitVec 32 := 0#32
  let arg0 : BitVec 32 := BitVec.ofNat 32 (i 0).val
  let c3584_i32 : BitVec 32 := 3584#32
  let v0 : BitVec 32 := Scalar.muli arg0 c3584_i32
  let c128_i32 : BitVec 32 := 128#32
  let v8 : BitVec 32 := Scalar.muli v0 c128_i32
  let v18 : BitVec 32 := Scalar.subi v17 v8
  let v19 : BitVec 32 := Scalar.maxsi c0_i32_9 v18
  let v20 : BitVec 32 := Scalar.minsi c458752_i32 v19
  let c0_i32_14 : BitVec 32 := 0#32
  let v31 : BitVec 1 := Scalar.cmpi .sgt v20 c0_i32_14
  let v32 : BitVec 32 := Scalar.extui v31
  let c0_i32_15 : BitVec 32 := 0#32
  let v33 : BitVec 1 := Scalar.cmpi .slt v20 c0_i32_15
  let v34 : BitVec 32 := Scalar.extui v33
  let v35 : BitVec 32 := Scalar.subi v32 v34
  let c1024_i32 : BitVec 32 := 1024#32
  let c0_i32_16 : BitVec 32 := 0#32
  let v36 : BitVec 1 := Scalar.cmpi .sgt c1024_i32 c0_i32_16
  let v37 : BitVec 32 := Scalar.extui v36
  let c0_i32_17 : BitVec 32 := 0#32
  let v38 : BitVec 1 := Scalar.cmpi .slt c1024_i32 c0_i32_17
  let v39 : BitVec 32 := Scalar.extui v38
  let v40 : BitVec 32 := Scalar.subi v37 v39
  let v41 : BitVec 1 := Scalar.cmpi .ne v35 v40
  let v42 : BitVec 32 := Scalar.remsi v20 c1024_i32
  let c0_i32_18 : BitVec 32 := 0#32
  let v43 : BitVec 1 := Scalar.cmpi .ne v42 c0_i32_18
  let v44 : BitVec 1 := Scalar.andi v41 v43
  let v30 : BitVec 32 := Scalar.divsi v20 c1024_i32
  let c1_i32_19 : BitVec 32 := 1#32
  let v45 : BitVec 32 := Scalar.subi v30 c1_i32_19
  let v46 : BitVec 32 := Scalar.select v44 v45 v30
  let c1_i32_30 : BitVec 32 := 1#32
  let arg23 : BitVec 32 := Scf.iv v46 c1_i32_30 k0_t2
  let c8_i32 : BitVec 32 := 8#32
  let v74 : BitVec 32 := Scalar.muli arg23 c8_i32
  let v75 : BitVec 32 := v74
  let v76 : Index := Scalar.indexCast v75
  let c0_33 : Index := 0#32
  ![v76.toNat, 0]
@[reducible] def k0_t3_loop (i : grid0.Coords) (v17 : BitVec 32) (v23 : BitVec 32) : Scf.Loop 32 :=
  let c458752_i32 : BitVec 32 := 458752#32
  let c0_i32_9 : BitVec 32 := 0#32
  let arg0 : BitVec 32 := BitVec.ofNat 32 (i 0).val
  let c3584_i32 : BitVec 32 := 3584#32
  let v0 : BitVec 32 := Scalar.muli arg0 c3584_i32
  let c128_i32 : BitVec 32 := 128#32
  let v8 : BitVec 32 := Scalar.muli v0 c128_i32
  let v18 : BitVec 32 := Scalar.subi v17 v8
  let v19 : BitVec 32 := Scalar.maxsi c0_i32_9 v18
  let v20 : BitVec 32 := Scalar.minsi c458752_i32 v19
  let c0_i32_14 : BitVec 32 := 0#32
  let v31 : BitVec 1 := Scalar.cmpi .sgt v20 c0_i32_14
  let v32 : BitVec 32 := Scalar.extui v31
  let c0_i32_15 : BitVec 32 := 0#32
  let v33 : BitVec 1 := Scalar.cmpi .slt v20 c0_i32_15
  let v34 : BitVec 32 := Scalar.extui v33
  let v35 : BitVec 32 := Scalar.subi v32 v34
  let c1024_i32 : BitVec 32 := 1024#32
  let c0_i32_16 : BitVec 32 := 0#32
  let v36 : BitVec 1 := Scalar.cmpi .sgt c1024_i32 c0_i32_16
  let v37 : BitVec 32 := Scalar.extui v36
  let c0_i32_17 : BitVec 32 := 0#32
  let v38 : BitVec 1 := Scalar.cmpi .slt c1024_i32 c0_i32_17
  let v39 : BitVec 32 := Scalar.extui v38
  let v40 : BitVec 32 := Scalar.subi v37 v39
  let v41 : BitVec 1 := Scalar.cmpi .ne v35 v40
  let v42 : BitVec 32 := Scalar.remsi v20 c1024_i32
  let c0_i32_18 : BitVec 32 := 0#32
  let v43 : BitVec 1 := Scalar.cmpi .ne v42 c0_i32_18
  let v44 : BitVec 1 := Scalar.andi v41 v43
  let v30 : BitVec 32 := Scalar.divsi v20 c1024_i32
  let c1_i32_19 : BitVec 32 := 1#32
  let v45 : BitVec 32 := Scalar.subi v30 c1_i32_19
  let v46 : BitVec 32 := Scalar.select v44 v45 v30
  let c458752_i32_12 : BitVec 32 := 458752#32
  let c0_i32_11 : BitVec 32 := 0#32
  let v24 : BitVec 32 := Scalar.subi v23 v8
  let v25 : BitVec 32 := Scalar.maxsi c0_i32_11 v24
  let v26 : BitVec 32 := Scalar.minsi c458752_i32_12 v25
  let c1024_i32_20 : BitVec 32 := 1024#32
  let v47 : BitVec 32 := Scalar.addi v26 c1024_i32_20
  let c1_i32_21 : BitVec 32 := 1#32
  let v48 : BitVec 32 := Scalar.subi v47 c1_i32_21
  let c0_i32_23 : BitVec 32 := 0#32
  let v50 : BitVec 1 := Scalar.cmpi .sgt v48 c0_i32_23
  let v51 : BitVec 32 := Scalar.extui v50
  let c0_i32_24 : BitVec 32 := 0#32
  let v52 : BitVec 1 := Scalar.cmpi .slt v48 c0_i32_24
  let v53 : BitVec 32 := Scalar.extui v52
  let v54 : BitVec 32 := Scalar.subi v51 v53
  let c1024_i32_22 : BitVec 32 := 1024#32
  let c0_i32_25 : BitVec 32 := 0#32
  let v55 : BitVec 1 := Scalar.cmpi .sgt c1024_i32_22 c0_i32_25
  let v56 : BitVec 32 := Scalar.extui v55
  let c0_i32_26 : BitVec 32 := 0#32
  let v57 : BitVec 1 := Scalar.cmpi .slt c1024_i32_22 c0_i32_26
  let v58 : BitVec 32 := Scalar.extui v57
  let v59 : BitVec 32 := Scalar.subi v56 v58
  let v60 : BitVec 1 := Scalar.cmpi .ne v54 v59
  let v61 : BitVec 32 := Scalar.remsi v48 c1024_i32_22
  let c0_i32_27 : BitVec 32 := 0#32
  let v62 : BitVec 1 := Scalar.cmpi .ne v61 c0_i32_27
  let v63 : BitVec 1 := Scalar.andi v60 v62
  let v49 : BitVec 32 := Scalar.divsi v48 c1024_i32_22
  let c1_i32_28 : BitVec 32 := 1#32
  let v64 : BitVec 32 := Scalar.subi v49 c1_i32_28
  let v65 : BitVec 32 := Scalar.select v63 v64 v49
  let v66 : BitVec 32 := Scalar.subi v65 v46
  let c1_i32_29 : BitVec 32 := 1#32
  let v68 : BitVec 32 := Scalar.divsi v66 c1_i32_29
  let v69 : BitVec 32 := Scalar.muli v68 c1_i32_29
  let v70 : BitVec 32 := Scalar.addi v46 v69
  let v67 : BitVec 32 := Scalar.addi v46 v66
  let c1_i32_31 : BitVec 32 := 1#32
  ⟨v70, v67, c1_i32_31⟩
def k0_mult2 (i : grid0.Coords) (v17 : BitVec 32) (v23 : BitVec 32) (k0_t3 : Fin (k0_t3_loop i v17 v23).trips) : BitVec 32 :=
  let c458752_i32 : BitVec 32 := 458752#32
  let c0_i32_9 : BitVec 32 := 0#32
  let arg0 : BitVec 32 := BitVec.ofNat 32 (i 0).val
  let c3584_i32 : BitVec 32 := 3584#32
  let v0 : BitVec 32 := Scalar.muli arg0 c3584_i32
  let c128_i32 : BitVec 32 := 128#32
  let v8 : BitVec 32 := Scalar.muli v0 c128_i32
  let v18 : BitVec 32 := Scalar.subi v17 v8
  let v19 : BitVec 32 := Scalar.maxsi c0_i32_9 v18
  let v20 : BitVec 32 := Scalar.minsi c458752_i32 v19
  let c0_i32_14 : BitVec 32 := 0#32
  let v31 : BitVec 1 := Scalar.cmpi .sgt v20 c0_i32_14
  let v32 : BitVec 32 := Scalar.extui v31
  let c0_i32_15 : BitVec 32 := 0#32
  let v33 : BitVec 1 := Scalar.cmpi .slt v20 c0_i32_15
  let v34 : BitVec 32 := Scalar.extui v33
  let v35 : BitVec 32 := Scalar.subi v32 v34
  let c1024_i32 : BitVec 32 := 1024#32
  let c0_i32_16 : BitVec 32 := 0#32
  let v36 : BitVec 1 := Scalar.cmpi .sgt c1024_i32 c0_i32_16
  let v37 : BitVec 32 := Scalar.extui v36
  let c0_i32_17 : BitVec 32 := 0#32
  let v38 : BitVec 1 := Scalar.cmpi .slt c1024_i32 c0_i32_17
  let v39 : BitVec 32 := Scalar.extui v38
  let v40 : BitVec 32 := Scalar.subi v37 v39
  let v41 : BitVec 1 := Scalar.cmpi .ne v35 v40
  let v42 : BitVec 32 := Scalar.remsi v20 c1024_i32
  let c0_i32_18 : BitVec 32 := 0#32
  let v43 : BitVec 1 := Scalar.cmpi .ne v42 c0_i32_18
  let v44 : BitVec 1 := Scalar.andi v41 v43
  let v30 : BitVec 32 := Scalar.divsi v20 c1024_i32
  let c1_i32_19 : BitVec 32 := 1#32
  let v45 : BitVec 32 := Scalar.subi v30 c1_i32_19
  let v46 : BitVec 32 := Scalar.select v44 v45 v30
  let c458752_i32_12 : BitVec 32 := 458752#32
  let c0_i32_11 : BitVec 32 := 0#32
  let v24 : BitVec 32 := Scalar.subi v23 v8
  let v25 : BitVec 32 := Scalar.maxsi c0_i32_11 v24
  let v26 : BitVec 32 := Scalar.minsi c458752_i32_12 v25
  let c1024_i32_20 : BitVec 32 := 1024#32
  let v47 : BitVec 32 := Scalar.addi v26 c1024_i32_20
  let c1_i32_21 : BitVec 32 := 1#32
  let v48 : BitVec 32 := Scalar.subi v47 c1_i32_21
  let c0_i32_23 : BitVec 32 := 0#32
  let v50 : BitVec 1 := Scalar.cmpi .sgt v48 c0_i32_23
  let v51 : BitVec 32 := Scalar.extui v50
  let c0_i32_24 : BitVec 32 := 0#32
  let v52 : BitVec 1 := Scalar.cmpi .slt v48 c0_i32_24
  let v53 : BitVec 32 := Scalar.extui v52
  let v54 : BitVec 32 := Scalar.subi v51 v53
  let c1024_i32_22 : BitVec 32 := 1024#32
  let c0_i32_25 : BitVec 32 := 0#32
  let v55 : BitVec 1 := Scalar.cmpi .sgt c1024_i32_22 c0_i32_25
  let v56 : BitVec 32 := Scalar.extui v55
  let c0_i32_26 : BitVec 32 := 0#32
  let v57 : BitVec 1 := Scalar.cmpi .slt c1024_i32_22 c0_i32_26
  let v58 : BitVec 32 := Scalar.extui v57
  let v59 : BitVec 32 := Scalar.subi v56 v58
  let v60 : BitVec 1 := Scalar.cmpi .ne v54 v59
  let v61 : BitVec 32 := Scalar.remsi v48 c1024_i32_22
  let c0_i32_27 : BitVec 32 := 0#32
  let v62 : BitVec 1 := Scalar.cmpi .ne v61 c0_i32_27
  let v63 : BitVec 1 := Scalar.andi v60 v62
  let v49 : BitVec 32 := Scalar.divsi v48 c1024_i32_22
  let c1_i32_28 : BitVec 32 := 1#32
  let v64 : BitVec 32 := Scalar.subi v49 c1_i32_28
  let v65 : BitVec 32 := Scalar.select v63 v64 v49
  let v66 : BitVec 32 := Scalar.subi v65 v46
  let c1_i32_29 : BitVec 32 := 1#32
  let v68 : BitVec 32 := Scalar.divsi v66 c1_i32_29
  let v69 : BitVec 32 := Scalar.muli v68 c1_i32_29
  let v70 : BitVec 32 := Scalar.addi v46 v69
  let c1_i32_31 : BitVec 32 := 1#32
  let arg23 : BitVec 32 := Scf.iv v70 c1_i32_31 k0_t3
  let c8_i32 : BitVec 32 := 8#32
  let v74 : BitVec 32 := Scalar.muli arg23 c8_i32
  v74
def k0_off5 (i : grid0.Coords) (v17 : BitVec 32) (v23 : BitVec 32) (k0_t3 : Fin (k0_t3_loop i v17 v23).trips) : Fin 2 → Nat :=
  let c458752_i32 : BitVec 32 := 458752#32
  let c0_i32_9 : BitVec 32 := 0#32
  let arg0 : BitVec 32 := BitVec.ofNat 32 (i 0).val
  let c3584_i32 : BitVec 32 := 3584#32
  let v0 : BitVec 32 := Scalar.muli arg0 c3584_i32
  let c128_i32 : BitVec 32 := 128#32
  let v8 : BitVec 32 := Scalar.muli v0 c128_i32
  let v18 : BitVec 32 := Scalar.subi v17 v8
  let v19 : BitVec 32 := Scalar.maxsi c0_i32_9 v18
  let v20 : BitVec 32 := Scalar.minsi c458752_i32 v19
  let c0_i32_14 : BitVec 32 := 0#32
  let v31 : BitVec 1 := Scalar.cmpi .sgt v20 c0_i32_14
  let v32 : BitVec 32 := Scalar.extui v31
  let c0_i32_15 : BitVec 32 := 0#32
  let v33 : BitVec 1 := Scalar.cmpi .slt v20 c0_i32_15
  let v34 : BitVec 32 := Scalar.extui v33
  let v35 : BitVec 32 := Scalar.subi v32 v34
  let c1024_i32 : BitVec 32 := 1024#32
  let c0_i32_16 : BitVec 32 := 0#32
  let v36 : BitVec 1 := Scalar.cmpi .sgt c1024_i32 c0_i32_16
  let v37 : BitVec 32 := Scalar.extui v36
  let c0_i32_17 : BitVec 32 := 0#32
  let v38 : BitVec 1 := Scalar.cmpi .slt c1024_i32 c0_i32_17
  let v39 : BitVec 32 := Scalar.extui v38
  let v40 : BitVec 32 := Scalar.subi v37 v39
  let v41 : BitVec 1 := Scalar.cmpi .ne v35 v40
  let v42 : BitVec 32 := Scalar.remsi v20 c1024_i32
  let c0_i32_18 : BitVec 32 := 0#32
  let v43 : BitVec 1 := Scalar.cmpi .ne v42 c0_i32_18
  let v44 : BitVec 1 := Scalar.andi v41 v43
  let v30 : BitVec 32 := Scalar.divsi v20 c1024_i32
  let c1_i32_19 : BitVec 32 := 1#32
  let v45 : BitVec 32 := Scalar.subi v30 c1_i32_19
  let v46 : BitVec 32 := Scalar.select v44 v45 v30
  let c458752_i32_12 : BitVec 32 := 458752#32
  let c0_i32_11 : BitVec 32 := 0#32
  let v24 : BitVec 32 := Scalar.subi v23 v8
  let v25 : BitVec 32 := Scalar.maxsi c0_i32_11 v24
  let v26 : BitVec 32 := Scalar.minsi c458752_i32_12 v25
  let c1024_i32_20 : BitVec 32 := 1024#32
  let v47 : BitVec 32 := Scalar.addi v26 c1024_i32_20
  let c1_i32_21 : BitVec 32 := 1#32
  let v48 : BitVec 32 := Scalar.subi v47 c1_i32_21
  let c0_i32_23 : BitVec 32 := 0#32
  let v50 : BitVec 1 := Scalar.cmpi .sgt v48 c0_i32_23
  let v51 : BitVec 32 := Scalar.extui v50
  let c0_i32_24 : BitVec 32 := 0#32
  let v52 : BitVec 1 := Scalar.cmpi .slt v48 c0_i32_24
  let v53 : BitVec 32 := Scalar.extui v52
  let v54 : BitVec 32 := Scalar.subi v51 v53
  let c1024_i32_22 : BitVec 32 := 1024#32
  let c0_i32_25 : BitVec 32 := 0#32
  let v55 : BitVec 1 := Scalar.cmpi .sgt c1024_i32_22 c0_i32_25
  let v56 : BitVec 32 := Scalar.extui v55
  let c0_i32_26 : BitVec 32 := 0#32
  let v57 : BitVec 1 := Scalar.cmpi .slt c1024_i32_22 c0_i32_26
  let v58 : BitVec 32 := Scalar.extui v57
  let v59 : BitVec 32 := Scalar.subi v56 v58
  let v60 : BitVec 1 := Scalar.cmpi .ne v54 v59
  let v61 : BitVec 32 := Scalar.remsi v48 c1024_i32_22
  let c0_i32_27 : BitVec 32 := 0#32
  let v62 : BitVec 1 := Scalar.cmpi .ne v61 c0_i32_27
  let v63 : BitVec 1 := Scalar.andi v60 v62
  let v49 : BitVec 32 := Scalar.divsi v48 c1024_i32_22
  let c1_i32_28 : BitVec 32 := 1#32
  let v64 : BitVec 32 := Scalar.subi v49 c1_i32_28
  let v65 : BitVec 32 := Scalar.select v63 v64 v49
  let v66 : BitVec 32 := Scalar.subi v65 v46
  let c1_i32_29 : BitVec 32 := 1#32
  let v68 : BitVec 32 := Scalar.divsi v66 c1_i32_29
  let v69 : BitVec 32 := Scalar.muli v68 c1_i32_29
  let v70 : BitVec 32 := Scalar.addi v46 v69
  let c1_i32_31 : BitVec 32 := 1#32
  let arg23 : BitVec 32 := Scf.iv v70 c1_i32_31 k0_t3
  let c8_i32 : BitVec 32 := 8#32
  let v74 : BitVec 32 := Scalar.muli arg23 c8_i32
  let v75 : BitVec 32 := v74
  let v76 : Index := Scalar.indexCast v75
  let c0_33 : Index := 0#32
  ![v76.toNat, 0]

def k0_chk1 (i : grid0.Coords) (v17 : BitVec 32) (v23 : BitVec 32) : Prop :=
  ((k0_t2_loop i v17 v23).OK) ∧
  (∀ k0_t2 : Fin (k0_t2_loop i v17 v23).trips, 8 ∣ (k0_mult1 i v17 v23 k0_t2).toNat) ∧
  (∀ k0_t2 : Fin (k0_t2_loop i v17 v23).trips, ∀ a, (k0_off4 i v17 v23 k0_t2) a + S8x128.size a ≤ S3584x128.size a) ∧
  ((k0_t3_loop i v17 v23).OK) ∧
  (∀ k0_t3 : Fin (k0_t3_loop i v17 v23).trips, 8 ∣ (k0_mult2 i v17 v23 k0_t3).toNat) ∧
  (∀ k0_t3 : Fin (k0_t3_loop i v17 v23).trips, ∀ a, (k0_off5 i v17 v23 k0_t3) a + S8x128.size a ≤ S3584x128.size a)
theorem k0_t2_ok : ∀ (i : grid0.Coords) (v17 : BitVec 32) (v23 : BitVec 32) (k0_hw1 : k0_chk1 i v17 v23), (k0_t2_loop i v17 v23).OK := fun i v17 v23 k0_hw1 => k0_hw1.1
theorem k0_mult1_dvd : ∀ (i : grid0.Coords) (v17 : BitVec 32) (v23 : BitVec 32) (k0_hw1 : k0_chk1 i v17 v23) (k0_t2 : Fin (k0_t2_loop i v17 v23).trips), 8 ∣ (k0_mult1 i v17 v23 k0_t2).toNat := fun i v17 v23 k0_hw1 k0_t2 => k0_hw1.2.1 k0_t2
theorem k0_off4_inb : ∀ (i : grid0.Coords) (v17 : BitVec 32) (v23 : BitVec 32) (k0_hw1 : k0_chk1 i v17 v23) (k0_t2 : Fin (k0_t2_loop i v17 v23).trips), ∀ a, (k0_off4 i v17 v23 k0_t2) a + S8x128.size a ≤ S3584x128.size a := fun i v17 v23 k0_hw1 k0_t2 => k0_hw1.2.2.1 k0_t2
theorem k0_t3_ok : ∀ (i : grid0.Coords) (v17 : BitVec 32) (v23 : BitVec 32) (k0_hw1 : k0_chk1 i v17 v23), (k0_t3_loop i v17 v23).OK := fun i v17 v23 k0_hw1 => k0_hw1.2.2.2.1
theorem k0_mult2_dvd : ∀ (i : grid0.Coords) (v17 : BitVec 32) (v23 : BitVec 32) (k0_hw1 : k0_chk1 i v17 v23) (k0_t3 : Fin (k0_t3_loop i v17 v23).trips), 8 ∣ (k0_mult2 i v17 v23 k0_t3).toNat := fun i v17 v23 k0_hw1 k0_t3 => k0_hw1.2.2.2.2.1 k0_t3
theorem k0_off5_inb : ∀ (i : grid0.Coords) (v17 : BitVec 32) (v23 : BitVec 32) (k0_hw1 : k0_chk1 i v17 v23) (k0_t3 : Fin (k0_t3_loop i v17 v23).trips), ∀ a, (k0_off5 i v17 v23 k0_t3) a + S8x128.size a ≤ S3584x128.size a := fun i v17 v23 k0_hw1 k0_t3 => k0_hw1.2.2.2.2.2 k0_t3

@[reducible] def k0_t4_loop : Scf.Loop 32 :=
  let c0_i32_6 : BitVec 32 := 0#32
  let c56_i32 : BitVec 32 := 56#32
  let v15 : BitVec 32 := Scalar.addi c0_i32_6 c56_i32
  let c1_i32_7 : BitVec 32 := 1#32
  ⟨c0_i32_6, v15, c1_i32_7⟩
def k0_mult3 (k0_t4 : Fin k0_t4_loop.trips) : BitVec 32 :=
  let c0_i32_6 : BitVec 32 := 0#32
  let c1_i32_7 : BitVec 32 := 1#32
  let arg22 : BitVec 32 := Scf.iv c0_i32_6 c1_i32_7 k0_t4
  let c64_i32 : BitVec 32 := 64#32
  let v16 : BitVec 32 := Scalar.muli arg22 c64_i32
  v16
def k0_off6 (k0_t4 : Fin k0_t4_loop.trips) : Fin 2 → Nat :=
  let c0_i32_6 : BitVec 32 := 0#32
  let c1_i32_7 : BitVec 32 := 1#32
  let arg22 : BitVec 32 := Scf.iv c0_i32_6 c1_i32_7 k0_t4
  let c64_i32 : BitVec 32 := 64#32
  let v16 : BitVec 32 := Scalar.muli arg22 c64_i32
  let v17 : BitVec 32 := v16
  let v54 : Index := Scalar.indexCast v17
  let c0_21 : Index := 0#32
  ![v54.toNat, 0]
def k0_off7 (i : grid0.Coords) (k0_t4 : Fin k0_t4_loop.trips) (c0_i32_61 : BitVec 32) : Fin 1 → Nat :=
  let arg0 : BitVec 32 := BitVec.ofNat 32 (i 0).val
  let c3584_i32 : BitVec 32 := 3584#32
  let v0 : BitVec 32 := Scalar.muli arg0 c3584_i32
  let c0_i32_6 : BitVec 32 := 0#32
  let c1_i32_7 : BitVec 32 := 1#32
  let arg22 : BitVec 32 := Scf.iv c0_i32_6 c1_i32_7 k0_t4
  let c64_i32 : BitVec 32 := 64#32
  let v16 : BitVec 32 := Scalar.muli arg22 c64_i32
  let v17 : BitVec 32 := v16
  let v18 : BitVec 32 := Scalar.addi v0 v17
  let c0_i32_9 : BitVec 32 := 0#32
  let v20 : BitVec 1 := Scalar.cmpi .sgt v18 c0_i32_9
  let v21 : BitVec 32 := Scalar.extui v20
  let c0_i32_10 : BitVec 32 := 0#32
  let v22 : BitVec 1 := Scalar.cmpi .slt v18 c0_i32_10
  let v23 : BitVec 32 := Scalar.extui v22
  let v24 : BitVec 32 := Scalar.subi v21 v23
  let c16_i32 : BitVec 32 := 16#32
  let c0_i32_11 : BitVec 32 := 0#32
  let v25 : BitVec 1 := Scalar.cmpi .sgt c16_i32 c0_i32_11
  let v26 : BitVec 32 := Scalar.extui v25
  let c0_i32_12 : BitVec 32 := 0#32
  let v27 : BitVec 1 := Scalar.cmpi .slt c16_i32 c0_i32_12
  let v28 : BitVec 32 := Scalar.extui v27
  let v29 : BitVec 32 := Scalar.subi v26 v28
  let v30 : BitVec 1 := Scalar.cmpi .ne v24 v29
  let v31 : BitVec 32 := Scalar.remsi v18 c16_i32
  let c0_i32_13 : BitVec 32 := 0#32
  let v32 : BitVec 1 := Scalar.cmpi .ne v31 c0_i32_13
  let v33 : BitVec 1 := Scalar.andi v30 v32
  let v19 : BitVec 32 := Scalar.divsi v18 c16_i32
  let c1_i32_14 : BitVec 32 := 1#32
  let v34 : BitVec 32 := Scalar.subi v19 c1_i32_14
  let v35 : BitVec 32 := Scalar.select v33 v34 v19
  let v272 : BitVec 32 := Scalar.addi v35 c0_i32_61
  let v273 : Index := Scalar.indexCast v272
  ![v273.toNat]
def k0_off8 (i : grid0.Coords) (k0_t4 : Fin k0_t4_loop.trips) (c0_i32_68 : BitVec 32) : Fin 1 → Nat :=
  let arg0 : BitVec 32 := BitVec.ofNat 32 (i 0).val
  let c3584_i32 : BitVec 32 := 3584#32
  let v0 : BitVec 32 := Scalar.muli arg0 c3584_i32
  let c0_i32_6 : BitVec 32 := 0#32
  let c1_i32_7 : BitVec 32 := 1#32
  let arg22 : BitVec 32 := Scf.iv c0_i32_6 c1_i32_7 k0_t4
  let c64_i32 : BitVec 32 := 64#32
  let v16 : BitVec 32 := Scalar.muli arg22 c64_i32
  let v17 : BitVec 32 := v16
  let v36 : BitVec 32 := Scalar.addi v0 v17
  let c0_i32_15 : BitVec 32 := 0#32
  let v38 : BitVec 1 := Scalar.cmpi .sgt v36 c0_i32_15
  let v39 : BitVec 32 := Scalar.extui v38
  let c0_i32_16 : BitVec 32 := 0#32
  let v40 : BitVec 1 := Scalar.cmpi .slt v36 c0_i32_16
  let v41 : BitVec 32 := Scalar.extui v40
  let v42 : BitVec 32 := Scalar.subi v39 v41
  let c4_i32 : BitVec 32 := 4#32
  let c0_i32_17 : BitVec 32 := 0#32
  let v43 : BitVec 1 := Scalar.cmpi .sgt c4_i32 c0_i32_17
  let v44 : BitVec 32 := Scalar.extui v43
  let c0_i32_18 : BitVec 32 := 0#32
  let v45 : BitVec 1 := Scalar.cmpi .slt c4_i32 c0_i32_18
  let v46 : BitVec 32 := Scalar.extui v45
  let v47 : BitVec 32 := Scalar.subi v44 v46
  let v48 : BitVec 1 := Scalar.cmpi .ne v42 v47
  let v49 : BitVec 32 := Scalar.remsi v36 c4_i32
  let c0_i32_19 : BitVec 32 := 0#32
  let v50 : BitVec 1 := Scalar.cmpi .ne v49 c0_i32_19
  let v51 : BitVec 1 := Scalar.andi v48 v50
  let v37 : BitVec 32 := Scalar.divsi v36 c4_i32
  let c1_i32_20 : BitVec 32 := 1#32
  let v52 : BitVec 32 := Scalar.subi v37 c1_i32_20
  let v53 : BitVec 32 := Scalar.select v51 v52 v37
  let v312 : BitVec 32 := Scalar.addi v53 c0_i32_68
  let v313 : Index := Scalar.indexCast v312
  ![v313.toNat]
def k0_off9 (k0_t4 : Fin k0_t4_loop.trips) : Fin 2 → Nat :=
  let c0_i32_6 : BitVec 32 := 0#32
  let c1_i32_7 : BitVec 32 := 1#32
  let arg22 : BitVec 32 := Scf.iv c0_i32_6 c1_i32_7 k0_t4
  let c4_i32_97 : BitVec 32 := 4#32
  let v508 : BitVec 32 := Scalar.muli arg22 c4_i32_97
  let v510 : Index := Scalar.indexCast v508
  let c0_98 : Index := 0#32
  ![v510.toNat, 0]
@[reducible] def k0_t5_loop : Scf.Loop 32 :=
  let c0_i32_101 : BitVec 32 := 0#32
  let c255_i32 : BitVec 32 := 255#32
  let v518 : BitVec 32 := Scalar.addi c0_i32_101 c255_i32
  let c1_i32_102 : BitVec 32 := 1#32
  ⟨c0_i32_101, v518, c1_i32_102⟩
def k0_off10 (k0_t5 : Fin k0_t5_loop.trips) : Fin 1 → Nat :=
  let c0_i32_101 : BitVec 32 := 0#32
  let c1_i32_102 : BitVec 32 := 1#32
  let arg23 : BitVec 32 := Scf.iv c0_i32_101 c1_i32_102 k0_t5
  let v526 : Index := Scalar.indexCast arg23
  ![v526.toNat]
def k0_off11 (k0_t5 : Fin k0_t5_loop.trips) : Fin 1 → Nat :=
  let c0_i32_101 : BitVec 32 := 0#32
  let c1_i32_102 : BitVec 32 := 1#32
  let arg23 : BitVec 32 := Scf.iv c0_i32_101 c1_i32_102 k0_t5
  let c1_i32_106 : BitVec 32 := 1#32
  let v528 : BitVec 32 := Scalar.addi arg23 c1_i32_106
  let v529 : Index := Scalar.indexCast v528
  ![v529.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1568 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1568 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S6272 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3584x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3584x128 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3584x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3584x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3584x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3584x128 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3584x128 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S224x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S224x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S3211264 : Shape := ⟨1, ![3211264]⟩
abbrev S6272 : Shape := ⟨1, ![6272]⟩
abbrev S1568 : Shape := ⟨1, ![1568]⟩
abbrev S256 : Shape := ⟨1, ![256]⟩
abbrev S97 : Shape := ⟨1, ![97]⟩
abbrev S96 : Shape := ⟨1, ![96]⟩
abbrev S_ : Shape := ⟨0, ![]⟩
abbrev S1568x2048 : Shape := ⟨2, ![1568, 2048]⟩
abbrev S96x1x1 : Shape := ⟨3, ![96, 1, 1]⟩
abbrev S1x1568x2048 : Shape := ⟨3, ![1, 1568, 2048]⟩
abbrev S96x1568x2048 : Shape := ⟨3, ![96, 1568, 2048]⟩
abbrev S256x1x1 : Shape := ⟨3, ![256, 1, 1]⟩
abbrev S256x1568x2048 : Shape := ⟨3, ![256, 1568, 2048]⟩
abbrev S1568x1 : Shape := ⟨2, ![1568, 1]⟩
abbrev S1568x4x512 : Shape := ⟨3, ![1568, 4, 512]⟩
abbrev S1568x4 : Shape := ⟨2, ![1568, 4]⟩
abbrev S1568x4x1 : Shape := ⟨3, ![1568, 4, 1]⟩
abbrev S255 : Shape := ⟨1, ![255]⟩
abbrev S255x1x1 : Shape := ⟨3, ![255, 1, 1]⟩
abbrev S255x1568x2048 : Shape := ⟨3, ![255, 1568, 2048]⟩

abbrev nBuf : Space → Nat
  | .hbm => 168
  | .vmem => 2
  | .smem => 0
  | _ => 0

abbrev hbmTy0_0 (i : Nat) : BufTy := match i % 128 with
  | 0 => ⟨S3211264, .f32⟩
  | 1 => ⟨S3211264, .fp8e5m2⟩
  | 2 => ⟨S6272, .f32⟩
  | 3 => ⟨S3211264, .i8⟩
  | 4 => ⟨S1568, .f32⟩
  | 5 => ⟨S3211264, .i8⟩
  | 6 => ⟨S1568, .f32⟩
  | 7 => ⟨S256, .f32⟩
  | 8 => ⟨S256, .f32⟩
  | 9 => ⟨S97, .i32⟩
  | 10 => ⟨S96, .f32⟩
  | 11 => ⟨S_, .i32⟩
  | 12 => ⟨S3211264, .i32⟩
  | 13 => ⟨S1568x2048, .i32⟩
  | 14 => ⟨S96, .i32⟩
  | 15 => ⟨S96x1x1, .i32⟩
  | 16 => ⟨S96, .i32⟩
  | 17 => ⟨S96x1x1, .i32⟩
  | 18 => ⟨S1x1568x2048, .i32⟩
  | 19 => ⟨S96x1568x2048, .i32⟩
  | 20 => ⟨S96x1568x2048, .i32⟩
  | 21 => ⟨S96x1568x2048, .i1⟩
  | 22 => ⟨S1x1568x2048, .i32⟩
  | 23 => ⟨S96x1568x2048, .i32⟩
  | 24 => ⟨S96x1568x2048, .i32⟩
  | 25 => ⟨S96x1568x2048, .i1⟩
  | 26 => ⟨S96x1568x2048, .i1⟩
  | 27 => ⟨S96x1x1, .f32⟩
  | 28 => ⟨S_, .f32⟩
  | 29 => ⟨S96x1568x2048, .f32⟩
  | 30 => ⟨S96x1568x2048, .f32⟩
  | 31 => ⟨S96x1568x2048, .f32⟩
  | 32 => ⟨S_, .f32⟩
  | 33 => ⟨S1568x2048, .f32⟩
  | 34 => ⟨S_, .f32⟩
  | 35 => ⟨S1568x2048, .f32⟩
  | 36 => ⟨S1568x2048, .f32⟩
  | 37 => ⟨S3211264, .i32⟩
  | 38 => ⟨S1568x2048, .i32⟩
  | 39 => ⟨S256, .i32⟩
  | 40 => ⟨S1x1568x2048, .i32⟩
  | 41 => ⟨S256x1x1, .i32⟩
  | 42 => ⟨S256x1568x2048, .i32⟩
  | 43 => ⟨S256x1568x2048, .i32⟩
  | 44 => ⟨S256x1568x2048, .i1⟩
  | 45 => ⟨S256x1x1, .f32⟩
  | 46 => ⟨S_, .f32⟩
  | 47 => ⟨S256x1568x2048, .f32⟩
  | 48 => ⟨S256x1568x2048, .f32⟩
  | 49 => ⟨S256x1568x2048, .f32⟩
  | 50 => ⟨S_, .f32⟩
  | 51 => ⟨S1568x2048, .f32⟩
  | 52 => ⟨S1568x1, .f32⟩
  | 53 => ⟨S1568x2048, .f32⟩
  | 54 => ⟨S1568x2048, .f32⟩
  | 55 => ⟨S3211264, .i32⟩
  | 56 => ⟨S1568x2048, .i32⟩
  | 57 => ⟨S256, .i32⟩
  | 58 => ⟨S1x1568x2048, .i32⟩
  | 59 => ⟨S256x1x1, .i32⟩
  | 60 => ⟨S256x1568x2048, .i32⟩
  | 61 => ⟨S256x1568x2048, .i32⟩
  | 62 => ⟨S256x1568x2048, .i1⟩
  | 63 => ⟨S256x1x1, .f32⟩
  | 64 => ⟨S_, .f32⟩
  | 65 => ⟨S256x1568x2048, .f32⟩
  | 66 => ⟨S256x1568x2048, .f32⟩
  | 67 => ⟨S256x1568x2048, .f32⟩
  | 68 => ⟨S_, .f32⟩
  | 69 => ⟨S1568x2048, .f32⟩
  | 70 => ⟨S1568x1, .f32⟩
  | 71 => ⟨S1568x2048, .f32⟩
  | 72 => ⟨S1568x2048, .f32⟩
  | 73 => ⟨S3211264, .f32⟩
  | 74 => ⟨S1568x4x512, .f32⟩
  | 75 => ⟨S1568x4, .f32⟩
  | 76 => ⟨S1568x4x1, .f32⟩
  | 77 => ⟨S1568x4x512, .f32⟩
  | 78 => ⟨S1568x4x512, .f32⟩
  | 79 => ⟨S1568x2048, .f32⟩
  | 80 => ⟨S_, .f32⟩
  | 81 => ⟨S1568x2048, .f32⟩
  | 82 => ⟨S1568x2048, .f32⟩
  | 83 => ⟨S_, .f32⟩
  | 84 => ⟨S1568x2048, .f32⟩
  | 85 => ⟨S1568x2048, .f32⟩
  | 86 => ⟨S1568x2048, .f32⟩
  | 87 => ⟨S_, .f32⟩
  | 88 => ⟨S1568x2048, .f32⟩
  | 89 => ⟨S1568x2048, .f32⟩
  | 90 => ⟨S_, .f32⟩
  | 91 => ⟨S1568x2048, .f32⟩
  | 92 => ⟨S1568x2048, .f32⟩
  | 93 => ⟨S1568x2048, .f32⟩
  | 94 => ⟨S1568x2048, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S1568x2048, .f32⟩
  | 105 => ⟨S1568x2048, .f32⟩
  | 106 => ⟨S1568x2048, .f32⟩
  | 107 => ⟨S1568x2048, .f32⟩
  | 108 => ⟨S1568x2048, .f32⟩
  | 109 => ⟨S1568x2048, .f32⟩
  | 110 => ⟨S_, .f32⟩
  | 111 => ⟨S1568x2048, .f32⟩
  | 112 => ⟨S1568x2048, .f32⟩
  | 113 => ⟨S1568x2048, .f32⟩
  | 114 => ⟨S1568x2048, .f32⟩
  | 115 => ⟨S_, .f32⟩
  | 116 => ⟨S1568x2048, .f32⟩
  | 117 => ⟨S1568x2048, .f32⟩
  | 118 => ⟨S1568x2048, .f32⟩
  | 119 => ⟨S1568x2048, .f32⟩
  | 120 => ⟨S1568x2048, .f32⟩
  | 121 => ⟨S_, .f32⟩
  | 122 => ⟨S1568, .f32⟩
  | 123 => ⟨S1568x1, .f32⟩
  | 124 => ⟨S1568x2048, .f32⟩
  | 125 => ⟨S1568x2048, .f32⟩
  | 126 => ⟨S255, .f32⟩
  | 127 => ⟨S255, .f32⟩
  | _ => ⟨S3211264, .f32⟩

abbrev hbmTy0_1 (i : Nat) : BufTy := match i % 128 with
  | 0 => ⟨S255, .f32⟩
  | 1 => ⟨S_, .f32⟩
  | 2 => ⟨S255, .f32⟩
  | 3 => ⟨S255, .f32⟩
  | 4 => ⟨S255x1x1, .f32⟩
  | 5 => ⟨S1x1568x2048, .f32⟩
  | 6 => ⟨S255x1568x2048, .f32⟩
  | 7 => ⟨S255x1568x2048, .f32⟩
  | 8 => ⟨S255x1568x2048, .i1⟩
  | 9 => ⟨S255x1568x2048, .i32⟩
  | 10 => ⟨S_, .i32⟩
  | 11 => ⟨S1568x2048, .i32⟩
  | 12 => ⟨S1568x2048, .i8⟩
  | 13 => ⟨S1568x2048, .i8⟩
  | 14 => ⟨S1568, .f32⟩
  | 15 => ⟨S_, .f32⟩
  | 16 => ⟨S1568, .f32⟩
  | 17 => ⟨S1568x1, .f32⟩
  | 18 => ⟨S1568x2048, .f32⟩
  | 19 => ⟨S1568x2048, .f32⟩
  | 20 => ⟨S255, .f32⟩
  | 21 => ⟨S255, .f32⟩
  | 22 => ⟨S255, .f32⟩
  | 23 => ⟨S_, .f32⟩
  | 24 => ⟨S255, .f32⟩
  | 25 => ⟨S255, .f32⟩
  | 26 => ⟨S255x1x1, .f32⟩
  | 27 => ⟨S1x1568x2048, .f32⟩
  | 28 => ⟨S255x1568x2048, .f32⟩
  | 29 => ⟨S255x1568x2048, .f32⟩
  | 30 => ⟨S255x1568x2048, .i1⟩
  | 31 => ⟨S255x1568x2048, .i32⟩
  | 32 => ⟨S_, .i32⟩
  | 33 => ⟨S1568x2048, .i32⟩
  | 34 => ⟨S1568x2048, .i8⟩
  | 35 => ⟨S1568x2048, .i8⟩
  | 36 => ⟨S1568, .f32⟩
  | 37 => ⟨S3211264, .f32⟩
  | 38 => ⟨S3211264, .i8⟩
  | 39 => ⟨S3211264, .i8⟩
  | _ => ⟨S3211264, .f32⟩

abbrev hbmTy (i : Nat) : BufTy := match i / 128 with
  | 0 => hbmTy0_0 i
  | 1 => hbmTy0_1 i
  | _ => ⟨S3211264, .f32⟩

abbrev bufTy : (tb : Table) → Fin (tcTables nBuf tb) → BufTy
  | .hbm, ⟨i, _⟩ => hbmTy i
  | .local _ .vmem, ⟨0, _⟩ => ⟨S3211264, .fp8e5m2⟩
  | .local _ .vmem, ⟨1, _⟩ => ⟨S3211264, .f32⟩
  | _, _ => ⟨S3211264, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_call1_v0 : Ref sig .tc := ⟨.hbm, 47, rfl⟩
abbrev main_call1_v1 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_call2_v0 : Ref sig .tc := ⟨.hbm, 65, rfl⟩
abbrev main_call2_v1 : Ref sig .tc := ⟨.hbm, 66, rfl⟩
abbrev main_v43 : Ref sig .tc := ⟨.hbm, 67, rfl⟩
abbrev main_cst_5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_6 : Ref sig .tc := ⟨.hbm, 80, rfl⟩
abbrev main_v55 : Ref sig .tc := ⟨.hbm, 81, rfl⟩
abbrev main_v56 : Ref sig .tc := ⟨.hbm, 82, rfl⟩
abbrev main_cst_7 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_8 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_cst_11 : Ref sig .tc := ⟨.hbm, 98, rfl⟩
abbrev main_v68 : Ref sig .tc := ⟨.hbm, 99, rfl⟩
abbrev main_cst_12 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_15 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_17 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c : Ref sig .tc := ⟨.hbm, 138, rfl⟩
abbrev main_v101 : Ref sig .tc := ⟨.hbm, 139, rfl⟩
abbrev main_v102 : Ref sig .tc := ⟨.hbm, 140, rfl⟩
abbrev main_v103_0 : Ref sig .tc := ⟨.hbm, 141, rfl⟩
abbrev main_v103_1 : Ref sig .tc := ⟨.hbm, 142, rfl⟩
abbrev main_cst_18 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_19 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_c_20 : Ref sig .tc := ⟨.hbm, 160, rfl⟩
abbrev main_v119 : Ref sig .tc := ⟨.hbm, 161, rfl⟩
abbrev main_v120 : Ref sig .tc := ⟨.hbm, 162, rfl⟩
abbrev main_v121_0 : Ref sig .tc := ⟨.hbm, 163, rfl⟩
abbrev main_v121_1 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3211264 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3211264 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Words.lean ====
/- The words that place the kernel's accesses: a floor division as the kernel computes it, the rows that one tensor's
   learning rate covers inside a tile, and the check that those rows lie inside the scratch, for every pair of offsets. -/
module

public import proofs.«01_k».proof.Proof.Gen.Kernel
public import proofs.«01_k».proof.Proof.Gen.Kernel.Skeleton
public import Idealize.ShloMosaic.Lib.LoopRemainder
public import Idealize.ShloMosaic.Init

@[expose] public section

set_option maxRecDepth 16384

noncomputable section

namespace Cert.Proof.Kernel

open Cert.Kernel
open Idealize.ShloMosaic Idealize.ShloMosaic.TcCoe

/-- A floor division of a word by a positive word, as the kernel computes it: the truncated quotient, less one where the
    signs differ and the remainder is not zero. -/
def floorDiv (x c : BitVec 32) : BitVec 32 :=
  Scalar.select (Scalar.andi
    (Scalar.cmpi .ne (Scalar.subi (Scalar.extui (Scalar.cmpi .sgt x 0#32)) (Scalar.extui (Scalar.cmpi .slt x 0#32)))
      (Scalar.subi (Scalar.extui (Scalar.cmpi .sgt c 0#32)) (Scalar.extui (Scalar.cmpi .slt c 0#32))))
    (Scalar.cmpi .ne (Scalar.remsi x c) 0#32)) (Scalar.subi (Scalar.divsi x c) 1#32) (Scalar.divsi x c)

/-- Of a word that is not negative the floor division is the quotient. -/
theorem floorDiv_eq {x c : BitVec 32} {e d : Int} (hx : Affine.IsInt x e) (hc : Affine.IsInt c d) (h0 : 0 ≤ e) (hd : 0 < d) :
    Affine.IsInt (floorDiv x c) (e / d) := by
  have z : Affine.IsInt (0#32) 0 := Affine.ofNat 0 ⟨rfl, by decide⟩
  have hq := Affine.divsi hx hc ⟨rfl, h0, hd⟩
  have hr := Affine.remsi hx hc ⟨rfl, h0, hd⟩
  have c1 := Affine.extui_holds (Affine.sgt_holds hc z hd) rfl
  have c0 := Affine.extui_fails (Affine.slt_fails hc z (by omega)) rfl
  have cs := Affine.subi c1 c0 (e := 1) ⟨by omega, by omega, by omega⟩
  have x0 := Affine.extui_fails (Affine.slt_fails hx z (by omega)) rfl
  have o : Affine.IsInt (1#32) 1 := Affine.ofNat 1 ⟨rfl, by decide⟩
  have hq1 : Affine.IsInt (Scalar.subi (Scalar.divsi x c) 1#32) (e / d - 1) := by
    have hb := Affine.word_range (Scalar.divsi x c)
    have : (Scalar.divsi x c).toInt = e / d := by have h := hq; unfold Affine.IsInt at h; exact h
    have hn : 0 ≤ e / d := Int.ediv_nonneg h0 hd.le
    exact Affine.subi hq o ⟨rfl, by omega, by omega⟩
  unfold floorDiv
  by_cases hz : e = 0
  · refine Affine.select_fails (Affine.andi_fails_right trivial (Affine.ne_fails hr z (by rw [hz]; simp))) hq1 hq rfl
  · have x1 := Affine.extui_holds (Affine.sgt_holds hx z (by omega)) rfl
    have xs := Affine.subi x1 x0 (e := 1) ⟨by omega, by omega, by omega⟩
    exact Affine.select_fails (Affine.andi_fails_left (Affine.ne_fails xs cs rfl) trivial) hq1 hq rfl

theorem toInt_of_isInt {x : BitVec 32} {e : Int} (h : Affine.IsInt x e) : x.toInt = e := by
  unfold Affine.IsInt at h; exact h

/-- The word of the tile's first element. -/
def elem0 (i : grid0.Coords) : BitVec 32 := Scalar.muli (Scalar.muli (BitVec.ofNat 32 (i 0).val) 3584#32) 128#32

/-- An offset relative to the tile's first element, clipped to the tile. -/
def clipW (i : grid0.Coords) (v : BitVec 32) : BitVec 32 :=
  Scalar.minsi 458752#32 (Scalar.maxsi 0#32 (Scalar.subi v (elem0 i)))

/-- The clipped offset as an integer. -/
def clipI (i : grid0.Coords) (v : BitVec 32) : Int := (clipW i v).toInt

theorem clipI_range (i : grid0.Coords) (v : BitVec 32) : 0 ≤ clipI i v ∧ clipI i v ≤ 458752 := by
  have h1 : Affine.IsInt (458752#32) 458752 := Affine.ofNat 458752 ⟨rfl, by decide⟩
  have h0 : Affine.IsInt (0#32) 0 := Affine.ofNat 0 ⟨rfl, by decide⟩
  have := toInt_of_isInt (Affine.minsi h1 (Affine.maxsi h0 (Affine.word (Scalar.subi v (elem0 i))) rfl) rfl)
  unfold clipI clipW
  omega

theorem clipW_isInt (i : grid0.Coords) (v : BitVec 32) : Affine.IsInt (clipW i v) (clipI i v) := Affine.word _

/-- The first and the last-but-one piece of 1024 elements that a tensor's clipped range touches. -/
def firstW (i : grid0.Coords) (v17 : BitVec 32) : BitVec 32 := floorDiv (clipW i v17) 1024#32
def lastW (i : grid0.Coords) (v23 : BitVec 32) : BitVec 32 :=
  floorDiv (Scalar.subi (Scalar.addi (clipW i v23) 1024#32) 1#32) 1024#32

theorem firstW_isInt (i : grid0.Coords) (v : BitVec 32) : Affine.IsInt (firstW i v) (clipI i v / 1024) :=
  floorDiv_eq (clipW_isInt i v) (Affine.ofNat 1024 ⟨rfl, by decide⟩) (clipI_range i v).1 (by decide)

theorem lastW_isInt (i : grid0.Coords) (v : BitVec 32) : Affine.IsInt (lastW i v) ((clipI i v + 1023) / 1024) := by
  have h := clipI_range i v
  have h1 : Affine.IsInt (1024#32) 1024 := Affine.ofNat 1024 ⟨rfl, by decide⟩
  have o : Affine.IsInt (1#32) 1 := Affine.ofNat 1 ⟨rfl, by decide⟩
  have ha := Affine.addi (clipW_isInt i v) h1 ⟨rfl, by omega, by omega⟩
  have hs := Affine.subi ha o (e := clipI i v + 1023) ⟨by omega, by omega, by omega⟩
  exact floorDiv_eq hs h1 (by omega) (by decide)

theorem t2_loop_eq (i : grid0.Coords) (v17 v23 : BitVec 32) :
    k0_t2_loop i v17 v23 = ⟨firstW i v17, Scalar.addi (firstW i v17)
      (Scalar.muli (Scalar.divsi (Scalar.subi (lastW i v23) (firstW i v17)) 1#32) 1#32), 1#32⟩ := rfl

theorem t3_loop_eq (i : grid0.Coords) (v17 v23 : BitVec 32) :
    k0_t3_loop i v17 v23 = ⟨Scalar.addi (firstW i v17)
      (Scalar.muli (Scalar.divsi (Scalar.subi (lastW i v23) (firstW i v17)) 1#32) 1#32),
      Scalar.addi (firstW i v17) (Scalar.subi (lastW i v23) (firstW i v17)), 1#32⟩ := rfl

/-- The loop over the pieces of a tensor's range runs from the first piece to the last. -/
theorem t2_ub (i : grid0.Coords) (v17 v23 : BitVec 32) :
    Affine.IsInt (k0_t2_loop i v17 v23).ub ((clipI i v23 + 1023) / 1024) := by
  have h := clipI_range i v17
  have h' := clipI_range i v23
  have hs := Affine.subi (lastW_isInt i v23) (firstW_isInt i v17) ⟨rfl, by omega, by omega⟩
  rw [t2_loop_eq]
  show Affine.IsInt (Scalar.addi _ (Scalar.muli (Scalar.divsi _ 1#32) 1#32)) _
  rw [Scalar.muli_divsi_one]
  exact Affine.addi (firstW_isInt i v17) hs ⟨by omega, by omega, by omega⟩

theorem t2_trips (i : grid0.Coords) (v17 v23 : BitVec 32) :
    (k0_t2_loop i v17 v23).trips = ((clipI i v23 + 1023) / 1024 - clipI i v17 / 1024).toNat := by
  show Scf.trips (k0_t2_loop i v17 v23).lb (k0_t2_loop i v17 v23).ub (k0_t2_loop i v17 v23).st = _
  unfold Scf.trips
  have h1 : (k0_t2_loop i v17 v23).st.toInt = 1 := (by decide : (1#32).toInt = 1)
  have h2 : (k0_t2_loop i v17 v23).lb.toInt = clipI i v17 / 1024 := toInt_of_isInt (firstW_isInt i v17)
  rw [h1, toInt_of_isInt (t2_ub i v17 v23), h2]
  omega

/-- The piece that trip `k` covers. -/
def pieceI (i : grid0.Coords) (v17 : BitVec 32) (k : ℕ) : ℕ := (clipI i v17 / 1024).toNat + k

theorem pieceI_lt (i : grid0.Coords) (v17 v23 : BitVec 32) (k : Fin (k0_t2_loop i v17 v23).trips) :
    pieceI i v17 k.val < 448 := by
  have hk := k.isLt
  have ht := t2_trips i v17 v23
  have h := clipI_range i v17
  have h' := clipI_range i v23
  unfold pieceI
  omega

theorem iv_isInt (i : grid0.Coords) (v17 v23 : BitVec 32) (k : Fin (k0_t2_loop i v17 v23).trips) :
    Affine.IsInt (Scf.iv (firstW i v17) 1#32 k) (pieceI i v17 k.val) := by
  have hk := pieceI_lt i v17 v23 k
  have h := clipI_range i v17
  have o : Affine.IsInt (1#32) 1 := Affine.ofNat 1 ⟨rfl, by decide⟩
  unfold pieceI at hk ⊢
  exact Affine.iv (firstW_isInt i v17) o k.val ⟨by push_cast; omega, by push_cast; omega, by push_cast; omega⟩

theorem mult1_isInt (i : grid0.Coords) (v17 v23 : BitVec 32) (k : Fin (k0_t2_loop i v17 v23).trips) :
    Affine.IsInt (k0_mult1 i v17 v23 k) (8 * pieceI i v17 k.val) := by
  have hk := pieceI_lt i v17 v23 k
  have e : Affine.IsInt (8#32) 8 := Affine.ofNat 8 ⟨rfl, by decide⟩
  exact Affine.muli (iv_isInt i v17 v23 k) e ⟨by omega, by omega, by omega⟩

theorem toNat_of_isInt {x : BitVec 32} {n : ℕ} (h : Affine.IsInt x n) : x.toNat = n := by
  have h' := toInt_of_isInt h
  have hc := BitVec.toInt_eq_toNat_cond x
  have hl := x.isLt
  split at hc <;> omega

theorem mult1_toNat (i : grid0.Coords) (v17 v23 : BitVec 32) (k : Fin (k0_t2_loop i v17 v23).trips) :
    (k0_mult1 i v17 v23 k).toNat = 8 * pieceI i v17 k.val :=
  toNat_of_isInt (by have := mult1_isInt i v17 v23 k; push_cast; exact this)

theorem off4_eq (i : grid0.Coords) (v17 v23 : BitVec 32) (k : Fin (k0_t2_loop i v17 v23).trips) :
    k0_off4 i v17 v23 k = ![8 * pieceI i v17 k.val, 0] := by
  rw [← mult1_toNat]; rfl

/-- The kernel's check of a tensor's two offsets holds whatever the offsets are. -/
theorem chk1 (i : grid0.Coords) (v17 v23 : BitVec 32) : k0_chk1 i v17 v23 := by
  refine ⟨?_, fun k => ?_, fun k a => ?_, ?_, fun k => ?_, fun k => ?_⟩
  · have h := clipI_range i v17
    have h' := clipI_range i v23
    have ht := t2_trips i v17 v23
    refine ⟨(by decide : (0:Int) < (1#32).toInt), ?_⟩
    have h1 : (k0_t2_loop i v17 v23).st.toInt = 1 := (by decide : (1#32).toInt = 1)
    have h2 : (k0_t2_loop i v17 v23).lb.toInt = clipI i v17 / 1024 := toInt_of_isInt (firstW_isInt i v17)
    have ht' : Scf.trips (k0_t2_loop i v17 v23).lb (k0_t2_loop i v17 v23).ub (k0_t2_loop i v17 v23).st
      = ((clipI i v23 + 1023) / 1024 - clipI i v17 / 1024).toNat := ht
    rw [ht', h1, h2]
    have hp : (2:Int) ^ (32 - 1) = 2147483648 := by decide
    rw [hp]
    omega
  · rw [mult1_toNat]; exact Dvd.intro _ rfl
  · have hk := pieceI_lt i v17 v23 k
    rw [off4_eq]
    fin_cases a
    · show 8 * pieceI i v17 k.val + 8 ≤ 3584
      omega
    · show 0 + 128 ≤ 128
      omega
  · rw [t3_loop_eq]; exact Scf.rem_ok _ _
  · exact (Scf.rem_no_trip _ _ k).elim
  · exact (Scf.rem_no_trip _ _ k).elim

theorem off6_eq : ∀ k : Fin k0_t4_loop.trips, k0_off6 k = ![64 * k.val, 0] := by decide +kernel
theorem off9_eq : ∀ k : Fin k0_t4_loop.trips, k0_off9 k = ![4 * k.val, 0] := by decide +kernel
theorem t4_trips : k0_t4_loop.trips = 56 := by decide +kernel
theorem t1_trips : k0_t1_loop.trips = 96 := by decide +kernel
theorem t5_trips : k0_t5_loop.trips = 255 := by decide +kernel

end Cert.Proof.Kernel

end
-- ==== Proof.Kernel.Chunk.lean ====
/- What one trip of the kernel's chunk loop computes from the sixty-four rows it reads: the dequantised moments, the
   updated moments, the update, the per-block maxima and the requantised codes, as compositions of the kernel's own
   payloads; and the triple of one trip. -/
module

public import proofs.«01_k».proof.Proof.Kernel.Words
public import proofs.«01_k».proof.Proof.Gen.Kernel.Loops
public import proofs.«01_k».proof.Proof.Gen.Kernel.Launch
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The chunk's sixty-four rows of a block. -/
def rows64 {e} (x : Vec F S3584x128 e) (k : Fin k0_t4_loop.trips) : Vec F S64x128 e :=
  View.ld x (Rect.unit (k0_off6 k) S64x128.size (k0_off6_inb k))
/-- A row of a 256-entry table laid out as two rows of 128. -/
def row0 (x : Vec F S2x128 .f32) : Vec F S1x128 .f32 := View.ld x (Rect.unit ![0, 0] S1x128.size inb_S2x128_S1x128_0_0)
def row1 (x : Vec F S2x128 .f32) : Vec F S1x128 .f32 := View.ld x (Rect.unit ![1, 0] S1x128.size inb_S2x128_S1x128_1_0)
/-- The chunk's `r`-th moment scale, and its `r`-th gradient scale. -/
def s7 (x : Vec F S1568 .f32) (i : grid0.Coords) (k : Fin k0_t4_loop.trips) (r : Fin 4) : Elt F .f32 :=
  View.ld x (Rect.unit (k0_off7 i k (BitVec.ofNat 32 r.val)) S1.size (k0_off7_inb i k r)) (Shape.Idx.first (s := S1) (by rw [show S1.numel = 1 from numel1_S1]; exact Nat.one_pos))
def s8 (x : Vec F S6272 .f32) (i : grid0.Coords) (k : Fin k0_t4_loop.trips) (r : Fin 16) : Elt F .f32 :=
  View.ld x (Rect.unit (k0_off8 i k (BitVec.ofNat 32 r.val)) S1.size (k0_off8_inb i k r)) (Shape.Idx.first (s := S1) (by rw [show S1.numel = 1 from numel1_S1]; exact Nat.one_pos))
/-- Entry `k` of a quantisation map, and entry `k + 1`. -/
def q10 (x : Vec F S256 .f32) (k : Fin k0_t5_loop.trips) : Elt F .f32 :=
  View.ld x (Rect.unit (k0_off10 k) S1.size (k0_off10_inb k)) (Shape.Idx.first (s := S1) (by rw [show S1.numel = 1 from numel1_S1]; exact Nat.one_pos))
def q11 (x : Vec F S256 .f32) (k : Fin k0_t5_loop.trips) : Elt F .f32 :=
  View.ld x (Rect.unit (k0_off11 k) S1.size (k0_off11_inb k)) (Shape.Idx.first (s := S1) (by rw [show S1.numel = 1 from numel1_S1]; exact Nat.one_pos))
/-- One of the two rows of powers kept in scratch. -/
def bc0 (x : Vec F S2x8x128 .f32) : Vec F S1x8x128 .f32 := View.ld x (Rect.unit ![0, 0, 0] S1x8x128.size inb_S2x8x128_S1x8x128_0_0_0)
def bc1 (x : Vec F S2x8x128 .f32) : Vec F S1x8x128 .f32 := View.ld x (Rect.unit ![1, 0, 0] S1x8x128.size inb_S2x8x128_S1x8x128_1_0_0)

/-- The first moment's codes looked up in its table. -/
def lookM (v55 : Vec F S64x128 .i8) (v58 v62 : Vec F S1x128 .f32) : FVec F S64x128 .f32 :=
  k0_pay96 (k0_pay79 v58) (k0_pay81 (k0_pay78 v55) v58 v62) (k0_pay82 (k0_pay78 v55) v58 v62) (k0_pay83 (k0_pay78 v55) v58 v62)
    (k0_pay87 (k0_pay79 v58) (k0_pay80 v62) (k0_pay85 (k0_pay78 v55)) (k0_pay86 (k0_pay78 v55)))
    (k0_pay88 (k0_pay78 v55) (k0_pay79 v58) (k0_pay80 v62)) (k0_pay89 (k0_pay78 v55) (k0_pay79 v58) (k0_pay80 v62))
    (k0_pay90 (k0_pay78 v55) (k0_pay79 v58) (k0_pay80 v62)) (k0_pay93 (k0_pay78 v55)) (k0_pay94 (k0_pay78 v55) (k0_pay80 v62))
    (k0_pay95 (k0_pay78 v55))
/-- The old first moment. -/
def mOld (v55 : Vec F S64x128 .i8) (v58 v62 : Vec F S1x128 .f32) (s : Fin 4 → Elt F .f32) : FVec F S64x128 .f32 :=
  k0_pay113 (lookM v55 v58 v62) (s 0) (s 1) (s 2) (s 3)
/-- The old second moment. -/
def vOld (v164 : Vec F S64x128 .i8) (v167 v171 : Vec F S1x128 .f32) (s : Fin 4 → Elt F .f32) : FVec F S64x128 .f32 :=
  k0_pay114 (k0_pay98 v167) (k0_pay99 v171) (k0_pay100 v164 v167 v171) (k0_pay101 v164 v167 v171)
    (k0_pay107 (k0_pay98 v167) (k0_pay104 v164) (k0_pay105 v164 v171) (k0_pay106 v164))
    (k0_pay108 (k0_pay97 v164) (k0_pay98 v167) (k0_pay99 v171)) (k0_pay109 (k0_pay97 v164) (k0_pay98 v167) (k0_pay99 v171))
    (k0_pay110 (k0_pay97 v164) (k0_pay98 v167) (k0_pay99 v171)) (k0_pay111 (k0_pay97 v164) (k0_pay98 v167) (k0_pay99 v171))
    (k0_pay112 (k0_pay97 v164)) (s 0) (s 1) (s 2) (s 3)
/-- The updated first moment. -/
def mNew (m : FVec F S64x128 .f32) (v309 : Vec F S64x128 .fp8e5m2) (g : Fin 16 → Elt F .f32) : FVec F S64x128 .f32 :=
  k0_pay128 m (k0_pay115 v309) (k0_pay116 (g 0)) (k0_pay117 (g 1)) (k0_pay118 (g 2)) (k0_pay119 (g 3)) (k0_pay120 (g 4)) (k0_pay121 (g 5))
    (k0_pay122 (g 6)) (k0_pay123 (g 7)) (k0_pay124 (g 8)) (k0_pay125 (g 9)) (k0_pay126 (g 10)) (g 11) (g 12) (g 13) (g 14) (g 15)
/-- The updated second moment. -/
def vNew (v : FVec F S64x128 .f32) (v309 : Vec F S64x128 .fp8e5m2) (g : Fin 16 → Elt F .f32) : FVec F S64x128 .f32 :=
  k0_pay129 v (k0_pay115 v309) (k0_pay116 (g 0)) (k0_pay117 (g 1)) (k0_pay118 (g 2)) (k0_pay119 (g 3)) (k0_pay120 (g 4)) (k0_pay121 (g 5))
    (k0_pay122 (g 6)) (k0_pay123 (g 7)) (k0_pay124 (g 8)) (k0_pay125 (g 9)) (k0_pay126 (g 10)) (g 11) (g 12) (g 13) (g 14) (g 15)
/-- The two moments over their correction. -/
def mHat (m : FVec F S64x128 .f32) (v309 : Vec F S64x128 .fp8e5m2) (g : Fin 16 → Elt F .f32) (b : Vec F S1x8x128 .f32) : FVec F S64x128 .f32 :=
  k0_pay130 m (k0_pay115 v309) (k0_pay116 (g 0)) (k0_pay117 (g 1)) (k0_pay118 (g 2)) (k0_pay119 (g 3)) (k0_pay120 (g 4)) (k0_pay121 (g 5))
    (k0_pay122 (g 6)) (k0_pay123 (g 7)) (k0_pay124 (g 8)) (k0_pay125 (g 9)) (k0_pay126 (g 10)) (g 11) (g 12) (g 13) (g 14) (g 15) b
def vHat (v : FVec F S64x128 .f32) (v309 : Vec F S64x128 .fp8e5m2) (g : Fin 16 → Elt F .f32) (b : Vec F S1x8x128 .f32) : FVec F S64x128 .f32 :=
  k0_pay131 v (k0_pay115 v309) (k0_pay116 (g 0)) (k0_pay117 (g 1)) (k0_pay118 (g 2)) (k0_pay119 (g 3)) (k0_pay120 (g 4)) (k0_pay121 (g 5))
    (k0_pay122 (g 6)) (k0_pay123 (g 7)) (k0_pay124 (g 8)) (k0_pay125 (g 9)) (k0_pay126 (g 10)) (g 11) (g 12) (g 13) (g 14) (g 15) b

/-- The requantised codes' counts after `n` comparisons, of the first moment and of the second. -/
def cntM (mn : FVec F S64x128 .f32) (q : Vec F S256 .f32) : ℕ → IVec S64x128 32
  | 0 => k0_pay8
  | n + 1 => if h : n < k0_t5_loop.trips then
      k0_pay9 (k0_pay137 mn) (k0_pay143 mn (k0_pay139 mn)) (k0_pay149 mn) (k0_pay155 mn) (cntM mn q n) (q10 q ⟨n, h⟩) (q11 q ⟨n, h⟩)
    else cntM mn q n
def cntV (vn : FVec F S64x128 .f32) (q : Vec F S256 .f32) : ℕ → IVec S64x128 32
  | 0 => k0_pay8
  | n + 1 => if h : n < k0_t5_loop.trips then
      k0_pay10 (k0_pay138 vn) (k0_pay144 vn (k0_pay140 vn)) (k0_pay150 vn) (k0_pay156 vn) (cntV vn q n) (q10 q ⟨n, h⟩) (q11 q ⟨n, h⟩)
    else cntV vn q n

theorem cntM_succ (mn : FVec F S64x128 .f32) (q : Vec F S256 .f32) (n : ℕ) (h : n < k0_t5_loop.trips) : cntM mn q (n + 1)
    = k0_pay9 (k0_pay137 mn) (k0_pay143 mn (k0_pay139 mn)) (k0_pay149 mn) (k0_pay155 mn) (cntM mn q n) (q10 q ⟨n, h⟩) (q11 q ⟨n, h⟩) :=
  dif_pos h
theorem cntV_succ (vn : FVec F S64x128 .f32) (q : Vec F S256 .f32) (n : ℕ) (h : n < k0_t5_loop.trips) : cntV vn q (n + 1)
    = k0_pay10 (k0_pay138 vn) (k0_pay144 vn (k0_pay140 vn)) (k0_pay150 vn) (k0_pay156 vn) (cntV vn q n) (q10 q ⟨n, h⟩) (q11 q ⟨n, h⟩) :=
  dif_pos h

/-- The chunk's updated moments from the blocks of a tile. -/
def cM (i : grid0.Coords) (k : Fin k0_t4_loop.trips) (x3 : Vec F S1568 .f32) (x5 : Vec F S6272 .f32) (x10 : Vec F S3584x128 .fp8e5m2)
    (x11 : Vec F S3584x128 .i8) (x13 : Vec F S2x128 .f32) : FVec F S64x128 .f32 :=
  mNew (mOld (rows64 x11 k) (row0 x13) (row1 x13) (s7 x3 i k)) (rows64 x10 k) (s8 x5 i k)
def cV (i : grid0.Coords) (k : Fin k0_t4_loop.trips) (x4 : Vec F S1568 .f32) (x5 : Vec F S6272 .f32) (x10 : Vec F S3584x128 .fp8e5m2)
    (x12 : Vec F S3584x128 .i8) (x14 : Vec F S2x128 .f32) : FVec F S64x128 .f32 :=
  vNew (vOld (rows64 x12 k) (row0 x14) (row1 x14) (s7 x4 i k)) (rows64 x10 k) (s8 x5 i k)
/-- The chunk's update. -/
def cU (i : grid0.Coords) (k : Fin k0_t4_loop.trips) (x3 x4 : Vec F S1568 .f32) (x5 : Vec F S6272 .f32) (x9 : Vec F S3584x128 .f32)
    (x10 : Vec F S3584x128 .fp8e5m2) (x11 x12 : Vec F S3584x128 .i8) (x13 x14 : Vec F S2x128 .f32) (x20 : Vec F S3584x128 .f32)
    (x21 : Vec F S2x8x128 .f32) : FVec F S64x128 .f32 :=
  k0_pay132 (mHat (mOld (rows64 x11 k) (row0 x13) (row1 x13) (s7 x3 i k)) (rows64 x10 k) (s8 x5 i k) (bc0 x21))
    (vHat (vOld (rows64 x12 k) (row0 x14) (row1 x14) (s7 x4 i k)) (rows64 x10 k) (s8 x5 i k) (bc1 x21))
    (rows64 x20 k) (Scalar.ofBits .f32 0x00000000#32) (rows64 x9 k)
/-- The chunk's four rows of block maxima, of each moment. -/
def amM (mn : FVec F S64x128 .f32) : FVec F S4x128 .f32 :=
  k0_pay6 (k0_pay135 mn) (k0_pay141 (k0_pay139 mn)) (k0_pay147 mn) (k0_pay153 mn)
def amV (vn : FVec F S64x128 .f32) : FVec F S4x128 .f32 :=
  k0_pay7 (k0_pay136 vn) (k0_pay142 (k0_pay140 vn)) (k0_pay148 vn) (k0_pay154 vn)
/-- The chunk's codes, of each moment. -/
def codM (mn : FVec F S64x128 .f32) (q : Vec F S256 .f32) : Vec F S64x128 .i8 := k0_pay11 (cntM mn q k0_t5_loop.trips)
def codV (vn : FVec F S64x128 .f32) (q : Vec F S256 .f32) : Vec F S64x128 .i8 := k0_pay12 (cntV vn q k0_t5_loop.trips)

/-- The comparison loop carries the two counts. -/
theorem st5_eq (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (mn vn : FVec F S64x128 .f32)
    (f7 : BufTy.Contents (Elt F) arg7.view.ty) (f8 : BufTy.Contents (Elt F) arg8.view.ty) (n : ℕ) :
    st_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay137 mn) (k0_pay138 vn) (k0_pay143 mn (k0_pay139 mn)) (k0_pay144 vn (k0_pay140 vn))
      (k0_pay149 mn) (k0_pay150 vn) (k0_pay155 mn) (k0_pay156 vn) f7 f8 (k0_pay8, k0_pay8) n
    = (cntM mn (arg7.view.read (Elt F) f7) n, cntV vn (arg8.view.read (Elt F) f8) n) := by
  induction n with
  | zero => rfl
  | succ n ih =>
    rw [st_k0_t5.eq_2, ih]
    unfold st_k0_t5Step
    by_cases h : n < k0_t5_loop.trips
    · rw [dif_pos h, cntM_succ _ _ n h, cntV_succ _ _ n h]
      unfold tripR_k0_t5 trip_k0_t5
      rfl
    · rw [dif_neg h, show cntM mn (arg7.view.read (Elt F) f7) (n + 1) = _ from dif_neg h, show cntV vn (arg8.view.read (Elt F) f8) (n + 1) = _ from dif_neg h]

/-- A buffer's cells, whole. -/
abbrev own (c : Dev nD) {sp} {s} {e} (x : Memref sig .tc sp s e) (f : BufTy.Contents (Elt F) x.view.ty) : sProp (MT nD τ sig Unit (Elt F) ℕ (UR sig nD τ) ℕ) :=
  iprop(x.view.loc (c : Thread nD τ) ↦[x.view.set]{fullShare} f)

set_option maxHeartbeats 4000000 in
theorem trip_t4 (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (v0 : BitVec 32) (k : Fin k0_t4_loop.trips)
   (f3 : BufTy.Contents (Elt F) arg3.view.ty) (f4 : BufTy.Contents (Elt F) arg4.view.ty) (f5 : BufTy.Contents (Elt F) arg5.view.ty) (f7 : BufTy.Contents (Elt F) arg7.view.ty) (f8 : BufTy.Contents (Elt F) arg8.view.ty)
   (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)
   (f20 : BufTy.Contents (Elt F) arg20.view.ty) (f21 : BufTy.Contents (Elt F) arg21.view.ty)
   (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (E : Set ℕ) :
   iprop(own c arg3 f3 ∗ own c arg4 f4 ∗ own c arg5 f5 ∗ own c arg7 f7 ∗ own c arg8 f8 ∗ own c arg9 f9 ∗ own c arg10 f10 ∗ own c arg11 f11 ∗ own c arg12 f12 ∗ own c arg13 f13 ∗ own c arg14 f14 ∗ own c arg20 f20 ∗ own c arg21 f21
     ∗ own c arg15 f15 ∗ own c arg16 f16 ∗ own c arg17 f17 ∗ own c arg18 f18 ∗ own c arg19 f19)
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 k ())
          (fun _ => iprop(own c arg3 f3 ∗ own c arg4 f4 ∗ own c arg5 f5 ∗ own c arg7 f7 ∗ own c arg8 f8 ∗ own c arg9 f9 ∗ own c arg10 f10 ∗ own c arg11 f11 ∗ own c arg12 f12 ∗ own c arg13 f13 ∗ own c arg14 f14 ∗ own c arg20 f20 ∗ own c arg21 f21
     ∗ own c arg15 (arg15.view.writes (Elt F) f15 [⟨Rect.unit (k0_off6 k) S64x128.size (k0_off6_inb k), cU i k (arg3.view.read (Elt F) f3) (arg4.view.read (Elt F) f4) (arg5.view.read (Elt F) f5) (arg9.view.read (Elt F) f9) (arg10.view.read (Elt F) f10) (arg11.view.read (Elt F) f11) (arg12.view.read (Elt F) f12) (arg13.view.read (Elt F) f13) (arg14.view.read (Elt F) f14) (arg20.view.read (Elt F) f20) (arg21.view.read (Elt F) f21)⟩])
     ∗ own c arg16 (arg16.view.writes (Elt F) f16 [⟨Rect.unit (k0_off6 k) S64x128.size (k0_off6_inb k), codM (cM i k (arg3.view.read (Elt F) f3) (arg5.view.read (Elt F) f5) (arg10.view.read (Elt F) f10) (arg11.view.read (Elt F) f11) (arg13.view.read (Elt F) f13)) (arg7.view.read (Elt F) f7)⟩])
     ∗ own c arg17 (arg17.view.writes (Elt F) f17 [⟨Rect.unit (k0_off6 k) S64x128.size (k0_off6_inb k), codV (cV i k (arg4.view.read (Elt F) f4) (arg5.view.read (Elt F) f5) (arg10.view.read (Elt F) f10) (arg12.view.read (Elt F) f12) (arg14.view.read (Elt F) f14)) (arg8.view.read (Elt F) f8)⟩])
     ∗ own c arg18 (arg18.view.writes (Elt F) f18 [⟨Rect.unit (k0_off9 k) S4x128.size (k0_off9_inb k), amM (cM i k (arg3.view.read (Elt F) f3) (arg5.view.read (Elt F) f5) (arg10.view.read (Elt F) f10) (arg11.view.read (Elt F) f11) (arg13.view.read (Elt F) f13))⟩])
     ∗ own c arg19 (arg19.view.writes (Elt F) f19 [⟨Rect.unit (k0_off9 k) S4x128.size (k0_off9_inb k), amV (cV i k (arg4.view.read (Elt F) f4) (arg5.view.read (Elt F) f5) (arg10.view.read (Elt F) f10) (arg12.view.read (Elt F) f12) (arg14.view.read (Elt F) f14))⟩]))) := by
    have e5 := st5_eq (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (cM i k (arg3.view.read (Elt F) f3) (arg5.view.read (Elt F) f5) (arg10.view.read (Elt F) f10) (arg11.view.read (Elt F) f11) (arg13.view.read (Elt F) f13))
      (cV i k (arg4.view.read (Elt F) f4) (arg5.view.read (Elt F) f5) (arg10.view.read (Elt F) f10) (arg12.view.read (Elt F) f12) (arg14.view.read (Elt F) f14)) f7 f8 k0_t5_loop.trips
    have e1 := congrArg Prod.fst e5
    have e2 := congrArg Prod.snd e5
    dsimp only at e1 e2
    unfold codM codV
    rw [← e1, ← e2]
    unfold k0_t4_body
    iintro ⟨H3, H4, H5, H7, H8, H9, H10, H11, H12, H13, H14, H20, H21, H15, H16, H17, H18, H19⟩
    sl_exec
    sl_step
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H20]; · iexact H20
    isplitl [H21]; · iexact H21
    isplitl [H15]; · iexact H15
    isplitl [H16]; · iexact H16
    isplitl [H17]; · iexact H17
    isplitl [H18]; · iexact H18
    iexact H19

end Cert.Proof.Kernel

end
-- ==== Proof.Kernel.Chunks.lean ====
/- The kernel's chunk loop by its invariant: before trip `n` each output block holds the chunks of the trips before `n`,
   written over what the loop found. And what those pieces read as, index by index. -/
module

public import proofs.«01_k».proof.Proof.Kernel.Chunk
public import proofs.«01_k».proof.Proof.Gen.Kernel.Loops
public import proofs.«01_k».proof.Proof.Gen.Kernel.Launch
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pieces of the first `n` trips, last first, in a block cut into chunks of 64 rows, and of 4 rows. -/
def pieces64 {e} (w : Fin k0_t4_loop.trips → Vec F S64x128 e) : ℕ → List (View.Piece (Elt F) S3584x128 e)
  | 0 => []
  | n + 1 => if h : n < k0_t4_loop.trips then
      ⟨Rect.unit (k0_off6 ⟨n, h⟩) S64x128.size (k0_off6_inb ⟨n, h⟩), w ⟨n, h⟩⟩ :: pieces64 w n else pieces64 w n
def pieces4 {e} (w : Fin k0_t4_loop.trips → Vec F S4x128 e) : ℕ → List (View.Piece (Elt F) S224x128 e)
  | 0 => []
  | n + 1 => if h : n < k0_t4_loop.trips then
      ⟨Rect.unit (k0_off9 ⟨n, h⟩) S4x128.size (k0_off9_inb ⟨n, h⟩), w ⟨n, h⟩⟩ :: pieces4 w n else pieces4 w n

theorem pieces64_succ {e} (w : Fin k0_t4_loop.trips → Vec F S64x128 e) (k : Fin k0_t4_loop.trips) : pieces64 w (k.val + 1)
    = [⟨Rect.unit (k0_off6 k) S64x128.size (k0_off6_inb k), w k⟩] ++ pieces64 w k.val := dif_pos k.isLt
theorem pieces4_succ {e} (w : Fin k0_t4_loop.trips → Vec F S4x128 e) (k : Fin k0_t4_loop.trips) : pieces4 w (k.val + 1)
    = [⟨Rect.unit (k0_off9 k) S4x128.size (k0_off9_inb k), w k⟩] ++ pieces4 w k.val := dif_pos k.isLt

set_option warn.classDefReducibility false in
set_option maxHeartbeats 4000000 in
/-- The chunk loop. -/
@[sl_loop] def loopInv_t4 (𝒱 : Variants) (c : Dev nD) (bd : Option 𝒱.V) (E : Set ℕ) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (v0 : BitVec 32)
    (f3 : BufTy.Contents (Elt F) arg3.view.ty) (f4 : BufTy.Contents (Elt F) arg4.view.ty) (f5 : BufTy.Contents (Elt F) arg5.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f20 : BufTy.Contents (Elt F) arg20.view.ty) (f21 : BufTy.Contents (Elt F) arg21.view.ty)
    (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 where
  inv n _ := iprop(own c arg3 f3 ∗ own c arg4 f4 ∗ own c arg5 f5 ∗ own c arg7 f7 ∗ own c arg8 f8 ∗ own c arg9 f9 ∗ own c arg10 f10 ∗ own c arg11 f11 ∗ own c arg12 f12 ∗ own c arg13 f13 ∗ own c arg14 f14 ∗ own c arg20 f20 ∗ own c arg21 f21 ∗ (∃ f, own c arg15 f ∗ ⌜f = arg15.view.writes (Elt F) G15 (pieces64 (fun k => cU i k (arg3.view.read (Elt F) f3) (arg4.view.read (Elt F) f4) (arg5.view.read (Elt F) f5) (arg9.view.read (Elt F) f9) (arg10.view.read (Elt F) f10) (arg11.view.read (Elt F) f11) (arg12.view.read (Elt F) f12) (arg13.view.read (Elt F) f13) (arg14.view.read (Elt F) f14) (arg20.view.read (Elt F) f20) (arg21.view.read (Elt F) f21)) n)⌝) ∗ (∃ f, own c arg16 f ∗ ⌜f = arg16.view.writes (Elt F) G16 (pieces64 (fun k => codM (cM i k (arg3.view.read (Elt F) f3) (arg5.view.read (Elt F) f5) (arg10.view.read (Elt F) f10) (arg11.view.read (Elt F) f11) (arg13.view.read (Elt F) f13)) (arg7.view.read (Elt F) f7)) n)⌝) ∗ (∃ f, own c arg17 f ∗ ⌜f = arg17.view.writes (Elt F) G17 (pieces64 (fun k => codV (cV i k (arg4.view.read (Elt F) f4) (arg5.view.read (Elt F) f5) (arg10.view.read (Elt F) f10) (arg12.view.read (Elt F) f12) (arg14.view.read (Elt F) f14)) (arg8.view.read (Elt F) f8)) n)⌝) ∗ (∃ f, own c arg18 f ∗ ⌜f = arg18.view.writes (Elt F) G18 (pieces4 (fun k => amM (cM i k (arg3.view.read (Elt F) f3) (arg5.view.read (Elt F) f5) (arg10.view.read (Elt F) f10) (arg11.view.read (Elt F) f11) (arg13.view.read (Elt F) f13))) n)⌝) ∗ (∃ f, own c arg19 f ∗ ⌜f = arg19.view.writes (Elt F) G19 (pieces4 (fun k => amV (cV i k (arg4.view.read (Elt F) f4) (arg5.view.read (Elt F) f5) (arg10.view.read (Elt F) f10) (arg12.view.read (Elt F) f12) (arg14.view.read (Elt F) f14))) n)⌝))
  step k acc := by
    iintro ⟨H3, H4, H5, H7, H8, H9, H10, H11, H12, H13, H14, H20, H21, ⟨%g15, H15, %h15⟩, ⟨%g16, H16, %h16⟩, ⟨%g17, H17, %h17⟩, ⟨%g18, H18, %h18⟩, ⟨%g19, H19, %h19⟩⟩
    iapply (wp_wand_r Idealize.ShloMosaic.frame (wpE (defs₀ (F := F)) 𝒱 (c : Thread nD τ) bd) E)
    isplitl [H3 H4 H5 H7 H8 H9 H10 H11 H12 H13 H14 H20 H21 H15 H16 H17 H18 H19]
    · iapply (trip_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 k f3 f4 f5 f7 f8 f9 f10 f11 f12 f13 f14 f20 f21 g15 g16 g17 g18 g19 E)
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H20]; · iexact H20
      isplitl [H21]; · iexact H21
      isplitl [H15]; · iexact H15
      isplitl [H16]; · iexact H16
      isplitl [H17]; · iexact H17
      isplitl [H18]; · iexact H18
      iexact H19
    · iintro %_ ⟨H3, H4, H5, H7, H8, H9, H10, H11, H12, H13, H14, H20, H21, H15, H16, H17, H18, H19⟩
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H20]; · iexact H20
      isplitl [H21]; · iexact H21
      isplitl [H15]
      · iexists _; isplitl [H15]; · iexact H15
        ipureintro; rw [pieces64_succ, h15, ← View.writes_append]
      isplitl [H16]
      · iexists _; isplitl [H16]; · iexact H16
        ipureintro; rw [pieces64_succ, h16, ← View.writes_append]
      isplitl [H17]
      · iexists _; isplitl [H17]; · iexact H17
        ipureintro; rw [pieces64_succ, h17, ← View.writes_append]
      isplitl [H18]
      · iexists _; isplitl [H18]; · iexact H18
        ipureintro; rw [pieces4_succ, h18, ← View.writes_append]
      iexists _; isplitl [H19]; · iexact H19
      ipureintro; rw [pieces4_succ, h19, ← View.writes_append]

end Cert.Proof.Kernel

end
-- ==== Proof.Kernel.Tensors.lean ====
/- The kernel's loop over the tensors by its invariant: what the learning-rate scratch holds after each tensor. -/
module

public import proofs.«01_k».proof.Proof.Kernel.Chunk
public import proofs.«01_k».proof.Proof.Gen.Kernel.Loops
public import proofs.«01_k».proof.Proof.Gen.Kernel.Launch
public import Idealize.ShloMosaic.Lib.Exec
public import Idealize.ShloMosaic.Lib.VecWindow
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A table the launch leaves for the body to read: half of its cells' ownership. -/
abbrev ownT (c : Dev nD) {sp} {s} {e} (x : Memref sig .tc sp s e) (f : BufTy.Contents (Elt F) x.view.ty) : sProp (MT nD τ sig Unit (Elt F) ℕ (UR sig nD τ) ℕ) :=
  iprop(x.view.loc (c : Thread nD τ) ↦[x.view.set]{fullShare.right} f)

/-- The words one trip of the tensor loop reads: a tensor's offset, the next tensor's, and its learning-rate multiplier. -/
def o1 (x : Vec F S97 .i32) (t : Fin k0_t1_loop.trips) : Elt F .i32 :=
  View.ld x (Rect.unit (k0_off1 t) S1.size (k0_off1_inb t)) (Shape.Idx.first (s := S1) (by rw [show S1.numel = 1 from numel1_S1]; exact Nat.one_pos))
def o2 (x : Vec F S97 .i32) (t : Fin k0_t1_loop.trips) : Elt F .i32 :=
  View.ld x (Rect.unit (k0_off2 t) S1.size (k0_off2_inb t)) (Shape.Idx.first (s := S1) (by rw [show S1.numel = 1 from numel1_S1]; exact Nat.one_pos))
def l3 (x : Vec F S96 .f32) (t : Fin k0_t1_loop.trips) : Elt F .f32 :=
  View.ld x (Rect.unit (k0_off3 t) S1.size (k0_off3_inb t)) (Shape.Idx.first (s := S1) (by rw [show S1.numel = 1 from numel1_S1]; exact Nat.one_pos))

/-- The scratch's cells after the first `n` tensors. -/
def c20 (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (x1 : Vec F S97 .i32) (x6 : Vec F S96 .f32)
    (G : BufTy.Contents (Elt F) arg20.view.ty) : ℕ → BufTy.Contents (Elt F) arg20.view.ty
  | 0 => G
  | n + 1 => if h : n < k0_t1_loop.trips then
      arg20.view.writes (Elt F) (c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G n) (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (o1 x1 ⟨n, h⟩) (clipW i (o1 x1 ⟨n, h⟩)) (o2 x1 ⟨n, h⟩)
        (chk1 i _ _) (clipW i (o2 x1 ⟨n, h⟩)) (k0_pay77 (l3 x6 ⟨n, h⟩)) (firstW i (o1 x1 ⟨n, h⟩)) (c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G n) (k0_t2_loop i (o1 x1 ⟨n, h⟩) (o2 x1 ⟨n, h⟩)).trips)
    else c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G n

theorem c20_succ (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (x1 : Vec F S97 .i32) (x6 : Vec F S96 .f32)
    (G : BufTy.Contents (Elt F) arg20.view.ty) (k : Fin k0_t1_loop.trips) : c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G (k.val + 1)
    = arg20.view.writes (Elt F) (c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G k.val) (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (o1 x1 k) (clipW i (o1 x1 k)) (o2 x1 k)
        (chk1 i _ _) (clipW i (o2 x1 k)) (k0_pay77 (l3 x6 k)) (firstW i (o1 x1 k)) (c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G k.val) (k0_t2_loop i (o1 x1 k) (o2 x1 k)).trips) := dif_pos k.isLt

/-- What the scratch reads as after `n` pieces of one tensor, and after `n` tensors, by what it read as before. -/
def lrT (i : grid0.Coords) (a b : BitVec 32) (l : F .f32) (x : Vec F S3584x128 .f32) : ℕ → Vec F S3584x128 .f32
  | 0 => x
  | n + 1 => if h : n < (k0_t2_loop i a b).trips then
      VecWindow.put (lrT i a b l x n) (k0_off4 i a b ⟨n, h⟩) S8x128.size (k0_pay4 i a (clipW i a) b (clipW i b) (k0_pay77 l) (firstW i a) ⟨n, h⟩
        (View.ld (lrT i a b l x n) (Rect.unit (k0_off4 i a b ⟨n, h⟩) S8x128.size (k0_off4_inb i a b (chk1 i a b) ⟨n, h⟩))))
    else lrT i a b l x n
def lr20 (i : grid0.Coords) (x1 : Vec F S97 .i32) (x6 : Vec F S96 .f32) (x : Vec F S3584x128 .f32) : ℕ → Vec F S3584x128 .f32
  | 0 => x
  | n + 1 => if h : n < k0_t1_loop.trips then
      lrT i (o1 x1 ⟨n, h⟩) (o2 x1 ⟨n, h⟩) (l3 x6 ⟨n, h⟩) (lr20 i x1 x6 x n) (k0_t2_loop i (o1 x1 ⟨n, h⟩) (o2 x1 ⟨n, h⟩)).trips
    else lr20 i x1 x6 x n

theorem lrT_succ (i : grid0.Coords) (a b : BitVec 32) (l : F .f32) (x : Vec F S3584x128 .f32) (k : Fin (k0_t2_loop i a b).trips) : lrT i a b l x (k.val + 1)
    = VecWindow.put (lrT i a b l x k.val) (k0_off4 i a b k) S8x128.size (k0_pay4 i a (clipW i a) b (clipW i b) (k0_pay77 l) (firstW i a) k
        (View.ld (lrT i a b l x k.val) (Rect.unit (k0_off4 i a b k) S8x128.size (k0_off4_inb i a b (chk1 i a b) k)))) := dif_pos k.isLt
theorem lr20_succ (i : grid0.Coords) (x1 : Vec F S97 .i32) (x6 : Vec F S96 .f32) (x : Vec F S3584x128 .f32) (k : Fin k0_t1_loop.trips) : lr20 i x1 x6 x (k.val + 1)
    = lrT i (o1 x1 k) (o2 x1 k) (l3 x6 k) (lr20 i x1 x6 x k.val) (k0_t2_loop i (o1 x1 k) (o2 x1 k)).trips := dif_pos k.isLt

theorem read_pb (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (a b : BitVec 32) (l : F .f32)
    (G : BufTy.Contents (Elt F) arg20.view.ty) : ∀ n, n ≤ (k0_t2_loop i a b).trips → arg20.view.read (Elt F) (arg20.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a (clipW i a) b
        (chk1 i _ _) (clipW i b) (k0_pay77 l) (firstW i a) G n)) = lrT i a b l (arg20.view.read (Elt F) G) n := by
  intro n
  induction n with
  | zero => intro _; rfl
  | succ n ih =>
    intro hn
    have ih := ih (by omega)
    rw [show n + 1 = ((⟨n, hn⟩ : Fin (k0_t2_loop i a b).trips).val + 1) from rfl, pb_k0_t2_succ, lrT_succ, ← ih, View.writes_append]
    unfold tripL_k0_t2 trip_k0_t2
    exact View.read_writes_cons_put _ _ _ _ _ rfl

theorem read_c20 (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (x1 : Vec F S97 .i32) (x6 : Vec F S96 .f32)
    (G : BufTy.Contents (Elt F) arg20.view.ty) : ∀ n, n ≤ k0_t1_loop.trips → arg20.view.read (Elt F) (c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G n) = lr20 i x1 x6 (arg20.view.read (Elt F) G) n := by
  intro n
  induction n with
  | zero => intro _; rfl
  | succ n ih =>
    intro hn
    rw [show n + 1 = ((⟨n, hn⟩ : Fin k0_t1_loop.trips).val + 1) from rfl, c20_succ, lr20_succ, read_pb _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ le_rfl, ← ih (by omega)]

/-- The remainder loop makes no trip. -/
theorem t3_trips (i : grid0.Coords) (a b : BitVec 32) : Scf.trips (k0_t3_loop i a b).lb (k0_t3_loop i a b).ub (k0_t3_loop i a b).st = 0 := by
  rw [t3_loop_eq]
  exact Scf.rem_trips _ _

set_option maxHeartbeats 4000000 in
/-- One trip of the tensor loop. -/
theorem trip_t1 (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (k : Fin k0_t1_loop.trips)
   (f1 : BufTy.Contents (Elt F) arg1.view.ty) (f6 : BufTy.Contents (Elt F) arg6.view.ty) (f20 : BufTy.Contents (Elt F) arg20.view.ty) (E : Set ℕ) :
   iprop(ownT c arg1 f1 ∗ own c arg6 f6 ∗ own c arg20 f20)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (elem0 i) k ())
          (fun _ => iprop(ownT c arg1 f1 ∗ own c arg6 f6 ∗ own c arg20 (arg20.view.writes (Elt F) f20 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (o1 (arg1.view.read (Elt F) f1) k) (clipW i (o1 (arg1.view.read (Elt F) f1) k)) (o2 (arg1.view.read (Elt F) f1) k)
        (chk1 i _ _) (clipW i (o2 (arg1.view.read (Elt F) f1) k)) (k0_pay77 (l3 (arg6.view.read (Elt F) f6) k)) (firstW i (o1 (arg1.view.read (Elt F) f1) k)) f20 (k0_t2_loop i (o1 (arg1.view.read (Elt F) f1) k) (o2 (arg1.view.read (Elt F) f1) k)).trips)))) := by
    unfold k0_t1_body
    iintro ⟨H1, H6, H20⟩
    have hc : ∀ a b, k0_chk1 i a b := fun a b => chk1 i a b
    sl_exec
    sl_step
    rw [t3_trips]
    rw [pb_k0_t3.eq_1, List.nil_append]
    isplitl [H1]; · iexact H1
    isplitl [H6]; · iexact H6
    iexact H20

set_option warn.classDefReducibility false in
/-- The tensor loop. -/
@[sl_loop] def loopInv_t1 (𝒱 : Variants) (c : Dev nD) (bd : Option 𝒱.V) (E : Set ℕ) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole)
   (f1 : BufTy.Contents (Elt F) arg1.view.ty) (f6 : BufTy.Contents (Elt F) arg6.view.ty) (G20 : BufTy.Contents (Elt F) arg20.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (elem0 i) where
  inv n _ := iprop(ownT c arg1 f1 ∗ own c arg6 f6 ∗ (∃ f, own c arg20 f ∗ ⌜f = c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg1.view.read (Elt F) f1) (arg6.view.read (Elt F) f6) G20 n⌝))
  step k acc := by
    iintro ⟨H1, H6, ⟨%g20, H20, %h20⟩⟩
    iapply (wp_wand_r Idealize.ShloMosaic.frame (wpE (defs₀ (F := F)) 𝒱 (c : Thread nD τ) bd) E)
    isplitl [H1 H6 H20]
    · iapply (trip_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k f1 f6 g20 E)
      isplitl [H1]; · iexact H1
      isplitl [H6]; · iexact H6
      iexact H20
    · iintro %_ ⟨H1, H6, H20⟩
      isplitl [H1]; · iexact H1
      isplitl [H6]; · iexact H6
      iexists _; isplitl [H20]; · iexact H20
      ipureintro; rw [c20_succ, h20]

end Cert.Proof.Kernel

end
-- ==== Proof.Kernel.Body.lean ====
/- The kernel body as one step: what it leaves in every block, from what it finds in them. -/
module

public import proofs.«01_k».proof.Proof.Kernel.Chunks
public import proofs.«01_k».proof.Proof.Kernel.Tensors
public import proofs.«01_k».proof.Proof.Gen.Kernel.Loops
public import proofs.«01_k».proof.Proof.Gen.Kernel.Launch
public import Idealize.ShloMosaic.Lib.Exec
public import Idealize.ShloMosaic.Lib.VecWindow
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Whether a grid point is the first. -/
abbrev isFirst (i : grid0.Coords) : Prop := Scalar.cmpi .ne (Scalar.extui (Scalar.cmpi .eq (BitVec.ofNat 32 (i 0).val) 0#32) : BitVec 32) 0#32 = 1#1

/-- The bias corrections one minus the power of the first point: the first moment's and the second moment's, by the step's bits. -/
def bcM (w : Elt F .i32) : FVec F S1x8x128 .f32 :=
  k0_pay44 w (k0_pay42 w (k0_pay34 w (k0_pay26 w (k0_pay19 w) k0_pay20) (k0_pay27 k0_pay20) (Scalar.cmpi .eq (Scalar.andi (Scalar.shrsi w 12#32) 1#32) 1#32))
    (k0_pay35 (k0_pay27 k0_pay20)) (Scalar.shrsi w 19#32) 1#32) (k0_pay43 (k0_pay35 (k0_pay27 k0_pay20)))
def bcV (w : Elt F .i32) : FVec F S1x8x128 .f32 :=
  k0_pay1 w (k0_pay75 (k0_pay69 (k0_pay61 (k0_pay52 k0_pay46))))
    (k0_pay76 w (k0_pay68 w (k0_pay60 w (k0_pay52 k0_pay46) (k0_pay53 w k0_pay45 k0_pay46 (Scalar.shrsi w 0#32))) (k0_pay61 (k0_pay52 k0_pay46)) (Scalar.andi (Scalar.shrsi w 13#32) 1#32) 1#32)
      (k0_pay69 (k0_pay61 (k0_pay52 k0_pay46))) (Scalar.shrsi w 20#32))
/-- What the second scratch holds after the first point. -/
def bc21 (w : Elt F .i32) : Vec F S2x8x128 .f32 :=
  View.canon [⟨Rect.unit (s := S2x8x128) ![1, 0, 0] S1x8x128.size inb_S2x8x128_S1x8x128_1_0_0, bcV w⟩,
    ⟨Rect.unit (s := S2x8x128) ![0, 0, 0] S1x8x128.size inb_S2x8x128_S1x8x128_0_0_0, bcM w⟩]
theorem cover21 (p0 p1 : Vec F S1x8x128 .f32) (y : S2x8x128.Idx) : ∃ pc ∈ ([⟨Rect.unit (s := S2x8x128) ![1, 0, 0] S1x8x128.size inb_S2x8x128_S1x8x128_1_0_0, p0⟩,
    ⟨Rect.unit (s := S2x8x128) ![0, 0, 0] S1x8x128.size inb_S2x8x128_S1x8x128_0_0_0, p1⟩] : List (View.Piece (Elt F) S2x8x128 .f32)), y ∈ pc.1.set :=
  View.cover_of_tiled (s := S2x8x128) _ S1x8x128.size (by rfl) y

/-- The step's word. -/
def w2 (x : Vec F S1 .i32) : Elt F .i32 :=
  View.ld x (Rect.unit ![0] S1.size inb_S1_S1_0) (Shape.Idx.first (s := S1) (by rw [show S1.numel = 1 from numel1_S1]; exact Nat.one_pos))

/-- The learning-rate sums one point leaves in the scratch. -/
def lrOf (i : grid0.Coords) (x1 : Vec F S97 .i32) (x6 : Vec F S96 .f32) : Vec F S3584x128 .f32 := lr20 i x1 x6 k0_pay2 (Scf.trips k0_t1_loop.lb k0_t1_loop.ub k0_t1_loop.st)

/-- What one point leaves in the five output blocks: the update, the two rows of codes, the two rows of block maxima. -/
def oU (i : grid0.Coords) (x1 : Vec F S97 .i32) (x3 : Vec F S1568 .f32) (x4 : Vec F S1568 .f32) (x5 : Vec F S6272 .f32) (x6 : Vec F S96 .f32) (x9 : Vec F S3584x128 .f32) (x10 : Vec F S3584x128 .fp8e5m2) (x11 : Vec F S3584x128 .i8) (x12 : Vec F S3584x128 .i8) (x13 : Vec F S2x128 .f32) (x14 : Vec F S2x128 .f32) (b : Vec F S2x8x128 .f32) : Vec F S3584x128 .f32 :=
  View.canon (pieces64 (fun k => cU i k x3 x4 x5 x9 x10 x11 x12 x13 x14 (lrOf i x1 x6) b) 56)
def oM (i : grid0.Coords) (x3 : Vec F S1568 .f32) (x5 : Vec F S6272 .f32) (x7 : Vec F S256 .f32) (x10 : Vec F S3584x128 .fp8e5m2) (x11 : Vec F S3584x128 .i8) (x13 : Vec F S2x128 .f32) : Vec F S3584x128 .i8 :=
  View.canon (pieces64 (fun k => codM (cM i k x3 x5 x10 x11 x13) x7) 56)
def oV (i : grid0.Coords) (x4 : Vec F S1568 .f32) (x5 : Vec F S6272 .f32) (x8 : Vec F S256 .f32) (x10 : Vec F S3584x128 .fp8e5m2) (x12 : Vec F S3584x128 .i8) (x14 : Vec F S2x128 .f32) : Vec F S3584x128 .i8 :=
  View.canon (pieces64 (fun k => codV (cV i k x4 x5 x10 x12 x14) x8) 56)
def oAM (i : grid0.Coords) (x3 : Vec F S1568 .f32) (x5 : Vec F S6272 .f32) (x10 : Vec F S3584x128 .fp8e5m2) (x11 : Vec F S3584x128 .i8) (x13 : Vec F S2x128 .f32) : Vec F S224x128 .f32 :=
  View.canon (pieces4 (fun k => amM (cM i k x3 x5 x10 x11 x13)) 56)
def oAV (i : grid0.Coords) (x4 : Vec F S1568 .f32) (x5 : Vec F S6272 .f32) (x10 : Vec F S3584x128 .fp8e5m2) (x12 : Vec F S3584x128 .i8) (x14 : Vec F S2x128 .f32) : Vec F S224x128 .f32 :=
  View.canon (pieces4 (fun k => amV (cV i k x4 x5 x10 x12 x14)) 56)

theorem t4_trips' : Scf.trips k0_t4_loop.lb k0_t4_loop.ub k0_t4_loop.st = 56 := t4_trips

/-- The chunks of the trips tile their block. -/
theorem cover64_aux {e} (w : Fin k0_t4_loop.trips → Vec F S64x128 e) (y : S3584x128.Idx) : ∀ n, n ≤ 56 → (y 0).val < 64 * n → ∃ pc ∈ pieces64 w n, y ∈ pc.1.set := by
  intro n
  induction n with
  | zero => intro _ h; omega
  | succ n ih =>
    intro hn h
    have hk : n < k0_t4_loop.trips := by rw [t4_trips]; omega
    rw [show n + 1 = ((⟨n, hk⟩ : Fin k0_t4_loop.trips).val + 1) from rfl, pieces64_succ]
    by_cases hy : (y 0).val < 64 * n
    · obtain ⟨p, hp, hm⟩ := ih (by omega) hy
      exact ⟨p, List.mem_cons_of_mem _ hp, hm⟩
    · refine ⟨_, List.mem_cons_self .., ?_⟩
      have h1 : (y 1).val < 128 := (y 1).isLt
      refine (Rect.mem_set_unit (inb := k0_off6_inb ⟨n, hk⟩)).2 ?_
      rw [off6_eq]
      intro a
      match a with
      | ⟨0, _⟩ => exact ⟨by show 64 * n ≤ (y 0).val; omega, by show (y 0).val < 64 * n + 64; omega⟩
      | ⟨1, _⟩ => exact ⟨by show 0 ≤ (y 1).val; omega, by show (y 1).val < 0 + 128; omega⟩
theorem cover4_aux {e} (w : Fin k0_t4_loop.trips → Vec F S4x128 e) (y : S224x128.Idx) : ∀ n, n ≤ 56 → (y 0).val < 4 * n → ∃ pc ∈ pieces4 w n, y ∈ pc.1.set := by
  intro n
  induction n with
  | zero => intro _ h; omega
  | succ n ih =>
    intro hn h
    have hk : n < k0_t4_loop.trips := by rw [t4_trips]; omega
    rw [show n + 1 = ((⟨n, hk⟩ : Fin k0_t4_loop.trips).val + 1) from rfl, pieces4_succ]
    by_cases hy : (y 0).val < 4 * n
    · obtain ⟨p, hp, hm⟩ := ih (by omega) hy
      exact ⟨p, List.mem_cons_of_mem _ hp, hm⟩
    · refine ⟨_, List.mem_cons_self .., ?_⟩
      have h1 : (y 1).val < 128 := (y 1).isLt
      refine (Rect.mem_set_unit (inb := k0_off9_inb ⟨n, hk⟩)).2 ?_
      rw [off9_eq]
      intro a
      match a with
      | ⟨0, _⟩ => exact ⟨by show 4 * n ≤ (y 0).val; omega, by show (y 0).val < 4 * n + 4; omega⟩
      | ⟨1, _⟩ => exact ⟨by show 0 ≤ (y 1).val; omega, by show (y 1).val < 0 + 128; omega⟩
theorem cover64 {e} (w : Fin k0_t4_loop.trips → Vec F S64x128 e) (y : S3584x128.Idx) : ∃ pc ∈ pieces64 w 56, y ∈ pc.1.set :=
  cover64_aux w y 56 le_rfl (y 0).isLt
theorem cover4 {e} (w : Fin k0_t4_loop.trips → Vec F S4x128 e) (y : S224x128.Idx) : ∃ pc ∈ pieces4 w 56, y ∈ pc.1.set :=
  cover4_aux w y 56 le_rfl (y 0).isLt

set_option maxHeartbeats 8000000 in
/-- The body at one grid point: the input blocks unchanged, the output blocks as stated, the second scratch filled at the first
    point and unchanged at the others. -/
theorem sound_kernel (c : Dev nD) (E : Set ℕ) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (f1 : BufTy.Contents (Elt F) arg1.view.ty) (f2 : BufTy.Contents (Elt F) arg2.view.ty)
   (x3 : Vec F S1568 .f32) (x4 : Vec F S1568 .f32) (x5 : Vec F S6272 .f32) (x6 : Vec F S96 .f32) (x7 : Vec F S256 .f32) (x8 : Vec F S256 .f32) (x9 : Vec F S3584x128 .f32) (x10 : Vec F S3584x128 .fp8e5m2) (x11 : Vec F S3584x128 .i8) (x12 : Vec F S3584x128 .i8) (x13 : Vec F S2x128 .f32) (x14 : Vec F S2x128 .f32) (f21 : BufTy.Contents (Elt F) arg21.view.ty) (B : Vec F S2x8x128 .f32)
   (hB1 : isFirst i → B = bc21 (w2 (arg2.view.read (Elt F) f2))) (hB2 : ¬ isFirst i → B = arg21.view.read (Elt F) f21) (K : PUnit → sProp (MT nD τ sig Unit (Elt F) ℕ (UR sig nD τ) ℕ)) :
   iprop(ownT c arg1 f1 ∗ ownT c arg2 f2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ f, own c arg20 f) ∗ own c arg21 f21
       ∗ (iprop(ownT c arg1 f1 ∗ ownT c arg2 f2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (oU i (arg1.view.read (Elt F) f1) x3 x4 x5 x6 x9 x10 x11 x12 x13 x14 B) ∗ owns (c : Thread nD τ) arg16 fullShare (oM i x3 x5 x7 x10 x11 x13) ∗ owns (c : Thread nD τ) arg17 fullShare (oV i x4 x5 x8 x10 x12 x14) ∗ owns (c : Thread nD τ) arg18 fullShare (oAM i x3 x5 x10 x11 x13) ∗ owns (c : Thread nD τ) arg19 fullShare (oAV i x4 x5 x10 x12 x14) ∗ (∃ f, own c arg20 f) ∗ owns (c : Thread nD τ) arg21 fullShare B) -∗ K ⟨⟩))
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    rw [cc0__body_eq_skeleton]; unfold cc0__body_skel
    unfold owns
    iintro ⟨H1, H2, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%f20, H20⟩, H21, Hk⟩
    subst hf3; subst hf4; subst hf5; subst hf6; subst hf7; subst hf8; subst hf9; subst hf10; subst hf11; subst hf12; subst hf13; subst hf14
    have hc : ∀ a b, k0_chk1 i a b := fun a b => chk1 i a b
    have hZ : ∀ g, arg20.view.read (Elt F) (View.write (Elt F) (arg20.view.slice (Rect.unit ![0, 0] S3584x128.size inb_S3584x128_S3584x128_0_0)) g (k0_pay2 (F := F)) Finset.univ) = k0_pay2 := fun g =>
      View.read_writes_full arg20.view g inb_S3584x128_S3584x128_0_0 k0_pay2 []
    by_cases h0 : isFirst i
    · sl_exec
      sl_step
      have hB' : arg21.view.read (Elt F) (arg21.view.writes (Elt F) arg21.view.junk (sound_kernel.sl.H21_2 arg2 f2)) = B :=
        (View.read_writes_eq_canon _ _ _ (cover21 _ _)).trans (hB1 h0).symm
      iapply Hk
      isplitl [H1]; · iexact H1
      isplitl [H2]; · iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists f13; isplitr; · ipureintro; rfl
        iexact H13
      isplitl [H14]
      · iexists f14; isplitr; · ipureintro; rfl
        iexact H14
      isplitl [H15]
      · iexists _; isplitr
        swap; · iexact H15
        ipureintro
        rw [t4_trips']
        rw [read_c20 _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ le_rfl, hZ, hB']
        exact View.read_writes_eq_canon _ _ _ (cover64 _)
      isplitl [H16]
      · iexists _; isplitr
        swap; · iexact H16
        ipureintro
        rw [t4_trips']
        exact View.read_writes_eq_canon _ _ _ (cover64 _)
      isplitl [H17]
      · iexists _; isplitr
        swap; · iexact H17
        ipureintro
        rw [t4_trips']
        exact View.read_writes_eq_canon _ _ _ (cover64 _)
      isplitl [H18]
      · iexists _; isplitr
        swap; · iexact H18
        ipureintro
        rw [t4_trips']
        exact View.read_writes_eq_canon _ _ _ (cover4 _)
      isplitl [H19]
      · iexists _; isplitr
        swap; · iexact H19
        ipureintro
        rw [t4_trips']
        exact View.read_writes_eq_canon _ _ _ (cover4 _)
      isplitl [H20]; · iexists _; iexact H20
      iexists _; isplitr
      swap; · iexact H21
      ipureintro; exact hB'
    · sl_exec
      sl_step
      have hB' : arg21.view.read (Elt F) f21 = B := (hB2 h0).symm
      iapply Hk
      isplitl [H1]; · iexact H1
      isplitl [H2]; · iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists f13; isplitr; · ipureintro; rfl
        iexact H13
      isplitl [H14]
      · iexists f14; isplitr; · ipureintro; rfl
        iexact H14
      isplitl [H15]
      · iexists _; isplitr
        swap; · iexact H15
        ipureintro
        rw [t4_trips']
        rw [read_c20 _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ le_rfl, hZ, hB']
        exact View.read_writes_eq_canon _ _ _ (cover64 _)
      isplitl [H16]
      · iexists _; isplitr
        swap; · iexact H16
        ipureintro
        rw [t4_trips']
        exact View.read_writes_eq_canon _ _ _ (cover64 _)
      isplitl [H17]
      · iexists _; isplitr
        swap; · iexact H17
        ipureintro
        rw [t4_trips']
        exact View.read_writes_eq_canon _ _ _ (cover64 _)
      isplitl [H18]
      · iexists _; isplitr
        swap; · iexact H18
        ipureintro
        rw [t4_trips']
        exact View.read_writes_eq_canon _ _ _ (cover4 _)
      isplitl [H19]
      · iexists _; isplitr
        swap; · iexact H19
        ipureintro
        rw [t4_trips']
        exact View.read_writes_eq_canon _ _ _ (cover4 _)
      isplitl [H20]; · iexists _; iexact H20
      iexists _; isplitr
      swap; · iexact H21
      ipureintro; exact hB'

end Cert.Proof.Kernel

end
-- ==== Proof.Kernel.Host.lean ====
/- The lines of @main around the call, the prefetched tables, and each window's block at a grid point. -/
module

public import proofs.«01_k».proof.Proof.Kernel.Body
public import Idealize.ShloMosaic.Lib.Pipeline.FrameBody
public import Idealize.ShloMosaic.Lib.Pipeline.FrameSuffix
public import Idealize.ShloMosaic.Lib.Claim
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- The buffers when the call is entered: after the lines before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- What each line after the call writes. -/
abbrev hostOps1_W : List (Ref sig .tc) := [main_v8, main_v9, main_v10, main_v11, main_v12, main_v13, main_v14]
theorem hostOps1_writes : (hostOps1 : List (HloOp τ sig (Elt F))).Forall fun op => op.writes ⊆ (hostOps1_W.map (Proc.devRef (τ := τ) .tc)).toFinset :=
  StableHlo.forall_writes_sub_of_map rfl
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset :=
  StableHlo.forall_writes_sub_of_map rfl

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the call touch the call's arrays and the bypassing buffers only, allocate nothing, and write no array of the call. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl
  all_goals intro j; fin_cases j <;> simp only [StableHlo.reshape_bufs, StableHlo.unary_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  intro w hb
  obtain ⟨y, hy, he⟩ := List.mem_map.mp (List.mem_toFinset.mp ((List.forall_iff_forall_mem.mp hostOps1_writes) op hop hb))
  exact (by decide +kernel : ∀ w, Pipeline.arrRef spec0 w ∉ hostOps1_W) w (Proc.devRef_injective _ he ▸ hy)

/-- No line before the call writes an argument: the call finds each as launched. -/
theorem V_arg (c : Dev nD) (b : Ref sig .tc) (hb : b ∉ hostOps0_W) : V m c b = m ((c : Thread nD τ).loc b) := by
  unfold V V0
  rw [List.flatten_cons, List.flatten_nil, List.append_nil, StableHlo.after_of_writes_sub (r := b) hostOps0 _ hostOps0_writes hb]

/-! ## The tables -/

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)
abbrev tb0 : Memref sig .tc .smem S97 .i32 := Memref.whole main_arg9
abbrev tb1 : Memref sig .tc .smem S1 .i32 := Memref.whole main_v0
abbrev sc0 : Memref sig .tc .vmem S3584x128 .f32 := Memref.whole cc0_scratch0
abbrev sc1 : Memref sig .tc .vmem S2x8x128 .f32 := Memref.whole cc0_scratch1
theorem PhiT0_eq (c : Dev nD) : (Pipeline.ΦT pre0 (tbl m) c : sProp 𝕄) = iprop(ownT c tb0 (tbl m 0) ∗ ownT c tb1 (tbl m 1)) := by
  unfold Pipeline.ΦT Pipeline.prefHeld
  rw [show (Finset.univ : Finset (Fin 2)) = {(0 : Fin 2), (1 : Fin 2)} from by decide, bigSep_insert (by decide), bigSep_singleton]
  unfold ownT
  rw [show tb0.view.set = Finset.univ from (Memref.isWhole_whole _).set_eq_univ, show tb1.view.set = Finset.univ from (Memref.isWhole_whole _).set_eq_univ]
  rfl

/-! ## The windows' blocks -/

/-- Window `w`'s block at point `t`, read off its array as the call finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ (cfgM m) c) (hA : dat.A 8 = V m c (Pipeline.arrRef spec0 8))
    (hafter : ∀ t, dat.after 8 t = iblk m c 8 t) (t : Fin (cfgM m).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ (cfgM m) c) (hA : dat.A 9 = V m c (Pipeline.arrRef spec0 9))
    (hafter : ∀ t, dat.after 9 t = iblk m c 9 t) (t : Fin (cfgM m).N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ (cfgM m) c) (hA : dat.A 10 = V m c (Pipeline.arrRef spec0 10))
    (hafter : ∀ t, dat.after 10 t = iblk m c 10 t) (t : Fin (cfgM m).N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ (cfgM m) c) (hA : dat.A 11 = V m c (Pipeline.arrRef spec0 11))
    (hafter : ∀ t, dat.after 11 t = iblk m c 11 t) (t : Fin (cfgM m).N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

end Cert.Proof.Kernel

end
-- ==== Proof.Kernel.Data.lean ====
/- The proof data of the pipelined call: what every buffer holds before and after the body at every grid point. -/
module

public import proofs.«01_k».proof.Proof.Kernel.Host
public import Idealize.ShloMosaic.Lib.Pipeline.FrameBody
public import Idealize.ShloMosaic.Lib.Pipeline.FrameSuffix
public import Idealize.ShloMosaic.Lib.Claim
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the second scratch holds after the first point: the bias corrections of the step. -/
def bcB : Vec F S2x8x128 .f32 := bc21 (w2 (tb1.view.read (Elt F) (tbl m 1)))

theorem bcB_eq : bcB m = bc21 (w2 (tb1.view.read (Elt F) (tbl m 1))) := rfl

/-- Between two points: the scratches, the second one filled once the first point has run; the tables; the generator register. -/
def Phi (c : Dev nD) (n : ℕ) : sProp 𝕄 :=
  iprop((∃ f, own c sc0 f) ∗ (∃ f, own c sc1 f ∗ ⌜n ≠ 0 → sc1.view.read (Elt F) f = bcB m⌝) ∗ (ownT c tb0 (tbl m 0) ∗ ownT c tb1 (tbl m 1)) ∗ ∃ r, prngReg c r)

/-- The proof data: the arrays as the call finds them; each input's buffer at its block, each output's as the body leaves it. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => oU (grid0.coords t) (tb0.view.read (Elt F) (tbl m 0)) (iblk m c 0 t) (iblk m c 1 t) (iblk m c 2 t) (iblk m c 3 t) (iblk m c 6 t) (iblk m c 7 t) (iblk m c 8 t) (iblk m c 9 t) (iblk m c 10 t) (iblk m c 11 t) (bcB m)
    | ⟨13, _⟩ => oM (grid0.coords t) (iblk m c 0 t) (iblk m c 2 t) (iblk m c 4 t) (iblk m c 7 t) (iblk m c 8 t) (iblk m c 10 t)
    | ⟨14, _⟩ => oV (grid0.coords t) (iblk m c 1 t) (iblk m c 2 t) (iblk m c 5 t) (iblk m c 7 t) (iblk m c 9 t) (iblk m c 11 t)
    | ⟨15, _⟩ => oAM (grid0.coords t) (iblk m c 0 t) (iblk m c 2 t) (iblk m c 7 t) (iblk m c 8 t) (iblk m c 10 t)
    | ⟨16, _⟩ => oAV (grid0.coords t) (iblk m c 1 t) (iblk m c 2 t) (iblk m c 7 t) (iblk m c 9 t) (iblk m c 11 t)
    | ⟨_ + 17, h⟩ => absurd h (Nat.not_lt.2 (Nat.le_add_left _ _))
  Φ t := Phi m c t.val
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by unfold dats; rfl
theorem after0_1 (c : Dev nD) (t : Fin (cfgM m).N) : (dats m 0 c).after 1 t = iblk m c 1 t := by unfold dats; rfl
theorem after0_2 (c : Dev nD) (t : Fin (cfgM m).N) : (dats m 0 c).after 2 t = iblk m c 2 t := by unfold dats; rfl
theorem after0_3 (c : Dev nD) (t : Fin (cfgM m).N) : (dats m 0 c).after 3 t = iblk m c 3 t := by unfold dats; rfl
theorem after0_4 (c : Dev nD) (t : Fin (cfgM m).N) : (dats m 0 c).after 4 t = iblk m c 4 t := by unfold dats; rfl
theorem after0_5 (c : Dev nD) (t : Fin (cfgM m).N) : (dats m 0 c).after 5 t = iblk m c 5 t := by unfold dats; rfl
theorem after0_6 (c : Dev nD) (t : Fin (cfgM m).N) : (dats m 0 c).after 6 t = iblk m c 6 t := by unfold dats; rfl
theorem after0_7 (c : Dev nD) (t : Fin (cfgM m).N) : (dats m 0 c).after 7 t = iblk m c 7 t := by unfold dats; rfl
theorem after0_8 (c : Dev nD) (t : Fin (cfgM m).N) : (dats m 0 c).after 8 t = iblk m c 8 t := by unfold dats; rfl
theorem after0_9 (c : Dev nD) (t : Fin (cfgM m).N) : (dats m 0 c).after 9 t = iblk m c 9 t := by unfold dats; rfl
theorem after0_10 (c : Dev nD) (t : Fin (cfgM m).N) : (dats m 0 c).after 10 t = iblk m c 10 t := by unfold dats; rfl
theorem after0_11 (c : Dev nD) (t : Fin (cfgM m).N) : (dats m 0 c).after 11 t = iblk m c 11 t := by unfold dats; rfl
theorem after0_12 (c : Dev nD) (t : Fin (cfgM m).N) : (dats m 0 c).after 12 t = oU (grid0.coords t) (tb0.view.read (Elt F) (tbl m 0)) (iblk m c 0 t) (iblk m c 1 t) (iblk m c 2 t) (iblk m c 3 t) (iblk m c 6 t) (iblk m c 7 t) (iblk m c 8 t) (iblk m c 9 t) (iblk m c 10 t) (iblk m c 11 t) (bcB m) := by unfold dats; rfl
theorem after0_13 (c : Dev nD) (t : Fin (cfgM m).N) : (dats m 0 c).after 13 t = oM (grid0.coords t) (iblk m c 0 t) (iblk m c 2 t) (iblk m c 4 t) (iblk m c 7 t) (iblk m c 8 t) (iblk m c 10 t) := by unfold dats; rfl
theorem after0_14 (c : Dev nD) (t : Fin (cfgM m).N) : (dats m 0 c).after 14 t = oV (grid0.coords t) (iblk m c 1 t) (iblk m c 2 t) (iblk m c 5 t) (iblk m c 7 t) (iblk m c 9 t) (iblk m c 11 t) := by unfold dats; rfl
theorem after0_15 (c : Dev nD) (t : Fin (cfgM m).N) : (dats m 0 c).after 15 t = oAM (grid0.coords t) (iblk m c 0 t) (iblk m c 2 t) (iblk m c 7 t) (iblk m c 8 t) (iblk m c 10 t) := by unfold dats; rfl
theorem after0_16 (c : Dev nD) (t : Fin (cfgM m).N) : (dats m 0 c).after 16 t = oAV (grid0.coords t) (iblk m c 1 t) (iblk m c 2 t) (iblk m c 7 t) (iblk m c 9 t) (iblk m c 11 t) := by unfold dats; rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d
theorem before0_4 (c : Dev nD) (t : Fin (cfgM m).N) (d) : (dats m 0 c).before 4 t d = iblk m c 4 t :=
  before0_4_of m (dats m 0 c) (A_eq m c 4) (after0_4 m c) t d
theorem before0_5 (c : Dev nD) (t : Fin (cfgM m).N) (d) : (dats m 0 c).before 5 t d = iblk m c 5 t :=
  before0_5_of m (dats m 0 c) (A_eq m c 5) (after0_5 m c) t d
theorem before0_6 (c : Dev nD) (t : Fin (cfgM m).N) (d) : (dats m 0 c).before 6 t d = iblk m c 6 t :=
  before0_6_of m (dats m 0 c) (A_eq m c 6) (after0_6 m c) t d
theorem before0_7 (c : Dev nD) (t : Fin (cfgM m).N) (d) : (dats m 0 c).before 7 t d = iblk m c 7 t :=
  before0_7_of m (dats m 0 c) (A_eq m c 7) (after0_7 m c) t d
theorem before0_8 (c : Dev nD) (t : Fin (cfgM m).N) (d) : (dats m 0 c).before 8 t d = iblk m c 8 t :=
  before0_8_of m (dats m 0 c) (A_eq m c 8) (after0_8 m c) t d
theorem before0_9 (c : Dev nD) (t : Fin (cfgM m).N) (d) : (dats m 0 c).before 9 t d = iblk m c 9 t :=
  before0_9_of m (dats m 0 c) (A_eq m c 9) (after0_9 m c) t d
theorem before0_10 (c : Dev nD) (t : Fin (cfgM m).N) (d) : (dats m 0 c).before 10 t d = iblk m c 10 t :=
  before0_10_of m (dats m 0 c) (A_eq m c 10) (after0_10 m c) t d
theorem before0_11 (c : Dev nD) (t : Fin (cfgM m).N) (d) : (dats m 0 c).before 11 t d = iblk m c 11 t :=
  before0_11_of m (dats m 0 c) (A_eq m c 11) (after0_11 m c) t d

end Cert.Proof.Kernel

end
-- ==== Proof.Kernel.Point.lean ====
/- The body at every grid point: the pipeline's body obligation. -/
module

public import proofs.«01_k».proof.Proof.Kernel.Data
public import Idealize.ShloMosaic.Lib.Pipeline.FrameBody
public import Idealize.ShloMosaic.Lib.Pipeline.FrameSuffix
public import Idealize.ShloMosaic.Lib.Claim
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at every point -/

abbrev st0_0 (t : Fin (cfgM m).N) := ((cfgM m).win 0).stage ((cfgM m).slots t 0)
abbrev st0_1 (t : Fin (cfgM m).N) := ((cfgM m).win 1).stage ((cfgM m).slots t 1)
abbrev st0_2 (t : Fin (cfgM m).N) := ((cfgM m).win 2).stage ((cfgM m).slots t 2)
abbrev st0_3 (t : Fin (cfgM m).N) := ((cfgM m).win 3).stage ((cfgM m).slots t 3)
abbrev st0_4 (t : Fin (cfgM m).N) := ((cfgM m).win 4).stage ((cfgM m).slots t 4)
abbrev st0_5 (t : Fin (cfgM m).N) := ((cfgM m).win 5).stage ((cfgM m).slots t 5)
abbrev st0_6 (t : Fin (cfgM m).N) := ((cfgM m).win 6).stage ((cfgM m).slots t 6)
abbrev st0_7 (t : Fin (cfgM m).N) := ((cfgM m).win 7).stage ((cfgM m).slots t 7)
abbrev st0_8 (t : Fin (cfgM m).N) := ((cfgM m).win 8).stage ((cfgM m).slots t 8)
abbrev st0_9 (t : Fin (cfgM m).N) := ((cfgM m).win 9).stage ((cfgM m).slots t 9)
abbrev st0_10 (t : Fin (cfgM m).N) := ((cfgM m).win 10).stage ((cfgM m).slots t 10)
abbrev st0_11 (t : Fin (cfgM m).N) := ((cfgM m).win 11).stage ((cfgM m).slots t 11)
abbrev st0_12 (t : Fin (cfgM m).N) := ((cfgM m).win 12).stage ((cfgM m).slots t 12)
abbrev st0_13 (t : Fin (cfgM m).N) := ((cfgM m).win 13).stage ((cfgM m).slots t 13)
abbrev st0_14 (t : Fin (cfgM m).N) := ((cfgM m).win 14).stage ((cfgM m).slots t 14)
abbrev st0_15 (t : Fin (cfgM m).N) := ((cfgM m).win 15).stage ((cfgM m).slots t 15)
abbrev st0_16 (t : Fin (cfgM m).N) := ((cfgM m).win 16).stage ((cfgM m).slots t 16)
abbrev bodyAt0 (t : Fin (cfgM m).N) : Prog (TpuEff nD τ sig (Elt F) Λ₀ .tc) PUnit :=
  cc0__body (grid0.coords t) tb0 (Memref.isWhole_whole _) tb1 (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (spec0_10.stage ((cfgM m).slots t 10)) (hstage0_10 (((cfgM m).slots t 10).cast nbuf0_10)) (spec0_11.stage ((cfgM m).slots t 11)) (hstage0_11 (((cfgM m).slots t 11).cast nbuf0_11)) (spec0_12.stage ((cfgM m).slots t 12)) (hstage0_12 (((cfgM m).slots t 12).cast nbuf0_12)) (spec0_13.stage ((cfgM m).slots t 13)) (hstage0_13 (((cfgM m).slots t 13).cast nbuf0_13)) (spec0_14.stage ((cfgM m).slots t 14)) (hstage0_14 (((cfgM m).slots t 14).cast nbuf0_14)) (spec0_15.stage ((cfgM m).slots t 15)) (hstage0_15 (((cfgM m).slots t 15).cast nbuf0_15)) (spec0_16.stage ((cfgM m).slots t 16)) (hstage0_16 (((cfgM m).slots t 16).cast nbuf0_16)) sc0 (Memref.isWhole_whole _) sc1 (Memref.isWhole_whole _)

def bodyPre (c : Dev nD) (t : Fin (cfgM m).N) : sProp 𝕄 :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d))
    ∗ (∃ d, owns (c : Thread nD τ) (st0_2 m t) fullShare ((dats m 0 c).before 2 t d))
    ∗ (∃ d, owns (c : Thread nD τ) (st0_3 m t) fullShare ((dats m 0 c).before 3 t d))
    ∗ (∃ d, owns (c : Thread nD τ) (st0_4 m t) fullShare ((dats m 0 c).before 4 t d))
    ∗ (∃ d, owns (c : Thread nD τ) (st0_5 m t) fullShare ((dats m 0 c).before 5 t d))
    ∗ (∃ d, owns (c : Thread nD τ) (st0_6 m t) fullShare ((dats m 0 c).before 6 t d))
    ∗ (∃ d, owns (c : Thread nD τ) (st0_7 m t) fullShare ((dats m 0 c).before 7 t d))
    ∗ (∃ d, owns (c : Thread nD τ) (st0_8 m t) fullShare ((dats m 0 c).before 8 t d))
    ∗ (∃ d, owns (c : Thread nD τ) (st0_9 m t) fullShare ((dats m 0 c).before 9 t d))
    ∗ (∃ d, owns (c : Thread nD τ) (st0_10 m t) fullShare ((dats m 0 c).before 10 t d))
    ∗ (∃ d, owns (c : Thread nD τ) (st0_11 m t) fullShare ((dats m 0 c).before 11 t d))
    ∗ (∃ d, owns (c : Thread nD τ) (st0_12 m t) fullShare ((dats m 0 c).before 12 t d))
    ∗ (∃ d, owns (c : Thread nD τ) (st0_13 m t) fullShare ((dats m 0 c).before 13 t d))
    ∗ (∃ d, owns (c : Thread nD τ) (st0_14 m t) fullShare ((dats m 0 c).before 14 t d))
    ∗ (∃ d, owns (c : Thread nD τ) (st0_15 m t) fullShare ((dats m 0 c).before 15 t d))
    ∗ (∃ d, owns (c : Thread nD τ) (st0_16 m t) fullShare ((dats m 0 c).before 16 t d)))
def bodyPost (c : Dev nD) (t : Fin (cfgM m).N) : sProp 𝕄 :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t)
    ∗ owns (c : Thread nD τ) (st0_2 m t) fullShare ((dats m 0 c).after 2 t)
    ∗ owns (c : Thread nD τ) (st0_3 m t) fullShare ((dats m 0 c).after 3 t)
    ∗ owns (c : Thread nD τ) (st0_4 m t) fullShare ((dats m 0 c).after 4 t)
    ∗ owns (c : Thread nD τ) (st0_5 m t) fullShare ((dats m 0 c).after 5 t)
    ∗ owns (c : Thread nD τ) (st0_6 m t) fullShare ((dats m 0 c).after 6 t)
    ∗ owns (c : Thread nD τ) (st0_7 m t) fullShare ((dats m 0 c).after 7 t)
    ∗ owns (c : Thread nD τ) (st0_8 m t) fullShare ((dats m 0 c).after 8 t)
    ∗ owns (c : Thread nD τ) (st0_9 m t) fullShare ((dats m 0 c).after 9 t)
    ∗ owns (c : Thread nD τ) (st0_10 m t) fullShare ((dats m 0 c).after 10 t)
    ∗ owns (c : Thread nD τ) (st0_11 m t) fullShare ((dats m 0 c).after 11 t)
    ∗ owns (c : Thread nD τ) (st0_12 m t) fullShare ((dats m 0 c).after 12 t)
    ∗ owns (c : Thread nD τ) (st0_13 m t) fullShare ((dats m 0 c).after 13 t)
    ∗ owns (c : Thread nD τ) (st0_14 m t) fullShare ((dats m 0 c).after 14 t)
    ∗ owns (c : Thread nD τ) (st0_15 m t) fullShare ((dats m 0 c).after 15 t)
    ∗ owns (c : Thread nD τ) (st0_16 m t) fullShare ((dats m 0 c).after 16 t))

theorem isFirst_iff : ∀ t : Fin grid0.N, isFirst (grid0.coords t) ↔ t.val = 0 := by decide +kernel

attribute [local irreducible] tbl iblk oU oM oV oAM oAV bcB

set_option maxHeartbeats 400000 in
theorem sound_body (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  unfold Phi
  iintro ⟨⟨S0, ⟨%g, S1, %hg⟩, ⟨T0, T1⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) tb0 (Memref.isWhole_whole _) tb1 (Memref.isWhole_whole _) (st0_0 m t) (hstage0_0 (((cfgM m).slots t 0).cast nbuf0_0)) (st0_1 m t) (hstage0_1 (((cfgM m).slots t 1).cast nbuf0_1)) (st0_2 m t) (hstage0_2 (((cfgM m).slots t 2).cast nbuf0_2)) (st0_3 m t) (hstage0_3 (((cfgM m).slots t 3).cast nbuf0_3)) (st0_4 m t) (hstage0_4 (((cfgM m).slots t 4).cast nbuf0_4)) (st0_5 m t) (hstage0_5 (((cfgM m).slots t 5).cast nbuf0_5)) (st0_6 m t) (hstage0_6 (((cfgM m).slots t 6).cast nbuf0_6)) (st0_7 m t) (hstage0_7 (((cfgM m).slots t 7).cast nbuf0_7)) (st0_8 m t) (hstage0_8 (((cfgM m).slots t 8).cast nbuf0_8)) (st0_9 m t) (hstage0_9 (((cfgM m).slots t 9).cast nbuf0_9)) (st0_10 m t) (hstage0_10 (((cfgM m).slots t 10).cast nbuf0_10)) (st0_11 m t) (hstage0_11 (((cfgM m).slots t 11).cast nbuf0_11)) (st0_12 m t) (hstage0_12 (((cfgM m).slots t 12).cast nbuf0_12)) (st0_13 m t) (hstage0_13 (((cfgM m).slots t 13).cast nbuf0_13)) (st0_14 m t) (hstage0_14 (((cfgM m).slots t 14).cast nbuf0_14)) (st0_15 m t) (hstage0_15 (((cfgM m).slots t 15).cast nbuf0_15)) (st0_16 m t) (hstage0_16 (((cfgM m).slots t 16).cast nbuf0_16)) sc0 (Memref.isWhole_whole _) sc1 (Memref.isWhole_whole _) (tbl m 0) (tbl m 1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) g (bcB m)
    (fun _ => bcB_eq m) (fun h => (hg (fun h0 => h ((isFirst_iff t).2 h0))).symm) _)
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [S0]; · iexact S0
  isplitl [S1]; · iexact S1
  iintro ⟨T0, T1, H0, H1, H2, H3, H4, H5, H6, H7, H8, H9, H10, H11, H12, H13, H14, H15, H16, S0, S1⟩
  isplitl [S0 S1 T0 T1 Hp]
  · isplitl [S0]; · iexact S0
    isplitl [S1]
    · unfold owns
      icases S1 with ⟨%f, %hf, S1⟩
      iexists f; isplitl [S1]; · iexact S1
      ipureintro; exact fun _ => hf
    isplitl [T0 T1]
    · isplitl [T0]; · iexact T0
      iexact T1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin (cfgM m).N) :
    defs₀ (F := F) .tc (cfgM m).body ((cfgM m).bodyArgs t ((cfgM m).slots t)) = bodyAt0 m t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Proof.Kernel

end
-- ==== Proof.Kernel.Frame.lean ====
/- The run of @main: every array of the call as the blocks make it, every other buffer as the lines leave it. -/
module

public import proofs.«01_k».proof.Proof.Kernel.Point
public import Idealize.ShloMosaic.Lib.Pipeline.FrameBody
public import Idealize.ShloMosaic.Lib.Pipeline.FrameSuffix
public import Idealize.ShloMosaic.Lib.Claim
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hin (c : Dev nD) : iprop(Pipeline.ΦA spec0 c ∗ Pipeline.ΦT pre0 (tbl m) c) ⊢ (dats m 0 c).Φ 0 := by
  rw [show (dats m 0 c).Φ 0 = Phi m c 0 from rfl, PhiT0_eq]
  unfold Pipeline.ΦA Phi own
  rw [scopedRest0_eq, show sc0.view.set = Finset.univ from (Memref.isWhole_whole _).set_eq_univ, show sc1.view.set = Finset.univ from (Memref.isWhole_whole _).set_eq_univ]
  iintro ⟨⟨⟨S0, ⟨%f, S1⟩⟩, Hp⟩, HT⟩
  isplitl [S0]; · iexact S0
  isplitl [S1]
  · iexists f; isplitl [S1]; · iexact S1
    ipureintro; exact fun h => absurd rfl h
  isplitl [HT]; · iexact HT
  iexact Hp

theorem hout (c : Dev nD) : (dats m 0 c).Φ (Fin.last (cfgM m).N) ⊢ Pipeline.ΦA spec0 c := by
  rw [show (dats m 0 c).Φ (Fin.last (cfgM m).N) = Phi m c (cfgM m).N from rfl]
  unfold Pipeline.ΦA Phi own
  rw [scopedRest0_eq, show sc0.view.set = Finset.univ from (Memref.isWhole_whole _).set_eq_univ, show sc1.view.set = Finset.univ from (Memref.isWhole_whole _).set_eq_univ]
  iintro ⟨S0, ⟨%f, S1, -⟩, -, Hp⟩
  isplitl [S0 S1]
  · isplitl [S0]; · iexact S0
    iexists f; iexact S1
  iexact Hp

/-! ## The run -/

set_option backward.isDefEq.respectTransparency.types false in
set_option maxHeartbeats 800000 in
/-- Every run of @main ends with the call's arrays as the blocks make them, every other buffer as the lines leave it, and every
    semaphore counter at zero. -/
theorem run_main : θ_run defs (onTc (τ := τ) (main (F := F))) (s₀ m ρ)
    (fun r => Pipeline.FramePost (Pipeline.pin pcfgs (fun _ => adm m)) (dats m) 0 (Pipeline.afterTail pcfgs (fun _ => adm m) (dats m) 0 (V0 m) [hostOps1]) r ∧ r.2.sem = fun _ => 0) :=
  Pipeline.θ_run_frameP_around_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hin := hin m) (hout := hout m)

/-- An argument the call stages no window of ends as launched: no line writes it. -/
theorem W_arg (c : Dev nD) (b : Ref sig .tc) (h0 : b ∉ hostOps0_W) (h1 : b ∉ hostOps1_W) (hw : ∀ w, Pipeline.arrRef spec0 w ≠ b) :
    Pipeline.afterTail pcfgs (fun _ => adm m) (dats m) 0 (V0 m) [hostOps1] c b = m ((c : Thread nD τ).loc b) := by
  unfold Pipeline.afterTail
  rw [List.flatten_cons, List.flatten_nil, List.append_nil,
    StableHlo.after_of_writes_sub (r := b) hostOps1 _ hostOps1_writes h1,
    Pipeline.withArrays_of_ne _ c (V0 m c) _ b hw]
  exact V_arg m c b h0

/-- What every run keeps of the arguments. -/
theorem kept (r : PUnit × MemSt nD τ sig (Elt F))
    (h : Pipeline.FramePost (Pipeline.pin pcfgs (fun _ => adm m)) (dats m) 0 (Pipeline.afterTail pcfgs (fun _ => adm m) (dats m) 0 (V0 m) [hostOps1]) r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := fun c =>
  ⟨((h c).2 main_arg0 (Pipeline.mem_restRefs_of main_arg0 (by decide) (by exact (by decide : ∀ w, Pipeline.arrRef spec0 w ≠ main_arg0)))).trans (W_arg m c main_arg0 (by decide +kernel) (by decide +kernel) (by exact (by decide : ∀ w, Pipeline.arrRef spec0 w ≠ main_arg0))),
    ((h c).2 main_arg1 (Pipeline.mem_restRefs_of main_arg1 (by decide) (by exact (by decide : ∀ w, Pipeline.arrRef spec0 w ≠ main_arg1)))).trans (W_arg m c main_arg1 (by decide +kernel) (by decide +kernel) (by exact (by decide : ∀ w, Pipeline.arrRef spec0 w ≠ main_arg1))),
    ((h c).1 2).trans (((dats m 0 c).arrAt_in 2 rfl _).trans ((A_eq m c 2).trans (V_arg m c main_arg2 (by decide +kernel)))),
    ((h c).2 main_arg3 (Pipeline.mem_restRefs_of main_arg3 (by decide) (by exact (by decide : ∀ w, Pipeline.arrRef spec0 w ≠ main_arg3)))).trans (W_arg m c main_arg3 (by decide +kernel) (by decide +kernel) (by exact (by decide : ∀ w, Pipeline.arrRef spec0 w ≠ main_arg3))),
    ((h c).1 0).trans (((dats m 0 c).arrAt_in 0 rfl _).trans ((A_eq m c 0).trans (V_arg m c main_arg4 (by decide +kernel)))),
    ((h c).2 main_arg5 (Pipeline.mem_restRefs_of main_arg5 (by decide) (by exact (by decide : ∀ w, Pipeline.arrRef spec0 w ≠ main_arg5)))).trans (W_arg m c main_arg5 (by decide +kernel) (by decide +kernel) (by exact (by decide : ∀ w, Pipeline.arrRef spec0 w ≠ main_arg5))),
    ((h c).1 1).trans (((dats m 0 c).arrAt_in 1 rfl _).trans ((A_eq m c 1).trans (V_arg m c main_arg6 (by decide +kernel)))),
    ((h c).1 4).trans (((dats m 0 c).arrAt_in 4 rfl _).trans ((A_eq m c 4).trans (V_arg m c main_arg7 (by decide +kernel)))),
    ((h c).1 5).trans (((dats m 0 c).arrAt_in 5 rfl _).trans ((A_eq m c 5).trans (V_arg m c main_arg8 (by decide +kernel)))),
    ((h c).2 main_arg9 (Pipeline.mem_restRefs_of main_arg9 (by decide) (by exact (by decide : ∀ w, Pipeline.arrRef spec0 w ≠ main_arg9)))).trans (W_arg m c main_arg9 (by decide +kernel) (by decide +kernel) (by exact (by decide : ∀ w, Pipeline.arrRef spec0 w ≠ main_arg9))),
    ((h c).1 3).trans (((dats m 0 c).arrAt_in 3 rfl _).trans ((A_eq m c 3).trans (V_arg m c main_arg10 (by decide +kernel)))),
    ((h c).2 main_arg11 (Pipeline.mem_restRefs_of main_arg11 (by decide) (by exact (by decide : ∀ w, Pipeline.arrRef spec0 w ≠ main_arg11)))).trans (W_arg m c main_arg11 (by decide +kernel) (by decide +kernel) (by exact (by decide : ∀ w, Pipeline.arrRef spec0 w ≠ main_arg11)))⟩

/-- The frame: every run ends with the arguments unchanged and every semaphore counter at zero. -/
theorem frame_k : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨kept m r h.1, h.2⟩) (run_main m ρ)

end Cert.Proof.Kernel

end
-- ==== Proof.KernelIdeal.Words.lean ====
/- The words that place the kernel's accesses: a floor division as the kernel computes it, the rows that one tensor's
   learning rate covers inside a tile, and the check that those rows lie inside the scratch, for every pair of offsets. -/
module

public import proofs.«01_k».proof.Proof.Gen.KernelIdeal
public import proofs.«01_k».proof.Proof.Gen.KernelIdeal.Skeleton
public import Idealize.ShloMosaic.Lib.LoopRemainder
public import Idealize.ShloMosaic.Init

@[expose] public section

set_option maxRecDepth 16384

noncomputable section

namespace Cert.Proof.KernelIdeal

open Cert.KernelIdeal
open Idealize.ShloMosaic Idealize.ShloMosaic.TcCoe

/-- A floor division of a word by a positive word, as the kernel computes it: the truncated quotient, less one where the
    signs differ and the remainder is not zero. -/
def floorDiv (x c : BitVec 32) : BitVec 32 :=
  Scalar.select (Scalar.andi
    (Scalar.cmpi .ne (Scalar.subi (Scalar.extui (Scalar.cmpi .sgt x 0#32)) (Scalar.extui (Scalar.cmpi .slt x 0#32)))
      (Scalar.subi (Scalar.extui (Scalar.cmpi .sgt c 0#32)) (Scalar.extui (Scalar.cmpi .slt c 0#32))))
    (Scalar.cmpi .ne (Scalar.remsi x c) 0#32)) (Scalar.subi (Scalar.divsi x c) 1#32) (Scalar.divsi x c)

/-- Of a word that is not negative the floor division is the quotient. -/
theorem floorDiv_eq {x c : BitVec 32} {e d : Int} (hx : Affine.IsInt x e) (hc : Affine.IsInt c d) (h0 : 0 ≤ e) (hd : 0 < d) :
    Affine.IsInt (floorDiv x c) (e / d) := by
  have z : Affine.IsInt (0#32) 0 := Affine.ofNat 0 ⟨rfl, by decide⟩
  have hq := Affine.divsi hx hc ⟨rfl, h0, hd⟩
  have hr := Affine.remsi hx hc ⟨rfl, h0, hd⟩
  have c1 := Affine.extui_holds (Affine.sgt_holds hc z hd) rfl
  have c0 := Affine.extui_fails (Affine.slt_fails hc z (by omega)) rfl
  have cs := Affine.subi c1 c0 (e := 1) ⟨by omega, by omega, by omega⟩
  have x0 := Affine.extui_fails (Affine.slt_fails hx z (by omega)) rfl
  have o : Affine.IsInt (1#32) 1 := Affine.ofNat 1 ⟨rfl, by decide⟩
  have hq1 : Affine.IsInt (Scalar.subi (Scalar.divsi x c) 1#32) (e / d - 1) := by
    have hb := Affine.word_range (Scalar.divsi x c)
    have : (Scalar.divsi x c).toInt = e / d := by have h := hq; unfold Affine.IsInt at h; exact h
    have hn : 0 ≤ e / d := Int.ediv_nonneg h0 hd.le
    exact Affine.subi hq o ⟨rfl, by omega, by omega⟩
  unfold floorDiv
  by_cases hz : e = 0
  · refine Affine.select_fails (Affine.andi_fails_right trivial (Affine.ne_fails hr z (by rw [hz]; simp))) hq1 hq rfl
  · have x1 := Affine.extui_holds (Affine.sgt_holds hx z (by omega)) rfl
    have xs := Affine.subi x1 x0 (e := 1) ⟨by omega, by omega, by omega⟩
    exact Affine.select_fails (Affine.andi_fails_left (Affine.ne_fails xs cs rfl) trivial) hq1 hq rfl

theorem toInt_of_isInt {x : BitVec 32} {e : Int} (h : Affine.IsInt x e) : x.toInt = e := by
  unfold Affine.IsInt at h; exact h

/-- The word of the tile's first element. -/
def elem0 (i : grid0.Coords) : BitVec 32 := Scalar.muli (Scalar.muli (BitVec.ofNat 32 (i 0).val) 3584#32) 128#32

/-- An offset relative to the tile's first element, clipped to the tile. -/
def clipW (i : grid0.Coords) (v : BitVec 32) : BitVec 32 :=
  Scalar.minsi 458752#32 (Scalar.maxsi 0#32 (Scalar.subi v (elem0 i)))

/-- The clipped offset as an integer. -/
def clipI (i : grid0.Coords) (v : BitVec 32) : Int := (clipW i v).toInt

theorem clipI_range (i : grid0.Coords) (v : BitVec 32) : 0 ≤ clipI i v ∧ clipI i v ≤ 458752 := by
  have h1 : Affine.IsInt (458752#32) 458752 := Affine.ofNat 458752 ⟨rfl, by decide⟩
  have h0 : Affine.IsInt (0#32) 0 := Affine.ofNat 0 ⟨rfl, by decide⟩
  have := toInt_of_isInt (Affine.minsi h1 (Affine.maxsi h0 (Affine.word (Scalar.subi v (elem0 i))) rfl) rfl)
  unfold clipI clipW
  omega

theorem clipW_isInt (i : grid0.Coords) (v : BitVec 32) : Affine.IsInt (clipW i v) (clipI i v) := Affine.word _

/-- The first and the last-but-one piece of 1024 elements that a tensor's clipped range touches. -/
def firstW (i : grid0.Coords) (v17 : BitVec 32) : BitVec 32 := floorDiv (clipW i v17) 1024#32
def lastW (i : grid0.Coords) (v23 : BitVec 32) : BitVec 32 :=
  floorDiv (Scalar.subi (Scalar.addi (clipW i v23) 1024#32) 1#32) 1024#32

theorem firstW_isInt (i : grid0.Coords) (v : BitVec 32) : Affine.IsInt (firstW i v) (clipI i v / 1024) :=
  floorDiv_eq (clipW_isInt i v) (Affine.ofNat 1024 ⟨rfl, by decide⟩) (clipI_range i v).1 (by decide)

theorem lastW_isInt (i : grid0.Coords) (v : BitVec 32) : Affine.IsInt (lastW i v) ((clipI i v + 1023) / 1024) := by
  have h := clipI_range i v
  have h1 : Affine.IsInt (1024#32) 1024 := Affine.ofNat 1024 ⟨rfl, by decide⟩
  have o : Affine.IsInt (1#32) 1 := Affine.ofNat 1 ⟨rfl, by decide⟩
  have ha := Affine.addi (clipW_isInt i v) h1 ⟨rfl, by omega, by omega⟩
  have hs := Affine.subi ha o (e := clipI i v + 1023) ⟨by omega, by omega, by omega⟩
  exact floorDiv_eq hs h1 (by omega) (by decide)

theorem t2_loop_eq (i : grid0.Coords) (v17 v23 : BitVec 32) :
    k0_t2_loop i v17 v23 = ⟨firstW i v17, Scalar.addi (firstW i v17)
      (Scalar.muli (Scalar.divsi (Scalar.subi (lastW i v23) (firstW i v17)) 1#32) 1#32), 1#32⟩ := rfl

theorem t3_loop_eq (i : grid0.Coords) (v17 v23 : BitVec 32) :
    k0_t3_loop i v17 v23 = ⟨Scalar.addi (firstW i v17)
      (Scalar.muli (Scalar.divsi (Scalar.subi (lastW i v23) (firstW i v17)) 1#32) 1#32),
      Scalar.addi (firstW i v17) (Scalar.subi (lastW i v23) (firstW i v17)), 1#32⟩ := rfl

/-- The loop over the pieces of a tensor's range runs from the first piece to the last. -/
theorem t2_ub (i : grid0.Coords) (v17 v23 : BitVec 32) :
    Affine.IsInt (k0_t2_loop i v17 v23).ub ((clipI i v23 + 1023) / 1024) := by
  have h := clipI_range i v17
  have h' := clipI_range i v23
  have hs := Affine.subi (lastW_isInt i v23) (firstW_isInt i v17) ⟨rfl, by omega, by omega⟩
  rw [t2_loop_eq]
  show Affine.IsInt (Scalar.addi _ (Scalar.muli (Scalar.divsi _ 1#32) 1#32)) _
  rw [Scalar.muli_divsi_one]
  exact Affine.addi (firstW_isInt i v17) hs ⟨by omega, by omega, by omega⟩

theorem t2_trips (i : grid0.Coords) (v17 v23 : BitVec 32) :
    (k0_t2_loop i v17 v23).trips = ((clipI i v23 + 1023) / 1024 - clipI i v17 / 1024).toNat := by
  show Scf.trips (k0_t2_loop i v17 v23).lb (k0_t2_loop i v17 v23).ub (k0_t2_loop i v17 v23).st = _
  unfold Scf.trips
  have h1 : (k0_t2_loop i v17 v23).st.toInt = 1 := (by decide : (1#32).toInt = 1)
  have h2 : (k0_t2_loop i v17 v23).lb.toInt = clipI i v17 / 1024 := toInt_of_isInt (firstW_isInt i v17)
  rw [h1, toInt_of_isInt (t2_ub i v17 v23), h2]
  omega

/-- The piece that trip `k` covers. -/
def pieceI (i : grid0.Coords) (v17 : BitVec 32) (k : ℕ) : ℕ := (clipI i v17 / 1024).toNat + k

theorem pieceI_lt (i : grid0.Coords) (v17 v23 : BitVec 32) (k : Fin (k0_t2_loop i v17 v23).trips) :
    pieceI i v17 k.val < 448 := by
  have hk := k.isLt
  have ht := t2_trips i v17 v23
  have h := clipI_range i v17
  have h' := clipI_range i v23
  unfold pieceI
  omega

theorem iv_isInt (i : grid0.Coords) (v17 v23 : BitVec 32) (k : Fin (k0_t2_loop i v17 v23).trips) :
    Affine.IsInt (Scf.iv (firstW i v17) 1#32 k) (pieceI i v17 k.val) := by
  have hk := pieceI_lt i v17 v23 k
  have h := clipI_range i v17
  have o : Affine.IsInt (1#32) 1 := Affine.ofNat 1 ⟨rfl, by decide⟩
  unfold pieceI at hk ⊢
  exact Affine.iv (firstW_isInt i v17) o k.val ⟨by push_cast; omega, by push_cast; omega, by push_cast; omega⟩

theorem mult1_isInt (i : grid0.Coords) (v17 v23 : BitVec 32) (k : Fin (k0_t2_loop i v17 v23).trips) :
    Affine.IsInt (k0_mult1 i v17 v23 k) (8 * pieceI i v17 k.val) := by
  have hk := pieceI_lt i v17 v23 k
  have e : Affine.IsInt (8#32) 8 := Affine.ofNat 8 ⟨rfl, by decide⟩
  exact Affine.muli (iv_isInt i v17 v23 k) e ⟨by omega, by omega, by omega⟩

theorem toNat_of_isInt {x : BitVec 32} {n : ℕ} (h : Affine.IsInt x n) : x.toNat = n := by
  have h' := toInt_of_isInt h
  have hc := BitVec.toInt_eq_toNat_cond x
  have hl := x.isLt
  split at hc <;> omega

theorem mult1_toNat (i : grid0.Coords) (v17 v23 : BitVec 32) (k : Fin (k0_t2_loop i v17 v23).trips) :
    (k0_mult1 i v17 v23 k).toNat = 8 * pieceI i v17 k.val :=
  toNat_of_isInt (by have := mult1_isInt i v17 v23 k; push_cast; exact this)

theorem off4_eq (i : grid0.Coords) (v17 v23 : BitVec 32) (k : Fin (k0_t2_loop i v17 v23).trips) :
    k0_off4 i v17 v23 k = ![8 * pieceI i v17 k.val, 0] := by
  rw [← mult1_toNat]; rfl

/-- The kernel's check of a tensor's two offsets holds whatever the offsets are. -/
theorem chk1 (i : grid0.Coords) (v17 v23 : BitVec 32) : k0_chk1 i v17 v23 := by
  refine ⟨?_, fun k => ?_, fun k a => ?_, ?_, fun k => ?_, fun k => ?_⟩
  · have h := clipI_range i v17
    have h' := clipI_range i v23
    have ht := t2_trips i v17 v23
    refine ⟨(by decide : (0:Int) < (1#32).toInt), ?_⟩
    have h1 : (k0_t2_loop i v17 v23).st.toInt = 1 := (by decide : (1#32).toInt = 1)
    have h2 : (k0_t2_loop i v17 v23).lb.toInt = clipI i v17 / 1024 := toInt_of_isInt (firstW_isInt i v17)
    have ht' : Scf.trips (k0_t2_loop i v17 v23).lb (k0_t2_loop i v17 v23).ub (k0_t2_loop i v17 v23).st
      = ((clipI i v23 + 1023) / 1024 - clipI i v17 / 1024).toNat := ht
    rw [ht', h1, h2]
    have hp : (2:Int) ^ (32 - 1) = 2147483648 := by decide
    rw [hp]
    omega
  · rw [mult1_toNat]; exact Dvd.intro _ rfl
  · have hk := pieceI_lt i v17 v23 k
    rw [off4_eq]
    fin_cases a
    · show 8 * pieceI i v17 k.val + 8 ≤ 3584
      omega
    · show 0 + 128 ≤ 128
      omega
  · rw [t3_loop_eq]; exact Scf.rem_ok _ _
  · exact (Scf.rem_no_trip _ _ k).elim
  · exact (Scf.rem_no_trip _ _ k).elim

theorem off6_eq : ∀ k : Fin k0_t4_loop.trips, k0_off6 k = ![64 * k.val, 0] := by decide +kernel
theorem off9_eq : ∀ k : Fin k0_t4_loop.trips, k0_off9 k = ![4 * k.val, 0] := by decide +kernel
theorem t4_trips : k0_t4_loop.trips = 56 := by decide +kernel
theorem t1_trips : k0_t1_loop.trips = 96 := by decide +kernel
theorem t5_trips : k0_t5_loop.trips = 255 := by decide +kernel

end Cert.Proof.KernelIdeal

end
-- ==== Proof.KernelIdeal.Chunk.lean ====
/- What one trip of the kernel's chunk loop computes from the sixty-four rows it reads: the dequantised moments, the
   updated moments, the update, the per-block maxima and the requantised codes, as compositions of the kernel's own
   payloads; and the triple of one trip. -/
module

public import proofs.«01_k».proof.Proof.KernelIdeal.Words
public import proofs.«01_k».proof.Proof.Gen.KernelIdeal.Loops
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The chunk's sixty-four rows of a block. -/
def rows64 {e} (x : Vec F S3584x128 e) (k : Fin k0_t4_loop.trips) : Vec F S64x128 e :=
  View.ld x (Rect.unit (k0_off6 k) S64x128.size (k0_off6_inb k))
/-- A row of a 256-entry table laid out as two rows of 128. -/
def row0 (x : Vec F S2x128 .f32) : Vec F S1x128 .f32 := View.ld x (Rect.unit ![0, 0] S1x128.size inb_S2x128_S1x128_0_0)
def row1 (x : Vec F S2x128 .f32) : Vec F S1x128 .f32 := View.ld x (Rect.unit ![1, 0] S1x128.size inb_S2x128_S1x128_1_0)
/-- The chunk's `r`-th moment scale, and its `r`-th gradient scale. -/
def s7 (x : Vec F S1568 .f32) (i : grid0.Coords) (k : Fin k0_t4_loop.trips) (r : Fin 4) : Elt F .f32 :=
  View.ld x (Rect.unit (k0_off7 i k (BitVec.ofNat 32 r.val)) S1.size (k0_off7_inb i k r)) (Shape.Idx.first (s := S1) (by rw [show S1.numel = 1 from numel1_S1]; exact Nat.one_pos))
def s8 (x : Vec F S6272 .f32) (i : grid0.Coords) (k : Fin k0_t4_loop.trips) (r : Fin 16) : Elt F .f32 :=
  View.ld x (Rect.unit (k0_off8 i k (BitVec.ofNat 32 r.val)) S1.size (k0_off8_inb i k r)) (Shape.Idx.first (s := S1) (by rw [show S1.numel = 1 from numel1_S1]; exact Nat.one_pos))
/-- Entry `k` of a quantisation map, and entry `k + 1`. -/
def q10 (x : Vec F S256 .f32) (k : Fin k0_t5_loop.trips) : Elt F .f32 :=
  View.ld x (Rect.unit (k0_off10 k) S1.size (k0_off10_inb k)) (Shape.Idx.first (s := S1) (by rw [show S1.numel = 1 from numel1_S1]; exact Nat.one_pos))
def q11 (x : Vec F S256 .f32) (k : Fin k0_t5_loop.trips) : Elt F .f32 :=
  View.ld x (Rect.unit (k0_off11 k) S1.size (k0_off11_inb k)) (Shape.Idx.first (s := S1) (by rw [show S1.numel = 1 from numel1_S1]; exact Nat.one_pos))
/-- One of the two rows of powers kept in scratch. -/
def bc0 (x : Vec F S2x8x128 .f32) : Vec F S1x8x128 .f32 := View.ld x (Rect.unit ![0, 0, 0] S1x8x128.size inb_S2x8x128_S1x8x128_0_0_0)
def bc1 (x : Vec F S2x8x128 .f32) : Vec F S1x8x128 .f32 := View.ld x (Rect.unit ![1, 0, 0] S1x8x128.size inb_S2x8x128_S1x8x128_1_0_0)

/-- The first moment's codes looked up in its table. -/
def lookM (v55 : Vec F S64x128 .i8) (v58 v62 : Vec F S1x128 .f32) : FVec F S64x128 .f32 :=
  k0_pay96 (k0_pay79 v58) (k0_pay81 (k0_pay78 v55) v58 v62) (k0_pay82 (k0_pay78 v55) v58 v62) (k0_pay83 (k0_pay78 v55) v58 v62)
    (k0_pay87 (k0_pay79 v58) (k0_pay80 v62) (k0_pay85 (k0_pay78 v55)) (k0_pay86 (k0_pay78 v55)))
    (k0_pay88 (k0_pay78 v55) (k0_pay79 v58) (k0_pay80 v62)) (k0_pay89 (k0_pay78 v55) (k0_pay79 v58) (k0_pay80 v62))
    (k0_pay90 (k0_pay78 v55) (k0_pay79 v58) (k0_pay80 v62)) (k0_pay93 (k0_pay78 v55)) (k0_pay94 (k0_pay78 v55) (k0_pay80 v62))
    (k0_pay95 (k0_pay78 v55))
/-- The old first moment. -/
def mOld (v55 : Vec F S64x128 .i8) (v58 v62 : Vec F S1x128 .f32) (s : Fin 4 → Elt F .f32) : FVec F S64x128 .f32 :=
  k0_pay113 (lookM v55 v58 v62) (s 0) (s 1) (s 2) (s 3)
/-- The old second moment. -/
def vOld (v164 : Vec F S64x128 .i8) (v167 v171 : Vec F S1x128 .f32) (s : Fin 4 → Elt F .f32) : FVec F S64x128 .f32 :=
  k0_pay114 (k0_pay98 v167) (k0_pay99 v171) (k0_pay100 v164 v167 v171) (k0_pay101 v164 v167 v171)
    (k0_pay107 (k0_pay98 v167) (k0_pay104 v164) (k0_pay105 v164 v171) (k0_pay106 v164))
    (k0_pay108 (k0_pay97 v164) (k0_pay98 v167) (k0_pay99 v171)) (k0_pay109 (k0_pay97 v164) (k0_pay98 v167) (k0_pay99 v171))
    (k0_pay110 (k0_pay97 v164) (k0_pay98 v167) (k0_pay99 v171)) (k0_pay111 (k0_pay97 v164) (k0_pay98 v167) (k0_pay99 v171))
    (k0_pay112 (k0_pay97 v164)) (s 0) (s 1) (s 2) (s 3)
/-- The updated first moment. -/
def mNew (m : FVec F S64x128 .f32) (v309 : Vec F S64x128 .fp8e5m2) (g : Fin 16 → Elt F .f32) : FVec F S64x128 .f32 :=
  k0_pay128 m (k0_pay115 v309) (k0_pay116 (g 0)) (k0_pay117 (g 1)) (k0_pay118 (g 2)) (k0_pay119 (g 3)) (k0_pay120 (g 4)) (k0_pay121 (g 5))
    (k0_pay122 (g 6)) (k0_pay123 (g 7)) (k0_pay124 (g 8)) (k0_pay125 (g 9)) (k0_pay126 (g 10)) (g 11) (g 12) (g 13) (g 14) (g 15)
/-- The updated second moment. -/
def vNew (v : FVec F S64x128 .f32) (v309 : Vec F S64x128 .fp8e5m2) (g : Fin 16 → Elt F .f32) : FVec F S64x128 .f32 :=
  k0_pay129 v (k0_pay115 v309) (k0_pay116 (g 0)) (k0_pay117 (g 1)) (k0_pay118 (g 2)) (k0_pay119 (g 3)) (k0_pay120 (g 4)) (k0_pay121 (g 5))
    (k0_pay122 (g 6)) (k0_pay123 (g 7)) (k0_pay124 (g 8)) (k0_pay125 (g 9)) (k0_pay126 (g 10)) (g 11) (g 12) (g 13) (g 14) (g 15)
/-- The two moments over their correction. -/
def mHat (m : FVec F S64x128 .f32) (v309 : Vec F S64x128 .fp8e5m2) (g : Fin 16 → Elt F .f32) (b : Vec F S1x8x128 .f32) : FVec F S64x128 .f32 :=
  k0_pay130 m (k0_pay115 v309) (k0_pay116 (g 0)) (k0_pay117 (g 1)) (k0_pay118 (g 2)) (k0_pay119 (g 3)) (k0_pay120 (g 4)) (k0_pay121 (g 5))
    (k0_pay122 (g 6)) (k0_pay123 (g 7)) (k0_pay124 (g 8)) (k0_pay125 (g 9)) (k0_pay126 (g 10)) (g 11) (g 12) (g 13) (g 14) (g 15) b
def vHat (v : FVec F S64x128 .f32) (v309 : Vec F S64x128 .fp8e5m2) (g : Fin 16 → Elt F .f32) (b : Vec F S1x8x128 .f32) : FVec F S64x128 .f32 :=
  k0_pay131 v (k0_pay115 v309) (k0_pay116 (g 0)) (k0_pay117 (g 1)) (k0_pay118 (g 2)) (k0_pay119 (g 3)) (k0_pay120 (g 4)) (k0_pay121 (g 5))
    (k0_pay122 (g 6)) (k0_pay123 (g 7)) (k0_pay124 (g 8)) (k0_pay125 (g 9)) (k0_pay126 (g 10)) (g 11) (g 12) (g 13) (g 14) (g 15) b

/-- The requantised codes' counts after `n` comparisons, of the first moment and of the second. -/
def cntM (mn : FVec F S64x128 .f32) (q : Vec F S256 .f32) : ℕ → IVec S64x128 32
  | 0 => k0_pay8
  | n + 1 => if h : n < k0_t5_loop.trips then
      k0_pay9 (k0_pay137 mn) (k0_pay143 mn (k0_pay139 mn)) (k0_pay149 mn) (k0_pay155 mn) (cntM mn q n) (q10 q ⟨n, h⟩) (q11 q ⟨n, h⟩)
    else cntM mn q n
def cntV (vn : FVec F S64x128 .f32) (q : Vec F S256 .f32) : ℕ → IVec S64x128 32
  | 0 => k0_pay8
  | n + 1 => if h : n < k0_t5_loop.trips then
      k0_pay10 (k0_pay138 vn) (k0_pay144 vn (k0_pay140 vn)) (k0_pay150 vn) (k0_pay156 vn) (cntV vn q n) (q10 q ⟨n, h⟩) (q11 q ⟨n, h⟩)
    else cntV vn q n

theorem cntM_succ (mn : FVec F S64x128 .f32) (q : Vec F S256 .f32) (n : ℕ) (h : n < k0_t5_loop.trips) : cntM mn q (n + 1)
    = k0_pay9 (k0_pay137 mn) (k0_pay143 mn (k0_pay139 mn)) (k0_pay149 mn) (k0_pay155 mn) (cntM mn q n) (q10 q ⟨n, h⟩) (q11 q ⟨n, h⟩) :=
  dif_pos h
theorem cntV_succ (vn : FVec F S64x128 .f32) (q : Vec F S256 .f32) (n : ℕ) (h : n < k0_t5_loop.trips) : cntV vn q (n + 1)
    = k0_pay10 (k0_pay138 vn) (k0_pay144 vn (k0_pay140 vn)) (k0_pay150 vn) (k0_pay156 vn) (cntV vn q n) (q10 q ⟨n, h⟩) (q11 q ⟨n, h⟩) :=
  dif_pos h

/-- The chunk's updated moments from the blocks of a tile. -/
def cM (i : grid0.Coords) (k : Fin k0_t4_loop.trips) (x3 : Vec F S1568 .f32) (x5 : Vec F S6272 .f32) (x10 : Vec F S3584x128 .fp8e5m2)
    (x11 : Vec F S3584x128 .i8) (x13 : Vec F S2x128 .f32) : FVec F S64x128 .f32 :=
  mNew (mOld (rows64 x11 k) (row0 x13) (row1 x13) (s7 x3 i k)) (rows64 x10 k) (s8 x5 i k)
def cV (i : grid0.Coords) (k : Fin k0_t4_loop.trips) (x4 : Vec F S1568 .f32) (x5 : Vec F S6272 .f32) (x10 : Vec F S3584x128 .fp8e5m2)
    (x12 : Vec F S3584x128 .i8) (x14 : Vec F S2x128 .f32) : FVec F S64x128 .f32 :=
  vNew (vOld (rows64 x12 k) (row0 x14) (row1 x14) (s7 x4 i k)) (rows64 x10 k) (s8 x5 i k)
/-- The chunk's update. -/
def cU (i : grid0.Coords) (k : Fin k0_t4_loop.trips) (x3 x4 : Vec F S1568 .f32) (x5 : Vec F S6272 .f32) (x9 : Vec F S3584x128 .f32)
    (x10 : Vec F S3584x128 .fp8e5m2) (x11 x12 : Vec F S3584x128 .i8) (x13 x14 : Vec F S2x128 .f32) (x20 : Vec F S3584x128 .f32)
    (x21 : Vec F S2x8x128 .f32) : FVec F S64x128 .f32 :=
  k0_pay132 (mHat (mOld (rows64 x11 k) (row0 x13) (row1 x13) (s7 x3 i k)) (rows64 x10 k) (s8 x5 i k) (bc0 x21))
    (vHat (vOld (rows64 x12 k) (row0 x14) (row1 x14) (s7 x4 i k)) (rows64 x10 k) (s8 x5 i k) (bc1 x21))
    (rows64 x20 k) (Scalar.ofBits .f32 0x00000000#32) (rows64 x9 k)
/-- The chunk's four rows of block maxima, of each moment. -/
def amM (mn : FVec F S64x128 .f32) : FVec F S4x128 .f32 :=
  k0_pay6 (k0_pay135 mn) (k0_pay141 (k0_pay139 mn)) (k0_pay147 mn) (k0_pay153 mn)
def amV (vn : FVec F S64x128 .f32) : FVec F S4x128 .f32 :=
  k0_pay7 (k0_pay136 vn) (k0_pay142 (k0_pay140 vn)) (k0_pay148 vn) (k0_pay154 vn)
/-- The chunk's codes, of each moment. -/
def codM (mn : FVec F S64x128 .f32) (q : Vec F S256 .f32) : Vec F S64x128 .i8 := k0_pay11 (cntM mn q k0_t5_loop.trips)
def codV (vn : FVec F S64x128 .f32) (q : Vec F S256 .f32) : Vec F S64x128 .i8 := k0_pay12 (cntV vn q k0_t5_loop.trips)

/-- The comparison loop carries the two counts. -/
theorem st5_eq (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (mn vn : FVec F S64x128 .f32)
    (f7 : BufTy.Contents (Elt F) arg7.view.ty) (f8 : BufTy.Contents (Elt F) arg8.view.ty) (n : ℕ) :
    st_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay137 mn) (k0_pay138 vn) (k0_pay143 mn (k0_pay139 mn)) (k0_pay144 vn (k0_pay140 vn))
      (k0_pay149 mn) (k0_pay150 vn) (k0_pay155 mn) (k0_pay156 vn) f7 f8 (k0_pay8, k0_pay8) n
    = (cntM mn (arg7.view.read (Elt F) f7) n, cntV vn (arg8.view.read (Elt F) f8) n) := by
  induction n with
  | zero => rfl
  | succ n ih =>
    rw [st_k0_t5.eq_2, ih]
    unfold st_k0_t5Step
    by_cases h : n < k0_t5_loop.trips
    · rw [dif_pos h, cntM_succ _ _ n h, cntV_succ _ _ n h]
      unfold tripR_k0_t5 trip_k0_t5
      rfl
    · rw [dif_neg h, show cntM mn (arg7.view.read (Elt F) f7) (n + 1) = _ from dif_neg h, show cntV vn (arg8.view.read (Elt F) f8) (n + 1) = _ from dif_neg h]

/-- A buffer's cells, whole. -/
abbrev own (c : Dev nD) {sp} {s} {e} (x : Memref sig .tc sp s e) (f : BufTy.Contents (Elt F) x.view.ty) : sProp (MT nD τ sig Unit (Elt F) ℕ (UR sig nD τ) ℕ) :=
  iprop(x.view.loc (c : Thread nD τ) ↦[x.view.set]{fullShare} f)

set_option maxHeartbeats 4000000 in
theorem trip_t4 (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (v0 : BitVec 32) (k : Fin k0_t4_loop.trips)
   (f3 : BufTy.Contents (Elt F) arg3.view.ty) (f4 : BufTy.Contents (Elt F) arg4.view.ty) (f5 : BufTy.Contents (Elt F) arg5.view.ty) (f7 : BufTy.Contents (Elt F) arg7.view.ty) (f8 : BufTy.Contents (Elt F) arg8.view.ty)
   (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)
   (f20 : BufTy.Contents (Elt F) arg20.view.ty) (f21 : BufTy.Contents (Elt F) arg21.view.ty)
   (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (E : Set ℕ) :
   iprop(own c arg3 f3 ∗ own c arg4 f4 ∗ own c arg5 f5 ∗ own c arg7 f7 ∗ own c arg8 f8 ∗ own c arg9 f9 ∗ own c arg10 f10 ∗ own c arg11 f11 ∗ own c arg12 f12 ∗ own c arg13 f13 ∗ own c arg14 f14 ∗ own c arg20 f20 ∗ own c arg21 f21
     ∗ own c arg15 f15 ∗ own c arg16 f16 ∗ own c arg17 f17 ∗ own c arg18 f18 ∗ own c arg19 f19)
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 k ())
          (fun _ => iprop(own c arg3 f3 ∗ own c arg4 f4 ∗ own c arg5 f5 ∗ own c arg7 f7 ∗ own c arg8 f8 ∗ own c arg9 f9 ∗ own c arg10 f10 ∗ own c arg11 f11 ∗ own c arg12 f12 ∗ own c arg13 f13 ∗ own c arg14 f14 ∗ own c arg20 f20 ∗ own c arg21 f21
     ∗ own c arg15 (arg15.view.writes (Elt F) f15 [⟨Rect.unit (k0_off6 k) S64x128.size (k0_off6_inb k), cU i k (arg3.view.read (Elt F) f3) (arg4.view.read (Elt F) f4) (arg5.view.read (Elt F) f5) (arg9.view.read (Elt F) f9) (arg10.view.read (Elt F) f10) (arg11.view.read (Elt F) f11) (arg12.view.read (Elt F) f12) (arg13.view.read (Elt F) f13) (arg14.view.read (Elt F) f14) (arg20.view.read (Elt F) f20) (arg21.view.read (Elt F) f21)⟩])
     ∗ own c arg16 (arg16.view.writes (Elt F) f16 [⟨Rect.unit (k0_off6 k) S64x128.size (k0_off6_inb k), codM (cM i k (arg3.view.read (Elt F) f3) (arg5.view.read (Elt F) f5) (arg10.view.read (Elt F) f10) (arg11.view.read (Elt F) f11) (arg13.view.read (Elt F) f13)) (arg7.view.read (Elt F) f7)⟩])
     ∗ own c arg17 (arg17.view.writes (Elt F) f17 [⟨Rect.unit (k0_off6 k) S64x128.size (k0_off6_inb k), codV (cV i k (arg4.view.read (Elt F) f4) (arg5.view.read (Elt F) f5) (arg10.view.read (Elt F) f10) (arg12.view.read (Elt F) f12) (arg14.view.read (Elt F) f14)) (arg8.view.read (Elt F) f8)⟩])
     ∗ own c arg18 (arg18.view.writes (Elt F) f18 [⟨Rect.unit (k0_off9 k) S4x128.size (k0_off9_inb k), amM (cM i k (arg3.view.read (Elt F) f3) (arg5.view.read (Elt F) f5) (arg10.view.read (Elt F) f10) (arg11.view.read (Elt F) f11) (arg13.view.read (Elt F) f13))⟩])
     ∗ own c arg19 (arg19.view.writes (Elt F) f19 [⟨Rect.unit (k0_off9 k) S4x128.size (k0_off9_inb k), amV (cV i k (arg4.view.read (Elt F) f4) (arg5.view.read (Elt F) f5) (arg10.view.read (Elt F) f10) (arg12.view.read (Elt F) f12) (arg14.view.read (Elt F) f14))⟩]))) := by
    have e5 := st5_eq (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (cM i k (arg3.view.read (Elt F) f3) (arg5.view.read (Elt F) f5) (arg10.view.read (Elt F) f10) (arg11.view.read (Elt F) f11) (arg13.view.read (Elt F) f13))
      (cV i k (arg4.view.read (Elt F) f4) (arg5.view.read (Elt F) f5) (arg10.view.read (Elt F) f10) (arg12.view.read (Elt F) f12) (arg14.view.read (Elt F) f14)) f7 f8 k0_t5_loop.trips
    have e1 := congrArg Prod.fst e5
    have e2 := congrArg Prod.snd e5
    dsimp only at e1 e2
    unfold codM codV
    rw [← e1, ← e2]
    unfold k0_t4_body
    iintro ⟨H3, H4, H5, H7, H8, H9, H10, H11, H12, H13, H14, H20, H21, H15, H16, H17, H18, H19⟩
    sl_exec
    sl_step
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H20]; · iexact H20
    isplitl [H21]; · iexact H21
    isplitl [H15]; · iexact H15
    isplitl [H16]; · iexact H16
    isplitl [H17]; · iexact H17
    isplitl [H18]; · iexact H18
    iexact H19

end Cert.Proof.KernelIdeal

end
-- ==== Proof.KernelIdeal.Chunks.lean ====
/- The kernel's chunk loop by its invariant: before trip `n` each output block holds the chunks of the trips before `n`,
   written over what the loop found. And what those pieces read as, index by index. -/
module

public import proofs.«01_k».proof.Proof.KernelIdeal.Chunk
public import proofs.«01_k».proof.Proof.Gen.KernelIdeal.Loops
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pieces of the first `n` trips, last first, in a block cut into chunks of 64 rows, and of 4 rows. -/
def pieces64 {e} (w : Fin k0_t4_loop.trips → Vec F S64x128 e) : ℕ → List (View.Piece (Elt F) S3584x128 e)
  | 0 => []
  | n + 1 => if h : n < k0_t4_loop.trips then
      ⟨Rect.unit (k0_off6 ⟨n, h⟩) S64x128.size (k0_off6_inb ⟨n, h⟩), w ⟨n, h⟩⟩ :: pieces64 w n else pieces64 w n
def pieces4 {e} (w : Fin k0_t4_loop.trips → Vec F S4x128 e) : ℕ → List (View.Piece (Elt F) S224x128 e)
  | 0 => []
  | n + 1 => if h : n < k0_t4_loop.trips then
      ⟨Rect.unit (k0_off9 ⟨n, h⟩) S4x128.size (k0_off9_inb ⟨n, h⟩), w ⟨n, h⟩⟩ :: pieces4 w n else pieces4 w n

theorem pieces64_succ {e} (w : Fin k0_t4_loop.trips → Vec F S64x128 e) (k : Fin k0_t4_loop.trips) : pieces64 w (k.val + 1)
    = [⟨Rect.unit (k0_off6 k) S64x128.size (k0_off6_inb k), w k⟩] ++ pieces64 w k.val := dif_pos k.isLt
theorem pieces4_succ {e} (w : Fin k0_t4_loop.trips → Vec F S4x128 e) (k : Fin k0_t4_loop.trips) : pieces4 w (k.val + 1)
    = [⟨Rect.unit (k0_off9 k) S4x128.size (k0_off9_inb k), w k⟩] ++ pieces4 w k.val := dif_pos k.isLt

set_option warn.classDefReducibility false in
set_option maxHeartbeats 4000000 in
/-- The chunk loop. -/
@[sl_loop] def loopInv_t4 (𝒱 : Variants) (c : Dev nD) (bd : Option 𝒱.V) (E : Set ℕ) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (v0 : BitVec 32)
    (f3 : BufTy.Contents (Elt F) arg3.view.ty) (f4 : BufTy.Contents (Elt F) arg4.view.ty) (f5 : BufTy.Contents (Elt F) arg5.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f20 : BufTy.Contents (Elt F) arg20.view.ty) (f21 : BufTy.Contents (Elt F) arg21.view.ty)
    (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 where
  inv n _ := iprop(own c arg3 f3 ∗ own c arg4 f4 ∗ own c arg5 f5 ∗ own c arg7 f7 ∗ own c arg8 f8 ∗ own c arg9 f9 ∗ own c arg10 f10 ∗ own c arg11 f11 ∗ own c arg12 f12 ∗ own c arg13 f13 ∗ own c arg14 f14 ∗ own c arg20 f20 ∗ own c arg21 f21 ∗ (∃ f, own c arg15 f ∗ ⌜f = arg15.view.writes (Elt F) G15 (pieces64 (fun k => cU i k (arg3.view.read (Elt F) f3) (arg4.view.read (Elt F) f4) (arg5.view.read (Elt F) f5) (arg9.view.read (Elt F) f9) (arg10.view.read (Elt F) f10) (arg11.view.read (Elt F) f11) (arg12.view.read (Elt F) f12) (arg13.view.read (Elt F) f13) (arg14.view.read (Elt F) f14) (arg20.view.read (Elt F) f20) (arg21.view.read (Elt F) f21)) n)⌝) ∗ (∃ f, own c arg16 f ∗ ⌜f = arg16.view.writes (Elt F) G16 (pieces64 (fun k => codM (cM i k (arg3.view.read (Elt F) f3) (arg5.view.read (Elt F) f5) (arg10.view.read (Elt F) f10) (arg11.view.read (Elt F) f11) (arg13.view.read (Elt F) f13)) (arg7.view.read (Elt F) f7)) n)⌝) ∗ (∃ f, own c arg17 f ∗ ⌜f = arg17.view.writes (Elt F) G17 (pieces64 (fun k => codV (cV i k (arg4.view.read (Elt F) f4) (arg5.view.read (Elt F) f5) (arg10.view.read (Elt F) f10) (arg12.view.read (Elt F) f12) (arg14.view.read (Elt F) f14)) (arg8.view.read (Elt F) f8)) n)⌝) ∗ (∃ f, own c arg18 f ∗ ⌜f = arg18.view.writes (Elt F) G18 (pieces4 (fun k => amM (cM i k (arg3.view.read (Elt F) f3) (arg5.view.read (Elt F) f5) (arg10.view.read (Elt F) f10) (arg11.view.read (Elt F) f11) (arg13.view.read (Elt F) f13))) n)⌝) ∗ (∃ f, own c arg19 f ∗ ⌜f = arg19.view.writes (Elt F) G19 (pieces4 (fun k => amV (cV i k (arg4.view.read (Elt F) f4) (arg5.view.read (Elt F) f5) (arg10.view.read (Elt F) f10) (arg12.view.read (Elt F) f12) (arg14.view.read (Elt F) f14))) n)⌝))
  step k acc := by
    iintro ⟨H3, H4, H5, H7, H8, H9, H10, H11, H12, H13, H14, H20, H21, ⟨%g15, H15, %h15⟩, ⟨%g16, H16, %h16⟩, ⟨%g17, H17, %h17⟩, ⟨%g18, H18, %h18⟩, ⟨%g19, H19, %h19⟩⟩
    iapply (wp_wand_r Idealize.ShloMosaic.frame (wpE (defs₀ (F := F)) 𝒱 (c : Thread nD τ) bd) E)
    isplitl [H3 H4 H5 H7 H8 H9 H10 H11 H12 H13 H14 H20 H21 H15 H16 H17 H18 H19]
    · iapply (trip_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 k f3 f4 f5 f7 f8 f9 f10 f11 f12 f13 f14 f20 f21 g15 g16 g17 g18 g19 E)
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H20]; · iexact H20
      isplitl [H21]; · iexact H21
      isplitl [H15]; · iexact H15
      isplitl [H16]; · iexact H16
      isplitl [H17]; · iexact H17
      isplitl [H18]; · iexact H18
      iexact H19
    · iintro %_ ⟨H3, H4, H5, H7, H8, H9, H10, H11, H12, H13, H14, H20, H21, H15, H16, H17, H18, H19⟩
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H20]; · iexact H20
      isplitl [H21]; · iexact H21
      isplitl [H15]
      · iexists _; isplitl [H15]; · iexact H15
        ipureintro; rw [pieces64_succ, h15, ← View.writes_append]
      isplitl [H16]
      · iexists _; isplitl [H16]; · iexact H16
        ipureintro; rw [pieces64_succ, h16, ← View.writes_append]
      isplitl [H17]
      · iexists _; isplitl [H17]; · iexact H17
        ipureintro; rw [pieces64_succ, h17, ← View.writes_append]
      isplitl [H18]
      · iexists _; isplitl [H18]; · iexact H18
        ipureintro; rw [pieces4_succ, h18, ← View.writes_append]
      iexists _; isplitl [H19]; · iexact H19
      ipureintro; rw [pieces4_succ, h19, ← View.writes_append]

end Cert.Proof.KernelIdeal

end
-- ==== Proof.KernelIdeal.Tensors.lean ====
/- The kernel's loop over the tensors by its invariant: what the learning-rate scratch holds after each tensor. -/
module

public import proofs.«01_k».proof.Proof.KernelIdeal.Chunk
public import proofs.«01_k».proof.Proof.Gen.KernelIdeal.Loops
public import proofs.«01_k».proof.Proof.Gen.KernelIdeal.Launch
public import Idealize.ShloMosaic.Lib.Exec
public import Idealize.ShloMosaic.Lib.VecWindow
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A table the launch leaves for the body to read: half of its cells' ownership. -/
abbrev ownT (c : Dev nD) {sp} {s} {e} (x : Memref sig .tc sp s e) (f : BufTy.Contents (Elt F) x.view.ty) : sProp (MT nD τ sig Unit (Elt F) ℕ (UR sig nD τ) ℕ) :=
  iprop(x.view.loc (c : Thread nD τ) ↦[x.view.set]{fullShare.right} f)

/-- The words one trip of the tensor loop reads: a tensor's offset, the next tensor's, and its learning-rate multiplier. -/
def o1 (x : Vec F S97 .i32) (t : Fin k0_t1_loop.trips) : Elt F .i32 :=
  View.ld x (Rect.unit (k0_off1 t) S1.size (k0_off1_inb t)) (Shape.Idx.first (s := S1) (by rw [show S1.numel = 1 from numel1_S1]; exact Nat.one_pos))
def o2 (x : Vec F S97 .i32) (t : Fin k0_t1_loop.trips) : Elt F .i32 :=
  View.ld x (Rect.unit (k0_off2 t) S1.size (k0_off2_inb t)) (Shape.Idx.first (s := S1) (by rw [show S1.numel = 1 from numel1_S1]; exact Nat.one_pos))
def l3 (x : Vec F S96 .f32) (t : Fin k0_t1_loop.trips) : Elt F .f32 :=
  View.ld x (Rect.unit (k0_off3 t) S1.size (k0_off3_inb t)) (Shape.Idx.first (s := S1) (by rw [show S1.numel = 1 from numel1_S1]; exact Nat.one_pos))

/-- The scratch's cells after the first `n` tensors. -/
def c20 (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (x1 : Vec F S97 .i32) (x6 : Vec F S96 .f32)
    (G : BufTy.Contents (Elt F) arg20.view.ty) : ℕ → BufTy.Contents (Elt F) arg20.view.ty
  | 0 => G
  | n + 1 => if h : n < k0_t1_loop.trips then
      arg20.view.writes (Elt F) (c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G n) (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (o1 x1 ⟨n, h⟩) (clipW i (o1 x1 ⟨n, h⟩)) (o2 x1 ⟨n, h⟩)
        (chk1 i _ _) (clipW i (o2 x1 ⟨n, h⟩)) (k0_pay77 (l3 x6 ⟨n, h⟩)) (firstW i (o1 x1 ⟨n, h⟩)) (c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G n) (k0_t2_loop i (o1 x1 ⟨n, h⟩) (o2 x1 ⟨n, h⟩)).trips)
    else c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G n

theorem c20_succ (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (x1 : Vec F S97 .i32) (x6 : Vec F S96 .f32)
    (G : BufTy.Contents (Elt F) arg20.view.ty) (k : Fin k0_t1_loop.trips) : c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G (k.val + 1)
    = arg20.view.writes (Elt F) (c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G k.val) (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (o1 x1 k) (clipW i (o1 x1 k)) (o2 x1 k)
        (chk1 i _ _) (clipW i (o2 x1 k)) (k0_pay77 (l3 x6 k)) (firstW i (o1 x1 k)) (c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G k.val) (k0_t2_loop i (o1 x1 k) (o2 x1 k)).trips) := dif_pos k.isLt

/-- What the scratch reads as after `n` pieces of one tensor, and after `n` tensors, by what it read as before. -/
def lrT (i : grid0.Coords) (a b : BitVec 32) (l : F .f32) (x : Vec F S3584x128 .f32) : ℕ → Vec F S3584x128 .f32
  | 0 => x
  | n + 1 => if h : n < (k0_t2_loop i a b).trips then
      VecWindow.put (lrT i a b l x n) (k0_off4 i a b ⟨n, h⟩) S8x128.size (k0_pay4 i a (clipW i a) b (clipW i b) (k0_pay77 l) (firstW i a) ⟨n, h⟩
        (View.ld (lrT i a b l x n) (Rect.unit (k0_off4 i a b ⟨n, h⟩) S8x128.size (k0_off4_inb i a b (chk1 i a b) ⟨n, h⟩))))
    else lrT i a b l x n
def lr20 (i : grid0.Coords) (x1 : Vec F S97 .i32) (x6 : Vec F S96 .f32) (x : Vec F S3584x128 .f32) : ℕ → Vec F S3584x128 .f32
  | 0 => x
  | n + 1 => if h : n < k0_t1_loop.trips then
      lrT i (o1 x1 ⟨n, h⟩) (o2 x1 ⟨n, h⟩) (l3 x6 ⟨n, h⟩) (lr20 i x1 x6 x n) (k0_t2_loop i (o1 x1 ⟨n, h⟩) (o2 x1 ⟨n, h⟩)).trips
    else lr20 i x1 x6 x n

theorem lrT_succ (i : grid0.Coords) (a b : BitVec 32) (l : F .f32) (x : Vec F S3584x128 .f32) (k : Fin (k0_t2_loop i a b).trips) : lrT i a b l x (k.val + 1)
    = VecWindow.put (lrT i a b l x k.val) (k0_off4 i a b k) S8x128.size (k0_pay4 i a (clipW i a) b (clipW i b) (k0_pay77 l) (firstW i a) k
        (View.ld (lrT i a b l x k.val) (Rect.unit (k0_off4 i a b k) S8x128.size (k0_off4_inb i a b (chk1 i a b) k)))) := dif_pos k.isLt
theorem lr20_succ (i : grid0.Coords) (x1 : Vec F S97 .i32) (x6 : Vec F S96 .f32) (x : Vec F S3584x128 .f32) (k : Fin k0_t1_loop.trips) : lr20 i x1 x6 x (k.val + 1)
    = lrT i (o1 x1 k) (o2 x1 k) (l3 x6 k) (lr20 i x1 x6 x k.val) (k0_t2_loop i (o1 x1 k) (o2 x1 k)).trips := dif_pos k.isLt

theorem read_pb (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (a b : BitVec 32) (l : F .f32)
    (G : BufTy.Contents (Elt F) arg20.view.ty) : ∀ n, n ≤ (k0_t2_loop i a b).trips → arg20.view.read (Elt F) (arg20.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a (clipW i a) b
        (chk1 i _ _) (clipW i b) (k0_pay77 l) (firstW i a) G n)) = lrT i a b l (arg20.view.read (Elt F) G) n := by
  intro n
  induction n with
  | zero => intro _; rfl
  | succ n ih =>
    intro hn
    have ih := ih (by omega)
    rw [show n + 1 = ((⟨n, hn⟩ : Fin (k0_t2_loop i a b).trips).val + 1) from rfl, pb_k0_t2_succ, lrT_succ, ← ih, View.writes_append]
    unfold tripL_k0_t2 trip_k0_t2
    exact View.read_writes_cons_put _ _ _ _ _ rfl

theorem read_c20 (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (x1 : Vec F S97 .i32) (x6 : Vec F S96 .f32)
    (G : BufTy.Contents (Elt F) arg20.view.ty) : ∀ n, n ≤ k0_t1_loop.trips → arg20.view.read (Elt F) (c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x6 G n) = lr20 i x1 x6 (arg20.view.read (Elt F) G) n := by
  intro n
  induction n with
  | zero => intro _; rfl
  | succ n ih =>
    intro hn
    rw [show n + 1 = ((⟨n, hn⟩ : Fin k0_t1_loop.trips).val + 1) from rfl, c20_succ, lr20_succ, read_pb _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ le_rfl, ← ih (by omega)]

/-- The remainder loop makes no trip. -/
theorem t3_trips (i : grid0.Coords) (a b : BitVec 32) : Scf.trips (k0_t3_loop i a b).lb (k0_t3_loop i a b).ub (k0_t3_loop i a b).st = 0 := by
  rw [t3_loop_eq]
  exact Scf.rem_trips _ _

set_option maxHeartbeats 4000000 in
/-- One trip of the tensor loop. -/
theorem trip_t1 (𝒱 : Variants) (c : Dev nD) (bd : Option 𝒱.V) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (k : Fin k0_t1_loop.trips)
   (f1 : BufTy.Contents (Elt F) arg1.view.ty) (f6 : BufTy.Contents (Elt F) arg6.view.ty) (f20 : BufTy.Contents (Elt F) arg20.view.ty) (E : Set ℕ) :
   iprop(ownT c arg1 f1 ∗ own c arg6 f6 ∗ own c arg20 f20)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (elem0 i) k ())
          (fun _ => iprop(ownT c arg1 f1 ∗ own c arg6 f6 ∗ own c arg20 (arg20.view.writes (Elt F) f20 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (o1 (arg1.view.read (Elt F) f1) k) (clipW i (o1 (arg1.view.read (Elt F) f1) k)) (o2 (arg1.view.read (Elt F) f1) k)
        (chk1 i _ _) (clipW i (o2 (arg1.view.read (Elt F) f1) k)) (k0_pay77 (l3 (arg6.view.read (Elt F) f6) k)) (firstW i (o1 (arg1.view.read (Elt F) f1) k)) f20 (k0_t2_loop i (o1 (arg1.view.read (Elt F) f1) k) (o2 (arg1.view.read (Elt F) f1) k)).trips)))) := by
    unfold k0_t1_body
    iintro ⟨H1, H6, H20⟩
    have hc : ∀ a b, k0_chk1 i a b := fun a b => chk1 i a b
    sl_exec
    sl_step
    rw [t3_trips]
    rw [pb_k0_t3.eq_1, List.nil_append]
    isplitl [H1]; · iexact H1
    isplitl [H6]; · iexact H6
    iexact H20

set_option warn.classDefReducibility false in
/-- The tensor loop. -/
@[sl_loop] def loopInv_t1 (𝒱 : Variants) (c : Dev nD) (bd : Option 𝒱.V) (E : Set ℕ) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole)
   (f1 : BufTy.Contents (Elt F) arg1.view.ty) (f6 : BufTy.Contents (Elt F) arg6.view.ty) (G20 : BufTy.Contents (Elt F) arg20.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (elem0 i) where
  inv n _ := iprop(ownT c arg1 f1 ∗ own c arg6 f6 ∗ (∃ f, own c arg20 f ∗ ⌜f = c20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg1.view.read (Elt F) f1) (arg6.view.read (Elt F) f6) G20 n⌝))
  step k acc := by
    iintro ⟨H1, H6, ⟨%g20, H20, %h20⟩⟩
    iapply (wp_wand_r Idealize.ShloMosaic.frame (wpE (defs₀ (F := F)) 𝒱 (c : Thread nD τ) bd) E)
    isplitl [H1 H6 H20]
    · iapply (trip_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k f1 f6 g20 E)
      isplitl [H1]; · iexact H1
      isplitl [H6]; · iexact H6
      iexact H20
    · iintro %_ ⟨H1, H6, H20⟩
      isplitl [H1]; · iexact H1
      isplitl [H6]; · iexact H6
      iexists _; isplitl [H20]; · iexact H20
      ipureintro; rw [c20_succ, h20]

end Cert.Proof.KernelIdeal

end
-- ==== Proof.KernelIdeal.Body.lean ====
/- The kernel body as one step: what it leaves in every block, from what it finds in them. -/
module

public import proofs.«01_k».proof.Proof.KernelIdeal.Chunks
public import proofs.«01_k».proof.Proof.KernelIdeal.Tensors
public import proofs.«01_k».proof.Proof.Gen.KernelIdeal.Loops
public import proofs.«01_k».proof.Proof.Gen.KernelIdeal.Launch
public import Idealize.ShloMosaic.Lib.Exec
public import Idealize.ShloMosaic.Lib.VecWindow
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Whether a grid point is the first. -/
abbrev isFirst (i : grid0.Coords) : Prop := Scalar.cmpi .ne (Scalar.extui (Scalar.cmpi .eq (BitVec.ofNat 32 (i 0).val) 0#32) : BitVec 32) 0#32 = 1#1

/-- The bias corrections one minus the power of the first point: the first moment's and the second moment's, by the step's bits. -/
def bcM (w : Elt F .i32) : FVec F S1x8x128 .f32 :=
  k0_pay44 w (k0_pay42 w (k0_pay34 w (k0_pay26 w (k0_pay19 w) k0_pay20) (k0_pay27 k0_pay20) (Scalar.cmpi .eq (Scalar.andi (Scalar.shrsi w 12#32) 1#32) 1#32))
    (k0_pay35 (k0_pay27 k0_pay20)) (Scalar.shrsi w 19#32) 1#32) (k0_pay43 (k0_pay35 (k0_pay27 k0_pay20)))
def bcV (w : Elt F .i32) : FVec F S1x8x128 .f32 :=
  k0_pay1 w (k0_pay75 (k0_pay69 (k0_pay61 (k0_pay52 k0_pay46))))
    (k0_pay76 w (k0_pay68 w (k0_pay60 w (k0_pay52 k0_pay46) (k0_pay53 w k0_pay45 k0_pay46 (Scalar.shrsi w 0#32))) (k0_pay61 (k0_pay52 k0_pay46)) (Scalar.andi (Scalar.shrsi w 13#32) 1#32) 1#32)
      (k0_pay69 (k0_pay61 (k0_pay52 k0_pay46))) (Scalar.shrsi w 20#32))
/-- What the second scratch holds after the first point. -/
def bc21 (w : Elt F .i32) : Vec F S2x8x128 .f32 :=
  View.canon [⟨Rect.unit (s := S2x8x128) ![1, 0, 0] S1x8x128.size inb_S2x8x128_S1x8x128_1_0_0, bcV w⟩,
    ⟨Rect.unit (s := S2x8x128) ![0, 0, 0] S1x8x128.size inb_S2x8x128_S1x8x128_0_0_0, bcM w⟩]
theorem cover21 (p0 p1 : Vec F S1x8x128 .f32) (y : S2x8x128.Idx) : ∃ pc ∈ ([⟨Rect.unit (s := S2x8x128) ![1, 0, 0] S1x8x128.size inb_S2x8x128_S1x8x128_1_0_0, p0⟩,
    ⟨Rect.unit (s := S2x8x128) ![0, 0, 0] S1x8x128.size inb_S2x8x128_S1x8x128_0_0_0, p1⟩] : List (View.Piece (Elt F) S2x8x128 .f32)), y ∈ pc.1.set :=
  View.cover_of_tiled (s := S2x8x128) _ S1x8x128.size (by rfl) y

/-- The step's word. -/
def w2 (x : Vec F S1 .i32) : Elt F .i32 :=
  View.ld x (Rect.unit ![0] S1.size inb_S1_S1_0) (Shape.Idx.first (s := S1) (by rw [show S1.numel = 1 from numel1_S1]; exact Nat.one_pos))

/-- The learning-rate sums one point leaves in the scratch. -/
def lrOf (i : grid0.Coords) (x1 : Vec F S97 .i32) (x6 : Vec F S96 .f32) : Vec F S3584x128 .f32 := lr20 i x1 x6 k0_pay2 (Scf.trips k0_t1_loop.lb k0_t1_loop.ub k0_t1_loop.st)

/-- What one point leaves in the five output blocks: the update, the two rows of codes, the two rows of block maxima. -/
def oU (i : grid0.Coords) (x1 : Vec F S97 .i32) (x3 : Vec F S1568 .f32) (x4 : Vec F S1568 .f32) (x5 : Vec F S6272 .f32) (x6 : Vec F S96 .f32) (x9 : Vec F S3584x128 .f32) (x10 : Vec F S3584x128 .fp8e5m2) (x11 : Vec F S3584x128 .i8) (x12 : Vec F S3584x128 .i8) (x13 : Vec F S2x128 .f32) (x14 : Vec F S2x128 .f32) (b : Vec F S2x8x128 .f32) : Vec F S3584x128 .f32 :=
  View.canon (pieces64 (fun k => cU i k x3 x4 x5 x9 x10 x11 x12 x13 x14 (lrOf i x1 x6) b) 56)
def oM (i : grid0.Coords) (x3 : Vec F S1568 .f32) (x5 : Vec F S6272 .f32) (x7 : Vec F S256 .f32) (x10 : Vec F S3584x128 .fp8e5m2) (x11 : Vec F S3584x128 .i8) (x13 : Vec F S2x128 .f32) : Vec F S3584x128 .i8 :=
  View.canon (pieces64 (fun k => codM (cM i k x3 x5 x10 x11 x13) x7) 56)
def oV (i : grid0.Coords) (x4 : Vec F S1568 .f32) (x5 : Vec F S6272 .f32) (x8 : Vec F S256 .f32) (x10 : Vec F S3584x128 .fp8e5m2) (x12 : Vec F S3584x128 .i8) (x14 : Vec F S2x128 .f32) : Vec F S3584x128 .i8 :=
  View.canon (pieces64 (fun k => codV (cV i k x4 x5 x10 x12 x14) x8) 56)
def oAM (i : grid0.Coords) (x3 : Vec F S1568 .f32) (x5 : Vec F S6272 .f32) (x10 : Vec F S3584x128 .fp8e5m2) (x11 : Vec F S3584x128 .i8) (x13 : Vec F S2x128 .f32) : Vec F S224x128 .f32 :=
  View.canon (pieces4 (fun k => amM (cM i k x3 x5 x10 x11 x13)) 56)
def oAV (i : grid0.Coords) (x4 : Vec F S1568 .f32) (x5 : Vec F S6272 .f32) (x10 : Vec F S3584x128 .fp8e5m2) (x12 : Vec F S3584x128 .i8) (x14 : Vec F S2x128 .f32) : Vec F S224x128 .f32 :=
  View.canon (pieces4 (fun k => amV (cV i k x4 x5 x10 x12 x14)) 56)

theorem t4_trips' : Scf.trips k0_t4_loop.lb k0_t4_loop.ub k0_t4_loop.st = 56 := t4_trips

/-- The chunks of the trips tile their block. -/
theorem cover64_aux {e} (w : Fin k0_t4_loop.trips → Vec F S64x128 e) (y : S3584x128.Idx) : ∀ n, n ≤ 56 → (y 0).val < 64 * n → ∃ pc ∈ pieces64 w n, y ∈ pc.1.set := by
  intro n
  induction n with
  | zero => intro _ h; omega
  | succ n ih =>
    intro hn h
    have hk : n < k0_t4_loop.trips := by rw [t4_trips]; omega
    rw [show n + 1 = ((⟨n, hk⟩ : Fin k0_t4_loop.trips).val + 1) from rfl, pieces64_succ]
    by_cases hy : (y 0).val < 64 * n
    · obtain ⟨p, hp, hm⟩ := ih (by omega) hy
      exact ⟨p, List.mem_cons_of_mem _ hp, hm⟩
    · refine ⟨_, List.mem_cons_self .., ?_⟩
      have h1 : (y 1).val < 128 := (y 1).isLt
      refine (Rect.mem_set_unit (inb := k0_off6_inb ⟨n, hk⟩)).2 ?_
      rw [off6_eq]
      intro a
      match a with
      | ⟨0, _⟩ => exact ⟨by show 64 * n ≤ (y 0).val; omega, by show (y 0).val < 64 * n + 64; omega⟩
      | ⟨1, _⟩ => exact ⟨by show 0 ≤ (y 1).val; omega, by show (y 1).val < 0 + 128; omega⟩
theorem cover4_aux {e} (w : Fin k0_t4_loop.trips → Vec F S4x128 e) (y : S224x128.Idx) : ∀ n, n ≤ 56 → (y 0).val < 4 * n → ∃ pc ∈ pieces4 w n, y ∈ pc.1.set := by
  intro n
  induction n with
  | zero => intro _ h; omega
  | succ n ih =>
    intro hn h
    have hk : n < k0_t4_loop.trips := by rw [t4_trips]; omega
    rw [show n + 1 = ((⟨n, hk⟩ : Fin k0_t4_loop.trips).val + 1) from rfl, pieces4_succ]
    by_cases hy : (y 0).val < 4 * n
    · obtain ⟨p, hp, hm⟩ := ih (by omega) hy
      exact ⟨p, List.mem_cons_of_mem _ hp, hm⟩
    · refine ⟨_, List.mem_cons_self .., ?_⟩
      have h1 : (y 1).val < 128 := (y 1).isLt
      refine (Rect.mem_set_unit (inb := k0_off9_inb ⟨n, hk⟩)).2 ?_
      rw [off9_eq]
      intro a
      match a with
      | ⟨0, _⟩ => exact ⟨by show 4 * n ≤ (y 0).val; omega, by show (y 0).val < 4 * n + 4; omega⟩
      | ⟨1, _⟩ => exact ⟨by show 0 ≤ (y 1).val; omega, by show (y 1).val < 0 + 128; omega⟩
theorem cover64 {e} (w : Fin k0_t4_loop.trips → Vec F S64x128 e) (y : S3584x128.Idx) : ∃ pc ∈ pieces64 w 56, y ∈ pc.1.set :=
  cover64_aux w y 56 le_rfl (y 0).isLt
theorem cover4 {e} (w : Fin k0_t4_loop.trips → Vec F S4x128 e) (y : S224x128.Idx) : ∃ pc ∈ pieces4 w 56, y ∈ pc.1.set :=
  cover4_aux w y 56 le_rfl (y 0).isLt

set_option maxHeartbeats 8000000 in
/-- The body at one grid point: the input blocks unchanged, the output blocks as stated, the second scratch filled at the first
    point and unchanged at the others. -/
theorem sound_kernel (c : Dev nD) (E : Set ℕ) (i : grid0.Coords) (arg1 : Memref sig .tc .smem S97 .i32) (harg1 : arg1.IsWhole) (arg2 : Memref sig .tc .smem S1 .i32) (harg2 : arg2.IsWhole) (arg3 : Memref sig .tc .smem S1568 .f32) (harg3 : arg3.IsWhole) (arg4 : Memref sig .tc .smem S1568 .f32) (harg4 : arg4.IsWhole) (arg5 : Memref sig .tc .smem S6272 .f32) (harg5 : arg5.IsWhole) (arg6 : Memref sig .tc .smem S96 .f32) (harg6 : arg6.IsWhole) (arg7 : Memref sig .tc .smem S256 .f32) (harg7 : arg7.IsWhole) (arg8 : Memref sig .tc .smem S256 .f32) (harg8 : arg8.IsWhole) (arg9 : Memref sig .tc .vmem S3584x128 .f32) (harg9 : arg9.IsWhole) (arg10 : Memref sig .tc .vmem S3584x128 .fp8e5m2) (harg10 : arg10.IsWhole) (arg11 : Memref sig .tc .vmem S3584x128 .i8) (harg11 : arg11.IsWhole) (arg12 : Memref sig .tc .vmem S3584x128 .i8) (harg12 : arg12.IsWhole) (arg13 : Memref sig .tc .vmem S2x128 .f32) (harg13 : arg13.IsWhole) (arg14 : Memref sig .tc .vmem S2x128 .f32) (harg14 : arg14.IsWhole) (arg15 : Memref sig .tc .vmem S3584x128 .f32) (harg15 : arg15.IsWhole) (arg16 : Memref sig .tc .vmem S3584x128 .i8) (harg16 : arg16.IsWhole) (arg17 : Memref sig .tc .vmem S3584x128 .i8) (harg17 : arg17.IsWhole) (arg18 : Memref sig .tc .vmem S224x128 .f32) (harg18 : arg18.IsWhole) (arg19 : Memref sig .tc .vmem S224x128 .f32) (harg19 : arg19.IsWhole) (arg20 : Memref sig .tc .vmem S3584x128 .f32) (harg20 : arg20.IsWhole) (arg21 : Memref sig .tc .vmem S2x8x128 .f32) (harg21 : arg21.IsWhole) (f1 : BufTy.Contents (Elt F) arg1.view.ty) (f2 : BufTy.Contents (Elt F) arg2.view.ty)
   (x3 : Vec F S1568 .f32) (x4 : Vec F S1568 .f32) (x5 : Vec F S6272 .f32) (x6 : Vec F S96 .f32) (x7 : Vec F S256 .f32) (x8 : Vec F S256 .f32) (x9 : Vec F S3584x128 .f32) (x10 : Vec F S3584x128 .fp8e5m2) (x11 : Vec F S3584x128 .i8) (x12 : Vec F S3584x128 .i8) (x13 : Vec F S2x128 .f32) (x14 : Vec F S2x128 .f32) (f21 : BufTy.Contents (Elt F) arg21.view.ty) (B : Vec F S2x8x128 .f32)
   (hB1 : isFirst i → B = bc21 (w2 (arg2.view.read (Elt F) f2))) (hB2 : ¬ isFirst i → B = arg21.view.read (Elt F) f21) (K : PUnit → sProp (MT nD τ sig Unit (Elt F) ℕ (UR sig nD τ) ℕ)) :
   iprop(ownT c arg1 f1 ∗ ownT c arg2 f2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ f, own c arg20 f) ∗ own c arg21 f21
       ∗ (iprop(ownT c arg1 f1 ∗ ownT c arg2 f2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (oU i (arg1.view.read (Elt F) f1) x3 x4 x5 x6 x9 x10 x11 x12 x13 x14 B) ∗ owns (c : Thread nD τ) arg16 fullShare (oM i x3 x5 x7 x10 x11 x13) ∗ owns (c : Thread nD τ) arg17 fullShare (oV i x4 x5 x8 x10 x12 x14) ∗ owns (c : Thread nD τ) arg18 fullShare (oAM i x3 x5 x10 x11 x13) ∗ owns (c : Thread nD τ) arg19 fullShare (oAV i x4 x5 x10 x12 x14) ∗ (∃ f, own c arg20 f) ∗ owns (c : Thread nD τ) arg21 fullShare B) -∗ K ⟨⟩))
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    rw [cc0__body_eq_skeleton]; unfold cc0__body_skel
    unfold owns
    iintro ⟨H1, H2, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%f20, H20⟩, H21, Hk⟩
    subst hf3; subst hf4; subst hf5; subst hf6; subst hf7; subst hf8; subst hf9; subst hf10; subst hf11; subst hf12; subst hf13; subst hf14
    have hc : ∀ a b, k0_chk1 i a b := fun a b => chk1 i a b
    have hZ : ∀ g, arg20.view.read (Elt F) (View.write (Elt F) (arg20.view.slice (Rect.unit ![0, 0] S3584x128.size inb_S3584x128_S3584x128_0_0)) g (k0_pay2 (F := F)) Finset.univ) = k0_pay2 := fun g =>
      View.read_writes_full arg20.view g inb_S3584x128_S3584x128_0_0 k0_pay2 []
    by_cases h0 : isFirst i
    · sl_exec
      sl_step
      have hB' : arg21.view.read (Elt F) (arg21.view.writes (Elt F) arg21.view.junk (sound_kernel.sl.H21_2 arg2 f2)) = B :=
        (View.read_writes_eq_canon _ _ _ (cover21 _ _)).trans (hB1 h0).symm
      iapply Hk
      isplitl [H1]; · iexact H1
      isplitl [H2]; · iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists f13; isplitr; · ipureintro; rfl
        iexact H13
      isplitl [H14]
      · iexists f14; isplitr; · ipureintro; rfl
        iexact H14
      isplitl [H15]
      · iexists _; isplitr
        swap; · iexact H15
        ipureintro
        rw [t4_trips']
        rw [read_c20 _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ le_rfl, hZ, hB']
        exact View.read_writes_eq_canon _ _ _ (cover64 _)
      isplitl [H16]
      · iexists _; isplitr
        swap; · iexact H16
        ipureintro
        rw [t4_trips']
        exact View.read_writes_eq_canon _ _ _ (cover64 _)
      isplitl [H17]
      · iexists _; isplitr
        swap; · iexact H17
        ipureintro
        rw [t4_trips']
        exact View.read_writes_eq_canon _ _ _ (cover64 _)
      isplitl [H18]
      · iexists _; isplitr
        swap; · iexact H18
        ipureintro
        rw [t4_trips']
        exact View.read_writes_eq_canon _ _ _ (cover4 _)
      isplitl [H19]
      · iexists _; isplitr
        swap; · iexact H19
        ipureintro
        rw [t4_trips']
        exact View.read_writes_eq_canon _ _ _ (cover4 _)
      isplitl [H20]; · iexists _; iexact H20
      iexists _; isplitr
      swap; · iexact H21
      ipureintro; exact hB'
    · sl_exec
      sl_step
      have hB' : arg21.view.read (Elt F) f21 = B := (hB2 h0).symm
      iapply Hk
      isplitl [H1]; · iexact H1
      isplitl [H2]; · iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists f13; isplitr; · ipureintro; rfl
        iexact H13
      isplitl [H14]
      · iexists f14; isplitr; · ipureintro; rfl
        iexact H14
      isplitl [H15]
      · iexists _; isplitr
        swap; · iexact H15
        ipureintro
        rw [t4_trips']
        rw [read_c20 _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ le_rfl, hZ, hB']
        exact View.read_writes_eq_canon _ _ _ (cover64 _)
      isplitl [H16]
      · iexists _; isplitr
        swap; · iexact H16
        ipureintro
        rw [t4_trips']
        exact View.read_writes_eq_canon _ _ _ (cover64 _)
      isplitl [H17]
      · iexists _; isplitr
        swap; · iexact H17
        ipureintro
        rw [t4_trips']
        exact View.read_writes_eq_canon _ _ _ (cover64 _)
      isplitl [H18]
      · iexists _; isplitr
        swap; · iexact H18
        ipureintro
        rw [t4_trips']
        exact View.read_writes_eq_canon _ _ _ (cover4 _)
      isplitl [H19]
      · iexists _; isplitr
        swap; · iexact H19
        ipureintro
        rw [t4_trips']
        exact View.read_writes_eq_canon _ _ _ (cover4 _)
      isplitl [H20]; · iexists _; iexact H20
      iexists _; isplitr
      swap; · iexact H21
      ipureintro; exact hB'

end Cert.Proof.KernelIdeal

end
-- ==== Proof.KernelIdeal.Values.lean ====
/- What the chunk loop's compositions are, element by element, over the extended reals: a table lookup, the updated
   moments, the update, the per-block maxima, the requantised codes. -/
module

public import proofs.«01_k».proof.Proof.KernelIdeal.Body
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-- A code's entry of a 256-entry table laid out as two rows of 128. -/
def tab2 (lo hi : Vec Ideal S1x128 .f32) (c : BitVec 8) : EReal :=
  if 128 ≤ c.toNat then hi (ix2 0 ⟨c.toNat % 128, Nat.mod_lt _ (by decide)⟩) else lo (ix2 0 ⟨c.toNat % 128, Nat.mod_lt _ (by decide)⟩)

theorem ge128 : ∀ c : BitVec 8, IntOp.cmpi .sge (BitVec.setWidth 32 c) 128#32 = BitVec.ofBool (decide (128 ≤ c.toNat)) := by decide +kernel
theorem and127 : ∀ c : BitVec 8, (IntOp.andi (BitVec.setWidth 32 c) 127#32).toNat % 128 = c.toNat % 128 := by decide +kernel
theorem select_ofBool {α} (p : Prop) [Decidable p] (a b : α) : Scalar.select (BitVec.ofBool (decide p)) a b = if p then a else b := by
  unfold Scalar.select
  by_cases h : p <;> simp [h]

/-- A concatenation of eight pieces of eight rows, read at a row. -/
theorem lad8 {α} (f : (k : ℕ) → k < 64 → α) (r : Fin 64) :
    (if _h : r.val < 8 then f r.val r.isLt else if _h : r.val - 8 < 8 then f (8 + (r.val - 8)) (by omega) else if _h : r.val - 8 - 8 < 8 then f (16 + (r.val - 8 - 8)) (by omega) else if _h : r.val - 8 - 8 - 8 < 8 then f (24 + (r.val - 8 - 8 - 8)) (by omega) else if _h : r.val - 8 - 8 - 8 - 8 < 8 then f (32 + (r.val - 8 - 8 - 8 - 8)) (by omega) else if _h : r.val - 8 - 8 - 8 - 8 - 8 < 8 then f (40 + (r.val - 8 - 8 - 8 - 8 - 8)) (by omega) else if _h : r.val - 8 - 8 - 8 - 8 - 8 - 8 < 8 then f (48 + (r.val - 8 - 8 - 8 - 8 - 8 - 8)) (by omega) else f (56 + (r.val - 8 - 8 - 8 - 8 - 8 - 8 - 8)) (by omega)) = f r.val r.isLt := by
  have key : ∀ (k : ℕ) (h : k < 64), k = r.val → f k h = f r.val r.isLt := by rintro k h rfl; rfl
  split_ifs <;> first | rfl | exact key _ _ (by omega)

/-- A concatenation of four pieces of sixteen rows, and of sixteen pieces of four, each piece one value. -/
theorem lad16 {α} (s : Fin 4 → α) (r : Fin 64) :
    (if _h : r.val < 16 then s 0 else if _h : r.val - 16 < 16 then s 1 else if _h : r.val - 16 - 16 < 16 then s 2 else s 3) = s ⟨r.val / 16, by omega⟩ := by
  have key : ∀ (k : ℕ) (h : k < 4), k = r.val / 16 → s ⟨k, h⟩ = s ⟨r.val / 16, by omega⟩ := by rintro k h rfl; rfl
  split_ifs
  · exact key 0 _ (by omega)
  · exact key 1 _ (by omega)
  · exact key 2 _ (by omega)
  · exact key 3 _ (by omega)

theorem lad4 {α} (g : Fin 16 → α) (r : Fin 64) :
    (if _h : r.val < 4 then g 0 else if _h : r.val - 4 < 4 then g 1 else if _h : r.val - 4 - 4 < 4 then g 2 else if _h : r.val - 4 - 4 - 4 < 4 then g 3 else if _h : r.val - 4 - 4 - 4 - 4 < 4 then g 4 else if _h : r.val - 4 - 4 - 4 - 4 - 4 < 4 then g 5 else if _h : r.val - 4 - 4 - 4 - 4 - 4 - 4 < 4 then g 6 else if _h : r.val - 4 - 4 - 4 - 4 - 4 - 4 - 4 < 4 then g 7 else if _h : r.val - 4 - 4 - 4 - 4 - 4 - 4 - 4 - 4 < 4 then g 8 else if _h : r.val - 4 - 4 - 4 - 4 - 4 - 4 - 4 - 4 - 4 < 4 then g 9 else if _h : r.val - 4 - 4 - 4 - 4 - 4 - 4 - 4 - 4 - 4 - 4 < 4 then g 10 else if _h : r.val - 4 - 4 - 4 - 4 - 4 - 4 - 4 - 4 - 4 - 4 - 4 < 4 then g 11 else if _h : r.val - 4 - 4 - 4 - 4 - 4 - 4 - 4 - 4 - 4 - 4 - 4 - 4 < 4 then g 12 else if _h : r.val - 4 - 4 - 4 - 4 - 4 - 4 - 4 - 4 - 4 - 4 - 4 - 4 - 4 < 4 then g 13 else if _h : r.val - 4 - 4 - 4 - 4 - 4 - 4 - 4 - 4 - 4 - 4 - 4 - 4 - 4 - 4 < 4 then g 14 else g 15) = g ⟨r.val / 4, by omega⟩ := by
  have key : ∀ (k : ℕ) (h : k < 16), k = r.val / 4 → g ⟨k, h⟩ = g ⟨r.val / 4, by omega⟩ := by rintro k h rfl; rfl
  by_cases h0 : r.val < 4
  · rw [dif_pos h0]; exact key 0 _ (by omega)
  rw [dif_neg h0]
  by_cases h1 : r.val - 4 < 4
  · rw [dif_pos h1]; exact key 1 _ (by omega)
  rw [dif_neg h1]
  by_cases h2 : r.val - 4 - 4 < 4
  · rw [dif_pos h2]; exact key 2 _ (by omega)
  rw [dif_neg h2]
  by_cases h3 : r.val - 4 - 4 - 4 < 4
  · rw [dif_pos h3]; exact key 3 _ (by omega)
  rw [dif_neg h3]
  by_cases h4 : r.val - 4 - 4 - 4 - 4 < 4
  · rw [dif_pos h4]; exact key 4 _ (by omega)
  rw [dif_neg h4]
  by_cases h5 : r.val - 4 - 4 - 4 - 4 - 4 < 4
  · rw [dif_pos h5]; exact key 5 _ (by omega)
  rw [dif_neg h5]
  by_cases h6 : r.val - 4 - 4 - 4 - 4 - 4 - 4 < 4
  · rw [dif_pos h6]; exact key 6 _ (by omega)
  rw [dif_neg h6]
  by_cases h7 : r.val - 4 - 4 - 4 - 4 - 4 - 4 - 4 < 4
  · rw [dif_pos h7]; exact key 7 _ (by omega)
  rw [dif_neg h7]
  by_cases h8 : r.val - 4 - 4 - 4 - 4 - 4 - 4 - 4 - 4 < 4
  · rw [dif_pos h8]; exact key 8 _ (by omega)
  rw [dif_neg h8]
  by_cases h9 : r.val - 4 - 4 - 4 - 4 - 4 - 4 - 4 - 4 - 4 < 4
  · rw [dif_pos h9]; exact key 9 _ (by omega)
  rw [dif_neg h9]
  by_cases h10 : r.val - 4 - 4 - 4 - 4 - 4 - 4 - 4 - 4 - 4 - 4 < 4
  · rw [dif_pos h10]; exact key 10 _ (by omega)
  rw [dif_neg h10]
  by_cases h11 : r.val - 4 - 4 - 4 - 4 - 4 - 4 - 4 - 4 - 4 - 4 - 4 < 4
  · rw [dif_pos h11]; exact key 11 _ (by omega)
  rw [dif_neg h11]
  by_cases h12 : r.val - 4 - 4 - 4 - 4 - 4 - 4 - 4 - 4 - 4 - 4 - 4 - 4 < 4
  · rw [dif_pos h12]; exact key 12 _ (by omega)
  rw [dif_neg h12]
  by_cases h13 : r.val - 4 - 4 - 4 - 4 - 4 - 4 - 4 - 4 - 4 - 4 - 4 - 4 - 4 < 4
  · rw [dif_pos h13]; exact key 13 _ (by omega)
  rw [dif_neg h13]
  by_cases h14 : r.val - 4 - 4 - 4 - 4 - 4 - 4 - 4 - 4 - 4 - 4 - 4 - 4 - 4 - 4 < 4
  · rw [dif_pos h14]; exact key 14 _ (by omega)
  rw [dif_neg h14]
  exact key 15 _ (by omega)

theorem lookM_apply (v55 : Vec Ideal S64x128 .i8) (v58 v62 : Vec Ideal S1x128 .f32) (r : Fin 64) (l : Fin 128) :
    lookM v55 v58 v62 (ix2 r l) = tab2 v58 v62 (v55 (ix2 r l)) := by
  pointwise [lookM, k0_pay96, k0_pay79, k0_pay81, k0_pay78, k0_pay82, k0_pay83, k0_pay87, k0_pay80, k0_pay85, k0_pay86, k0_pay88,
    k0_pay89, k0_pay90, k0_pay93, k0_pay94, k0_pay95, k0_pay84, k0_pay91, k0_pay92]
  simp only [ge128, and127, select_ofBool]
  exact lad8 (fun k h => tab2 v58 v62 (v55 (ix2 ⟨k, h⟩ l))) r

theorem mOld_apply (v55 : Vec Ideal S64x128 .i8) (v58 v62 : Vec Ideal S1x128 .f32) (s : Fin 4 → Elt Ideal .f32) (r : Fin 64) (l : Fin 128) :
    mOld v55 v58 v62 s (ix2 r l) = tab2 v58 v62 (v55 (ix2 r l)) * s ⟨r.val / 16, by omega⟩ := by
  pointwise [mOld, k0_pay113, lookM_apply]
  exact congrArg _ (lad16 s r)

theorem vOld_apply (v55 : Vec Ideal S64x128 .i8) (v58 v62 : Vec Ideal S1x128 .f32) (s : Fin 4 → Elt Ideal .f32) (r : Fin 64) (l : Fin 128) :
    vOld v55 v58 v62 s (ix2 r l) = tab2 v58 v62 (v55 (ix2 r l)) * s ⟨r.val / 16, by omega⟩ := by
  pointwise [vOld, k0_pay114, k0_pay97, k0_pay98, k0_pay99, k0_pay100, k0_pay101, k0_pay102, k0_pay103, k0_pay104, k0_pay105, k0_pay106,
    k0_pay107, k0_pay108, k0_pay109, k0_pay110, k0_pay111, k0_pay112]
  simp only [ge128, and127, select_ofBool]
  exact congr_arg₂ _ (lad8 (fun k h => tab2 v58 v62 (v55 (ix2 ⟨k, h⟩ l))) r) (lad16 s r)

/-- The gradient of the chunk: its codes times their scales. -/
theorem grad_apply (v309 : Vec Ideal S64x128 .fp8e5m2) (g : Fin 16 → Elt Ideal .f32) (r : Fin 64) (l : Fin 128) :
    k0_pay127 (k0_pay115 v309) (k0_pay116 (g 0)) (k0_pay117 (g 1)) (k0_pay118 (g 2)) (k0_pay119 (g 3)) (k0_pay120 (g 4)) (k0_pay121 (g 5))
      (k0_pay122 (g 6)) (k0_pay123 (g 7)) (k0_pay124 (g 8)) (k0_pay125 (g 9)) (k0_pay126 (g 10)) (g 11) (g 12) (g 13) (g 14) (g 15) (ix2 r l)
    = v309 (ix2 r l) * g ⟨r.val / 4, by omega⟩ := by
  pointwise [k0_pay127, k0_pay115, k0_pay116, k0_pay117, k0_pay118, k0_pay119, k0_pay120, k0_pay121, k0_pay122, k0_pay123, k0_pay124, k0_pay125, k0_pay126]
  exact congrArg _ (lad4 g r)

theorem mNew_apply (m : FVec Ideal S64x128 .f32) (v309 : Vec Ideal S64x128 .fp8e5m2) (g : Fin 16 → Elt Ideal .f32) (r : Fin 64) (l : Fin 128) :
    mNew m v309 g (ix2 r l) = Ideal.ofBits .f32 0x3F666666#32 * m (ix2 r l) + Ideal.ofBits .f32 0x3DCCCCCD#32 * (v309 (ix2 r l) * g ⟨r.val / 4, by omega⟩) := by
  pointwise [mNew, k0_pay128, grad_apply]

theorem vNew_apply (m : FVec Ideal S64x128 .f32) (v309 : Vec Ideal S64x128 .fp8e5m2) (g : Fin 16 → Elt Ideal .f32) (r : Fin 64) (l : Fin 128) :
    vNew m v309 g (ix2 r l) = Ideal.ofBits .f32 0x3F733333#32 * m (ix2 r l)
      + Ideal.ofBits .f32 0x3D4CCCCD#32 * (v309 (ix2 r l) * g ⟨r.val / 4, by omega⟩) * (v309 (ix2 r l) * g ⟨r.val / 4, by omega⟩) := by
  pointwise [vNew, k0_pay129, grad_apply]

theorem mHat_apply (m : FVec Ideal S64x128 .f32) (v309 : Vec Ideal S64x128 .fp8e5m2) (g : Fin 16 → Elt Ideal .f32) (b : Vec Ideal S1x8x128 .f32) (r : Fin 64) (l : Fin 128) :
    mHat m v309 g b (ix2 r l) = Ideal.div (mNew m v309 g (ix2 r l)) (b (ix3 0 0 l)) := by
  pointwise [mHat, k0_pay130, mNew]

theorem vHat_apply (m : FVec Ideal S64x128 .f32) (v309 : Vec Ideal S64x128 .fp8e5m2) (g : Fin 16 → Elt Ideal .f32) (b : Vec Ideal S1x8x128 .f32) (r : Fin 64) (l : Fin 128) :
    vHat m v309 g b (ix2 r l) = Ideal.div (vNew m v309 g (ix2 r l)) (b (ix3 0 0 l)) := by
  pointwise [vHat, k0_pay131, vNew]

/-- The maximum of a function over a block of sixteen rows of 128. -/
def blkMax (f : Fin 16 → Fin 128 → EReal) : EReal :=
  (Finset.univ : Finset (Fin 16 × Fin 128)).fold max (Ideal.ofBits .f32 0xFF800000#32) (fun p => f p.1 p.2)

theorem fold_max_congr {α β : Type} [DecidableEq α] [DecidableEq β] (s : Finset α) (t : Finset β) (b : EReal) (f : α → EReal) (g : β → EReal)
    (h1 : ∀ x ∈ s, ∃ y ∈ t, f x = g y) (h2 : ∀ y ∈ t, ∃ x ∈ s, f x = g y) : s.fold max b f = t.fold max b g := by
  apply le_antisymm
  · refine Finset.fold_max_le _ |>.2 ⟨Finset.le_fold_max _ |>.2 (.inl le_rfl), fun x hx => ?_⟩
    obtain ⟨y, hy, e⟩ := h1 x hx
    exact Finset.le_fold_max _ |>.2 (.inr ⟨y, hy, e.le⟩)
  · refine Finset.fold_max_le _ |>.2 ⟨Finset.le_fold_max _ |>.2 (.inl le_rfl), fun y hy => ?_⟩
    obtain ⟨x, hx, e⟩ := h2 y hy
    exact Finset.le_fold_max _ |>.2 (.inr ⟨x, hx, e.ge⟩)

theorem redmax (src : FVec Ideal S1x16x128 .f32) (h : S1x16x128.Reduces [1, 2] S1) (hφ : FKind.Formats .f32) (hacc) (j : S1.Idx) :
    multiReduction .maximumf [1, 2] S1 src 0xFF800000#32 h hφ hacc j = blkMax fun p q => src (ix3 0 p q) := by
  rw [multiReduction_maximumf_eq_fold]
  refine fold_max_congr _ _ _ _ _ (fun x _ => ?_) (fun y _ => ⟨ix3 0 y.1 y.2, ?_, rfl⟩)
  · idx_vars x
    refine ⟨(x1, x2), Finset.mem_univ _, ?_⟩
    have : x0 = 0 := Subsingleton.elim _ _
    rw [this]
  · refine Finset.mem_filter.2 ⟨Finset.mem_univ _, ?_⟩
    funext a
    fin_cases a
    exact (Subsingleton.elim (α := Fin 1) _ _)

/-- The `a`-th row of a chunk's `q`-th block of sixteen. -/
def rowQ : Fin 4 → Fin 16 → Fin 64
  | 0, a => ⟨a.val, by omega⟩
  | 1, a => ⟨16 + a.val, by omega⟩
  | 2, a => ⟨32 + a.val, by omega⟩
  | 3, a => ⟨48 + a.val, by omega⟩

theorem rowQ_val (q : Fin 4) (a : Fin 16) : (rowQ q a).val = 16 * q.val + a.val := by
  fin_cases q <;> simp [rowQ]

/-- The largest magnitude of the chunk's `q`-th block of a first moment, and the largest value of a second moment's. -/
def mxM (mn : FVec Ideal S64x128 .f32) (q : Fin 4) : EReal := blkMax fun a b => FloatOps.absf (F := Ideal) (φ := .f32) (mn (ix2 (rowQ q a) b))
def mxV (vn : FVec Ideal S64x128 .f32) (q : Fin 4) : EReal := blkMax fun a b => vn (ix2 (rowQ q a) b)

end Cert.Proof.KernelIdeal

end
-- ==== Proof.KernelIdeal.Codes.lean ====
/- The block maxima and the requantised codes of a chunk, element by element. -/
module

public import proofs.«01_k».proof.Proof.KernelIdeal.Values
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-- A concatenation of four pieces of sixteen rows, read at a row. -/
theorem ladR {α} (f : (k : ℕ) → k < 64 → α) (r : Fin 64) :
    (if _h : r.val < 16 then f r.val r.isLt else if _h : r.val - 16 < 16 then f (16 + (r.val - 16)) (by omega) else if _h : r.val - 16 - 16 < 16 then f (32 + (r.val - 16 - 16)) (by omega) else f (48 + (r.val - 16 - 16 - 16)) (by omega)) = f r.val r.isLt := by
  have key : ∀ (k : ℕ) (h : k < 64), k = r.val → f k h = f r.val r.isLt := by rintro k h rfl; rfl
  split_ifs <;> first | rfl | exact key _ _ (by omega)

theorem ladQ {α} (f : Fin 4 → α) (q : Fin 4) :
    (if _h : q.val < 1 then f 0 else if _h : q.val - 1 < 1 then f 1 else if _h : q.val - 1 - 1 < 1 then f 2 else f 3) = f q := by
  fin_cases q <;> rfl

/-- A chunk over its blocks' values, read at a row. -/
theorem norm4 (M : Fin 4 → EReal) (f : (k : ℕ) → k < 64 → EReal) (r : Fin 64) :
    (if _h : r.val < 16 then Ideal.div (f r.val r.isLt) (M 0) else if _h : r.val - 16 < 16 then Ideal.div (f (16 + (r.val - 16)) (by omega)) (M 1)
      else if _h : r.val - 16 - 16 < 16 then Ideal.div (f (32 + (r.val - 16 - 16)) (by omega)) (M 2)
      else Ideal.div (f (48 + (r.val - 16 - 16 - 16)) (by omega)) (M 3)) = Ideal.div (f r.val r.isLt) (M ⟨r.val / 16, by omega⟩) := by
  have key : ∀ (k : ℕ) (h : k < 64), k = r.val → f k h = f r.val r.isLt := by rintro k h rfl; rfl
  have key2 : ∀ (k : ℕ) (h : k < 4), k = r.val / 16 → M ⟨k, h⟩ = M ⟨r.val / 16, by omega⟩ := by rintro k h rfl; rfl
  split_ifs
  · exact congr_arg₂ _ rfl (key2 0 _ (by omega))
  · exact congr_arg₂ _ (key _ _ (by omega)) (key2 1 _ (by omega))
  · exact congr_arg₂ _ (key _ _ (by omega)) (key2 2 _ (by omega))
  · exact congr_arg₂ _ (key _ _ (by omega)) (key2 3 _ (by omega))

theorem amM_apply (mn : FVec Ideal S64x128 .f32) (q : Fin 4) (l : Fin 128) : amM mn (ix2 q l) = mxM mn q := by
  pointwise [amM, k0_pay6, k0_pay135, k0_pay133, k0_pay141, k0_pay139, k0_pay147, k0_pay145, k0_pay153, k0_pay151, redmax]
  exact ladQ (mxM mn) q

theorem amV_apply (mn : FVec Ideal S64x128 .f32) (q : Fin 4) (l : Fin 128) : amV mn (ix2 q l) = mxV mn q := by
  pointwise [amV, k0_pay7, k0_pay136, k0_pay134, k0_pay142, k0_pay140, k0_pay148, k0_pay146, k0_pay154, k0_pay152, redmax]
  exact ladQ (mxV mn) q

theorem cntM_step (mn : FVec Ideal S64x128 .f32) (c : IVec S64x128 32) (q1 q2 : EReal) (r : Fin 64) (l : Fin 128) :
    k0_pay9 (F := Ideal) (k0_pay137 mn) (k0_pay143 mn (k0_pay139 mn)) (k0_pay149 mn) (k0_pay155 mn) c q1 q2 (ix2 r l)
    = c (ix2 r l) + BitVec.setWidth 32 (BitVec.ofBool (decide ((q1 + q2) * Ideal.ofBits .f32 0x3F000000#32 < Ideal.div (mn (ix2 r l)) (mxM mn ⟨r.val / 16, by omega⟩)))) := by
  pointwise [k0_pay9, k0_pay137, k0_pay143, k0_pay149, k0_pay155, k0_pay133, k0_pay135, k0_pay139, k0_pay141, k0_pay145, k0_pay147, k0_pay151, k0_pay153, redmax]
  exact congrArg (fun z => IntOp.addi (c (ix2 r l)) (BitVec.setWidth 32 (BitVec.ofBool (decide ((q1 + q2) * Ideal.ofBits .f32 0x3F000000#32 < z)))))
    (norm4 (mxM mn) (fun k h => mn (ix2 ⟨k, h⟩ l)) r)

theorem cntV_step (mn : FVec Ideal S64x128 .f32) (c : IVec S64x128 32) (q1 q2 : EReal) (r : Fin 64) (l : Fin 128) :
    k0_pay10 (F := Ideal) (k0_pay138 mn) (k0_pay144 mn (k0_pay140 mn)) (k0_pay150 mn) (k0_pay156 mn) c q1 q2 (ix2 r l)
    = c (ix2 r l) + BitVec.setWidth 32 (BitVec.ofBool (decide ((q1 + q2) * Ideal.ofBits .f32 0x3F000000#32 < Ideal.div (mn (ix2 r l)) (mxV mn ⟨r.val / 16, by omega⟩)))) := by
  pointwise [k0_pay10, k0_pay138, k0_pay144, k0_pay150, k0_pay156, k0_pay134, k0_pay136, k0_pay140, k0_pay142, k0_pay146, k0_pay148, k0_pay152, k0_pay154, redmax]
  exact congrArg (fun z => IntOp.addi (c (ix2 r l)) (BitVec.setWidth 32 (BitVec.ofBool (decide ((q1 + q2) * Ideal.ofBits .f32 0x3F000000#32 < z)))))
    (norm4 (mxV mn) (fun k h => mn (ix2 ⟨k, h⟩ l)) r)

theorem cod11 (c : IVec S64x128 32) (r : Fin 64) (l : Fin 128) : k0_pay11 c (ix2 r l) = BitVec.setWidth 8 (c (ix2 r l)) := by
  pointwise [k0_pay11]
theorem cod12 (c : IVec S64x128 32) (r : Fin 64) (l : Fin 128) : k0_pay12 c (ix2 r l) = BitVec.setWidth 8 (c (ix2 r l)) := by
  pointwise [k0_pay12]
theorem cnt0 (r : Fin 64) (l : Fin 128) : k0_pay8 (ix2 r l) = 0#32 := by
  pointwise [k0_pay8]

/-- How many of the first `n` midpoints of a map lie below `x`, in machine words. -/
def cntW (q : Vec Ideal S256 .f32) (x : EReal) : ℕ → BitVec 32
  | 0 => 0#32
  | n + 1 => if h : n < k0_t5_loop.trips then
      cntW q x n + BitVec.setWidth 32 (BitVec.ofBool (decide ((q10 q ⟨n, h⟩ + q11 q ⟨n, h⟩) * Ideal.ofBits .f32 0x3F000000#32 < x)))
    else cntW q x n

theorem cntM_apply (mn : FVec Ideal S64x128 .f32) (q : Vec Ideal S256 .f32) (n : ℕ) (r : Fin 64) (l : Fin 128) :
    cntM mn q n (ix2 r l) = cntW q (Ideal.div (mn (ix2 r l)) (mxM mn ⟨r.val / 16, by omega⟩)) n := by
  induction n with
  | zero => exact cnt0 r l
  | succ n ih =>
    by_cases h : n < k0_t5_loop.trips
    · rw [cntM_succ _ _ n h, cntM_step, ih, cntW, dif_pos h]
    · rw [cntW, dif_neg h, ← ih, cntM, dif_neg h]

theorem cntV_apply (mn : FVec Ideal S64x128 .f32) (q : Vec Ideal S256 .f32) (n : ℕ) (r : Fin 64) (l : Fin 128) :
    cntV mn q n (ix2 r l) = cntW q (Ideal.div (mn (ix2 r l)) (mxV mn ⟨r.val / 16, by omega⟩)) n := by
  induction n with
  | zero => exact cnt0 r l
  | succ n ih =>
    by_cases h : n < k0_t5_loop.trips
    · rw [cntV_succ _ _ n h, cntV_step, ih, cntW, dif_pos h]
    · rw [cntW, dif_neg h, ← ih, cntV, dif_neg h]

theorem codM_apply (mn : FVec Ideal S64x128 .f32) (q : Vec Ideal S256 .f32) (r : Fin 64) (l : Fin 128) :
    codM mn q (ix2 r l) = BitVec.setWidth 8 (cntW q (Ideal.div (mn (ix2 r l)) (mxM mn ⟨r.val / 16, by omega⟩)) k0_t5_loop.trips) := by
  unfold codM; rw [cod11, cntM_apply]
theorem codV_apply (mn : FVec Ideal S64x128 .f32) (q : Vec Ideal S256 .f32) (r : Fin 64) (l : Fin 128) :
    codV mn q (ix2 r l) = BitVec.setWidth 8 (cntW q (Ideal.div (mn (ix2 r l)) (mxV mn ⟨r.val / 16, by omega⟩)) k0_t5_loop.trips) := by
  unfold codV; rw [cod12, cntV_apply]

theorem cU132 (a b c p : FVec Ideal S64x128 .f32) (r : Fin 64) (l : Fin 128) :
    k0_pay132 a b c (Scalar.ofBits .f32 0x00000000#32) p (ix2 r l)
    = (Ideal.ofBits .f32 0x00000000#32 - c (ix2 r l)) * (Ideal.div (a (ix2 r l)) (Ideal.sqrt (b (ix2 r l)) + Ideal.ofBits .f32 0x322BCC77#32) + Ideal.ofBits .f32 0x3DCCCCCD#32 * p (ix2 r l)) := by
  pointwise [k0_pay132]

end Cert.Proof.KernelIdeal

end
-- ==== Proof.KernelIdeal.Rates.lean ====
/- The learning-rate sums the tensor loop leaves in its scratch, element by element. -/
module

public import proofs.«01_k».proof.Proof.KernelIdeal.Body
public import Idealize.ShloMosaic.Lib.Pointwise
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe

/-- One word of a one-dimensional array. -/
theorem ld1 {N : ℕ} {e : EltTy} (x : Vec Ideal ⟨1, ![N]⟩ e) (off : Fin 1 → ℕ) (inb) (j) (n : ℕ) (hn : n < N) (h : off 0 = n) :
    View.ld x (Rect.unit (s := ⟨1, ![N]⟩) off S1.size inb) j = x (ix1 ⟨n, hn⟩) := by
  refine View.ld_unit_apply_of x off S1.size inb j (ix1 ⟨n, hn⟩) fun a => ?_
  fin_cases a
  have hj : (j 0).val < 1 := (j 0).isLt
  show n = off 0 + (j 0).val
  omega

theorem off1_eq : ∀ t : Fin k0_t1_loop.trips, k0_off1 t 0 = t.val := by decide +kernel
theorem off2_eq : ∀ t : Fin k0_t1_loop.trips, k0_off2 t 0 = t.val + 1 := by decide +kernel
theorem off3_eq : ∀ t : Fin k0_t1_loop.trips, k0_off3 t 0 = t.val := by decide +kernel

theorem o1_eq (x : Vec Ideal S97 .i32) (t : Fin k0_t1_loop.trips) (h : t.val < 97) : o1 x t = x (ix1 ⟨t.val, h⟩) := ld1 x _ _ _ _ h (off1_eq t)
theorem o2_eq (x : Vec Ideal S97 .i32) (t : Fin k0_t1_loop.trips) (h : t.val + 1 < 97) : o2 x t = x (ix1 ⟨t.val + 1, h⟩) := ld1 x _ _ _ _ h (off2_eq t)
theorem l3_eq (x : Vec Ideal S96 .f32) (t : Fin k0_t1_loop.trips) (h : t.val < 96) : l3 x t = x (ix1 ⟨t.val, h⟩) := ld1 x _ _ _ _ h (off3_eq t)

theorem select_iff {α} (c : BitVec 1) (p : Prop) [Decidable p] (h : c = 1 ↔ p) (a b : α) : Scalar.select c a b = if p then a else b := by
  unfold Scalar.select
  by_cases hp : p
  · rw [if_pos (h.2 hp), if_pos hp]
  · rw [if_neg (fun hc => hp (h.1 hc)), if_neg hp]

theorem sge_iff {x y : BitVec 32} {a b : ℤ} (hx : Affine.IsInt x a) (hy : Affine.IsInt y b) : IntOp.cmpi .sge x y = 1 ↔ b ≤ a :=
  ⟨fun h => by by_contra hc; exact Affine.sge_fails hx hy hc h, fun h => Affine.sge_holds hx hy h⟩
theorem slt_iff {x y : BitVec 32} {a b : ℤ} (hx : Affine.IsInt x a) (hy : Affine.IsInt y b) : IntOp.cmpi .slt x y = 1 ↔ a < b :=
  ⟨fun h => by by_contra hc; exact Affine.slt_fails hx hy hc h, fun h => Affine.slt_holds hx hy h⟩

theorem andi_one (a b : BitVec 1) : IntOp.andi a b = 1 ↔ a = 1 ∧ b = 1 := by
  revert a b; decide

theorem pay4_apply (i : grid0.Coords) (a b : BitVec 32) (lr : EReal) (k : Fin (k0_t2_loop i a b).trips) (v : Vec Ideal S8x128 .f32) (r : Fin 8) (l : Fin 128) :
    k0_pay4 (F := Ideal) i a (clipW i a) b (clipW i b) (k0_pay77 lr) (firstW i a) k v (ix2 r l)
    = if clipI i a ≤ 128 * (8 * pieceI i a k.val + r.val : ℕ) + l.val ∧ 128 * ((8 * pieceI i a k.val + r.val : ℕ) : ℤ) + l.val < clipI i b
      then v (ix2 r l) + lr * Ideal.ofBits .f32 0x3951B717#32 else v (ix2 r l) := by
  pointwise [k0_pay4, k0_pay3, k0_pay77]
  have hp := pieceI_lt i a b k
  have e128 : Affine.IsInt (128#32) 128 := Affine.ofNat 128 ⟨rfl, by decide⟩
  have e1024 : Affine.IsInt (1024#32) 1024 := Affine.ofNat 1024 ⟨rfl, by decide⟩
  have hr : Affine.IsInt (BitVec.ofNat 32 r.val) (r.val : ℤ) := Affine.ofNat r.val ⟨rfl, by omega⟩
  have hl : Affine.IsInt (BitVec.ofNat 32 l.val) (l.val : ℤ) := Affine.ofNat l.val ⟨rfl, by omega⟩
  have h1 := Affine.muli hr e128 ⟨rfl, by omega, by omega⟩
  have h2 := Affine.addi h1 hl ⟨rfl, by omega, by omega⟩
  have h3 := Affine.muli (iv_isInt i a b k) e1024 ⟨rfl, by omega, by omega⟩
  have h4 := Affine.addi h2 h3 (e := 128 * ((8 * pieceI i a k.val + r.val : ℕ) : ℤ) + l.val) ⟨by push_cast; omega, by push_cast; omega, by push_cast; omega⟩
  refine select_iff _ _ ?_ _ _
  rw [andi_one]
  exact and_congr (sge_iff h4 (clipW_isInt i a)) (slt_iff h4 (clipW_isInt i b))

theorem pay4_of (i : grid0.Coords) (a b : BitVec 32) (lr : EReal) (k : Fin (k0_t2_loop i a b).trips) (v : Vec Ideal S8x128 .f32) (r : Fin 8) (l : Fin 128)
    (y : EReal) (hy : v (ix2 r l) = y) :
    k0_pay4 (F := Ideal) i a (clipW i a) b (clipW i b) (k0_pay77 lr) (firstW i a) k v (ix2 r l)
    = if clipI i a ≤ 128 * (8 * pieceI i a k.val + r.val : ℕ) + l.val ∧ 128 * ((8 * pieceI i a k.val + r.val : ℕ) : ℤ) + l.val < clipI i b
      then y + lr * Ideal.ofBits .f32 0x3951B717#32 else y := by
  rw [pay4_apply, hy]

/-- The scratch after the first `n` pieces of one tensor's range. -/
theorem lrT_apply (i : grid0.Coords) (a b : BitVec 32) (lr : EReal) (x : Vec Ideal S3584x128 .f32) (R : Fin 3584) (l : Fin 128) (n : ℕ)
    (hn : n ≤ (k0_t2_loop i a b).trips) :
    lrT (F := Ideal) i a b lr x n (ix2 R l)
    = if (pieceI i a 0 ≤ R.val / 8 ∧ R.val / 8 < pieceI i a n) ∧ clipI i a ≤ 128 * (R.val : ℤ) + l.val ∧ 128 * (R.val : ℤ) + l.val < clipI i b
      then x (ix2 R l) + lr * Ideal.ofBits .f32 0x3951B717#32 else x (ix2 R l) := by
  induction n with
  | zero =>
    rw [if_neg (by omega)]
    rfl
  | succ n ih =>
    have ih := ih (by omega)
    have e := lrT_succ (F := Ideal) i a b lr x ⟨n, by omega⟩
    rw [e]
    have ho := off4_eq i a b ⟨n, by omega⟩
    have hs : ∀ m, pieceI i a m = pieceI i a 0 + m := fun m => by unfold pieceI; omega
    have h8 := hs n
    have h9 := hs (n + 1)
    unfold VecWindow.put
    by_cases hin : ∀ c, k0_off4 i a b ⟨n, by omega⟩ c ≤ ((ix2 R l : S3584x128.Idx) c).val ∧ ((ix2 R l : S3584x128.Idx) c).val < k0_off4 i a b ⟨n, by omega⟩ c + S8x128.size c
    · rw [dif_pos hin]
      have h0 := hin 0
      rw [ho] at h0
      have h0 : 8 * pieceI i a n ≤ R.val ∧ R.val < 8 * pieceI i a n + 8 := h0
      have hu : (Rect.unitLocal (s := S3584x128) (off := k0_off4 i a b ⟨n, by omega⟩) (size := S8x128.size) (ix2 R l) hin : S8x128.Idx) = ix2 (⟨R.val - 8 * pieceI i a n, by omega⟩ : Fin 8) l := by
        funext c
        fin_cases c
        · apply Fin.ext
          show R.val - k0_off4 i a b ⟨n, by omega⟩ 0 = R.val - 8 * pieceI i a n
          rw [ho]; rfl
        · apply Fin.ext
          show l.val - k0_off4 i a b ⟨n, by omega⟩ 1 = l.val
          rw [ho]; rfl
      have hld : View.ld (lrT (F := Ideal) i a b lr x n) (Rect.unit (k0_off4 i a b ⟨n, by omega⟩) S8x128.size (k0_off4_inb i a b (chk1 i a b) ⟨n, by omega⟩)) (ix2 (⟨R.val - 8 * pieceI i a n, by omega⟩ : Fin 8) l : S8x128.Idx)
          = lrT (F := Ideal) i a b lr x n (ix2 R l) := by
        refine View.ld_unit_apply_of _ _ _ _ _ _ fun c => ?_
        have ho0 : k0_off4 i a b ⟨n, by omega⟩ 0 = 8 * pieceI i a n := by rw [ho]; rfl
        have ho1 : k0_off4 i a b ⟨n, by omega⟩ 1 = 0 := by rw [ho]; rfl
        fin_cases c
        · show R.val = k0_off4 i a b ⟨n, by omega⟩ 0 + (R.val - 8 * pieceI i a n)
          omega
        · show l.val = k0_off4 i a b ⟨n, by omega⟩ 1 + l.val
          omega
      refine (congrArg _ hu).trans ?_
      refine (pay4_of _ _ _ _ _ _ _ _ _ hld).trans ?_
      have ih' : lrT (F := Ideal) i a b lr x n (ix2 R l) = x (ix2 R l) := by rw [ih, if_neg (by omega)]
      rw [ih']
      refine if_congr ?_ rfl rfl
      show _ ≤ 128 * ((8 * pieceI i a n + (R.val - 8 * pieceI i a n) : ℕ) : ℤ) + _ ∧ 128 * ((8 * pieceI i a n + (R.val - 8 * pieceI i a n) : ℕ) : ℤ) + _ < _ ↔ _
      rw [show 8 * pieceI i a n + (R.val - 8 * pieceI i a n) = R.val by omega]
      omega
    · rw [dif_neg hin, ih]
      refine if_congr ?_ rfl rfl
      have : ¬ (8 * pieceI i a n ≤ R.val ∧ R.val < 8 * pieceI i a n + 8) := by
        intro h
        apply hin
        intro c
        rw [ho]
        fin_cases c
        · exact h
        · exact ⟨Nat.zero_le _, by show l.val < 0 + 128; omega⟩
      omega

/-- The scratch after one tensor. -/
theorem lrT_full (i : grid0.Coords) (a b : BitVec 32) (lr : EReal) (x : Vec Ideal S3584x128 .f32) (R : Fin 3584) (l : Fin 128) :
    lrT (F := Ideal) i a b lr x (k0_t2_loop i a b).trips (ix2 R l)
    = if clipI i a ≤ 128 * (R.val : ℤ) + l.val ∧ 128 * (R.val : ℤ) + l.val < clipI i b
      then x (ix2 R l) + lr * Ideal.ofBits .f32 0x3951B717#32 else x (ix2 R l) := by
  rw [lrT_apply i a b lr x R l _ (le_refl _)]
  refine if_congr ?_ rfl rfl
  rw [t2_trips]
  have h := clipI_range i a
  have h' := clipI_range i b
  have hR := R.isLt
  have hl := l.isLt
  unfold pieceI
  omega

theorem elem0_isInt (i : grid0.Coords) : Affine.IsInt (elem0 i) (458752 * ((i 0).val : ℤ)) := by
  have hi : (i 0).val < 7 := (i 0).isLt
  have h1 : Affine.IsInt (BitVec.ofNat 32 (i 0).val) ((i 0).val : ℤ) := Affine.ofNat _ ⟨rfl, by omega⟩
  have h2 : Affine.IsInt (3584#32) 3584 := Affine.ofNat 3584 ⟨rfl, by decide⟩
  have h3 : Affine.IsInt (128#32) 128 := Affine.ofNat 128 ⟨rfl, by decide⟩
  exact Affine.muli (Affine.muli h1 h2 ⟨rfl, by omega, by omega⟩) h3 ⟨by omega, by omega, by omega⟩

theorem clipI_eq (i : grid0.Coords) (v : BitVec 32) (hv : 2752512 - 2147483648 ≤ v.toInt) :
    clipI i v = min 458752 (max 0 (v.toInt - 458752 * ((i 0).val : ℤ))) := by
  have hi : (i 0).val < 7 := (i 0).isLt
  have hw := Affine.word_range v
  have h1 : Affine.IsInt (458752#32) 458752 := Affine.ofNat 458752 ⟨rfl, by decide⟩
  have h0 : Affine.IsInt (0#32) 0 := Affine.ofNat 0 ⟨rfl, by decide⟩
  have hs := Affine.subi (Affine.word v) (elem0_isInt i) ⟨rfl, by omega, by omega⟩
  exact toInt_of_isInt (Affine.minsi h1 (Affine.maxsi h0 hs rfl) rfl)

/-- The sum of the first `n` tensors' rates at a flat element, in the kernel's order. -/
def rateK (off : ℕ → ℤ) (lr : ℕ → EReal) (idx : ℤ) : ℕ → EReal
  | 0 => 0
  | n + 1 => if off n ≤ idx ∧ idx < off (n + 1) then rateK off lr idx n + lr n * Ideal.ofBits .f32 0x3951B717#32 else rateK off lr idx n

/-- A table's words as integers and a table's values, by number. -/
def offZ (x : Vec Ideal S97 .i32) (n : ℕ) : ℤ := if h : n < 97 then (x (ix1 ⟨n, h⟩) : BitVec 32).toInt else 0
def lrN (x : Vec Ideal S96 .f32) (n : ℕ) : EReal := if h : n < 96 then x (ix1 ⟨n, h⟩) else 0

theorem lr20_apply (i : grid0.Coords) (x1 : Vec Ideal S97 .i32) (x6 : Vec Ideal S96 .f32) (h1 : ∀ t, 2752512 - 2147483648 ≤ (x1 t : BitVec 32).toInt)
    (x : Vec Ideal S3584x128 .f32) (R : Fin 3584) (l : Fin 128) (hx : x (ix2 R l) = 0) (n : ℕ) (hn : n ≤ 96) :
    lr20 (F := Ideal) i x1 x6 x n (ix2 R l) = rateK (offZ x1) (lrN x6) (458752 * ((i 0).val : ℤ) + (128 * (R.val : ℤ) + l.val)) n := by
  induction n with
  | zero => exact hx
  | succ n ih =>
    have hk : n < k0_t1_loop.trips := by rw [t1_trips]; omega
    have e := lr20_succ (F := Ideal) i x1 x6 x ⟨n, hk⟩
    rw [e, lrT_full, o1_eq x1 ⟨n, hk⟩ (by show n < 97; omega), o2_eq x1 ⟨n, hk⟩ (by show n + 1 < 97; omega), l3_eq x6 ⟨n, hk⟩ (by show n < 96; omega)]
    rw [clipI_eq i _ (h1 _), clipI_eq i _ (h1 _)]
    show (if _ then lr20 (F := Ideal) i x1 x6 x n (ix2 R l) + _ else lr20 (F := Ideal) i x1 x6 x n (ix2 R l)) = _
    rw [ih (by omega), rateK]
    have hR := R.isLt
    have hl := l.isLt
    have ea : offZ x1 n = (x1 (ix1 ⟨n, by omega⟩) : BitVec 32).toInt := dif_pos _
    have eb : offZ x1 (n + 1) = (x1 (ix1 ⟨n + 1, by omega⟩) : BitVec 32).toInt := dif_pos _
    have el : lrN x6 n = x6 (ix1 ⟨n, by omega⟩) := dif_pos _
    rw [ea, eb, el]
    refine if_congr ?_ rfl rfl
    dsimp only
    omega

/-- The kernel's order of the rates' sum against the sum itself. -/
theorem rateK_eq (off : ℕ → ℤ) (lr : ℕ → EReal) (idx : ℤ) (n : ℕ) :
    rateK off lr idx n = Ideal.ofBits .f32 0x3951B717#32 * ∑ t ∈ Finset.range n, (if off t ≤ idx ∧ idx < off (t + 1) then lr t else 0) := by
  have hc : ∃ c : ℝ, 0 ≤ c ∧ Ideal.ofBits .f32 0x3951B717#32 = ((c : ℝ) : EReal) := by
    simp only [Ideal.ofBits, Ideal.ieee]
    refine ⟨_, ?_, rfl⟩
    simp
  obtain ⟨c, hc0, hc⟩ := hc
  induction n with
  | zero => simp [rateK]
  | succ n ih =>
    rw [Finset.sum_range_succ, hc, EReal.left_distrib_of_nonneg_of_ne_top (EReal.coe_nonneg.2 hc0) (EReal.coe_ne_top c), ← hc, ← ih, rateK]
    split
    · rw [mul_comm]
    · simp

end Cert.Proof.KernelIdeal

end
-- ==== Proof.KernelIdeal.Spec.lean ====
/- The step as one formula per element: what both programs are shown to compute. -/
module

public import proofs.«01_k».proof.Proof.KernelIdeal.Codes
public import proofs.«01_k».proof.Proof.KernelIdeal.Rates

@[expose] public section

set_option maxRecDepth 16384

noncomputable section

namespace Cert.Proof.KernelIdeal

open Cert.KernelIdeal Cert.KernelIdeal.Gen
open Idealize.ShloMosaic Idealize.ShloMosaic.TcCoe
open Idealize.SL.Sem

/-! ## The step, element by element -/

/-- The arguments of the step. -/
structure Args where
  p : Vec Ideal S3211264 .f32
  g : Vec Ideal S3211264 .fp8e5m2
  gs : Vec Ideal S6272 .f32
  mc : Vec Ideal S3211264 .i8
  ma : Vec Ideal S1568 .f32
  vc : Vec Ideal S3211264 .i8
  va : Vec Ideal S1568 .f32
  mq : Vec Ideal S256 .f32
  vq : Vec Ideal S256 .f32
  off : Vec Ideal S97 .i32
  lr : Vec Ideal S96 .f32
  st : BitVec 32

namespace Args
variable (A : Args)

/-- A table's entry at a code. -/
def entry (q : Vec Ideal S256 .f32) (c : BitVec 8) : EReal := q (ix1 ⟨c.toNat, c.isLt⟩)
/-- The gradient of an element. -/
def grad (e : Fin 3211264) : EReal := A.g (ix1 e) * A.gs (ix1 ⟨e.val / 512, by omega⟩)
/-- The updated first moment of an element. -/
def mom (e : Fin 3211264) : EReal :=
  Ideal.ofBits .f32 0x3F666666#32 * (entry A.mq (A.mc (ix1 e)) * A.ma (ix1 ⟨e.val / 2048, by omega⟩)) + Ideal.ofBits .f32 0x3DCCCCCD#32 * A.grad e
/-- The updated second moment of an element. -/
def var (e : Fin 3211264) : EReal :=
  Ideal.ofBits .f32 0x3F733333#32 * (entry A.vq (A.vc (ix1 e)) * A.va (ix1 ⟨e.val / 2048, by omega⟩)) + Ideal.ofBits .f32 0x3D4CCCCD#32 * A.grad e * A.grad e
/-- The element at a row of sixteen and a lane of a block. -/
def el (b : Fin 1568) (r : Fin 16) (l : Fin 128) : Fin 3211264 := ⟨2048 * b.val + 128 * r.val + l.val, by omega⟩
/-- The largest first moment of a block, in absolute value, and its largest second moment. -/
def mmax (b : Fin 1568) : EReal := blkMax fun r l => FloatOps.absf (F := Ideal) (φ := .f32) (A.mom (el b r l))
def vmax (b : Fin 1568) : EReal := blkMax fun r l => A.var (el b r l)
/-- The codes of the updated moments: the count of table midpoints below the normalized value. -/
def mcode (e : Fin 3211264) : BitVec 8 := BitVec.setWidth 8 (cntW A.mq (Ideal.div (A.mom e) (A.mmax ⟨e.val / 2048, by omega⟩)) 255)
def vcode (e : Fin 3211264) : BitVec 8 := BitVec.setWidth 8 (cntW A.vq (Ideal.div (A.var e) (A.vmax ⟨e.val / 2048, by omega⟩)) 255)
/-- The learning rate of an element: the sum of the multipliers of the ranges that hold it. -/
def rate (e : Fin 3211264) : EReal :=
  Ideal.ofBits .f32 0x3951B717#32 * ∑ t ∈ Finset.range 96, (if offZ A.off t ≤ (e.val : ℤ) ∧ (e.val : ℤ) < offZ A.off (t + 1) then lrN A.lr t else 0)
/-- One minus a decay to the power of the step. -/
def corr (b : EReal) : EReal := Ideal.ofBits .f32 0x3F800000#32 - Ideal.pow b ((A.st.toInt : ℝ) : EReal)
/-- The update of an element. -/
def upd (e : Fin 3211264) : EReal :=
  (Ideal.ofBits .f32 0x00000000#32 - A.rate e) * (Ideal.div (Ideal.div (A.mom e) (A.corr (Ideal.ofBits .f32 0x3F666666#32)))
    (Ideal.sqrt (Ideal.div (A.var e) (A.corr (Ideal.ofBits .f32 0x3F733333#32))) + Ideal.ofBits .f32 0x322BCC77#32) + Ideal.ofBits .f32 0x3DCCCCCD#32 * A.p (ix1 e))
end Args

/-- The step's arguments as the kernel's program holds them. -/
def argsK (m : (ℓ : Loc nD τ sig) → Buf (Elt Ideal) ℓ) (c : Dev nD) : Args where
  p := m ((c : Thread nD τ).loc main_arg0)
  g := m ((c : Thread nD τ).loc main_arg1)
  gs := m ((c : Thread nD τ).loc main_arg2)
  mc := m ((c : Thread nD τ).loc main_arg3)
  ma := m ((c : Thread nD τ).loc main_arg4)
  vc := m ((c : Thread nD τ).loc main_arg5)
  va := m ((c : Thread nD τ).loc main_arg6)
  mq := m ((c : Thread nD τ).loc main_arg7)
  vq := m ((c : Thread nD τ).loc main_arg8)
  off := m ((c : Thread nD τ).loc main_arg9)
  lr := m ((c : Thread nD τ).loc main_arg10)
  st := (m ((c : Thread nD τ).loc main_arg11) : Vec Ideal S_ .i32) ix0

end Cert.Proof.KernelIdeal

end
-- ==== Proof.KernelIdeal.Pow.lean ====
/- The powers of the decay rates that the kernel keeps in scratch: repeated squaring over the step's bits is the power. -/
module

public import proofs.«01_k».proof.Proof.KernelIdeal.Body
public import Idealize.ShloMosaic.Lib.Pointwise
public import Idealize.ShloMosaic.Lib.IdealHost

@[expose] public section

set_option maxRecDepth 16384

noncomputable section

namespace Cert.Proof.KernelIdeal

open Cert.KernelIdeal Cert.KernelIdeal.Gen
open Idealize.ShloMosaic Idealize.ShloMosaic.TcCoe

/-- The `n`-th repeated square of a constant, and the product over the first `n` bits of a word, as the kernel computes them. -/
def sqv (c : Ideal .f32) : ℕ → FVec Ideal S8x128 .f32
  | 0 => broadcast S8x128 c
  | n + 1 => mulf (sqv c n) (sqv c n)
def bitW (w : BitVec 32) (n : ℕ) : BitVec 1 := Scalar.cmpi .eq (Scalar.andi (Scalar.shrsi w (BitVec.ofNat 32 n)) 1#32) 1#32
def pvv (c : Ideal .f32) (w : BitVec 32) : ℕ → FVec Ideal S8x128 .f32
  | 0 => broadcast S8x128 (Scalar.ofBits .f32 0x3F800000#32)
  | n + 1 => Scalar.select (bitW w n) (mulf (pvv c w n) (sqv c n)) (pvv c w n)

abbrev b1 : Ideal .f32 := Scalar.ofBits .f32 0x3F666666#32
abbrev b2 : Ideal .f32 := Scalar.ofBits .f32 0x3F733333#32

theorem m20 : k0_pay20 (F := Ideal) = sqv b1 6 := rfl
theorem m19 (w : BitVec 32) : k0_pay19 (F := Ideal) w = pvv b1 w 6 := rfl
theorem m26 (w : BitVec 32) (c) : k0_pay26 (F := Ideal) w (pvv c w 6) (sqv c 6) = pvv c w 12 := rfl
theorem m27 (c) : k0_pay27 (F := Ideal) (sqv c 6) = sqv c 12 := rfl
theorem m34 (w : BitVec 32) (c) : k0_pay34 (F := Ideal) w (pvv c w 12) (sqv c 12) (Scalar.cmpi .eq (Scalar.andi (Scalar.shrsi w 12#32) 1#32) 1#32) = pvv c w 19 := rfl
theorem m35 (c) : k0_pay35 (F := Ideal) (sqv c 12) = sqv c 19 := rfl
theorem m42 (w : BitVec 32) (c) : k0_pay42 (F := Ideal) w (pvv c w 19) (sqv c 19) (Scalar.shrsi w 19#32) 1#32 = pvv c w 26 := rfl
theorem m43 (c) : k0_pay43 (F := Ideal) (sqv c 19) = sqv c 26 := rfl
theorem m44 (w : BitVec 32) (c) : k0_pay44 (F := Ideal) w (pvv c w 26) (sqv c 26)
    = shapeCast S1x8x128 (subf (broadcast S8x128 (Scalar.ofBits .f32 0x3F800000#32)) (pvv c w 31)) shapeCasts_S8x128_S1x8x128 := rfl

theorem bcM_eq (w : BitVec 32) : bcM (F := Ideal) w = shapeCast S1x8x128 (subf (broadcast S8x128 (Scalar.ofBits .f32 0x3F800000#32)) (pvv b1 w 31)) shapeCasts_S8x128_S1x8x128 := by
  unfold bcM
  rw [m19, m20, m26, m27, m34, m35, m42, m43, m44]

theorem n52 : k0_pay52 (F := Ideal) k0_pay46 = sqv b2 6 := rfl
theorem n53 (w : BitVec 32) : k0_pay53 (F := Ideal) w k0_pay45 k0_pay46 (Scalar.shrsi w 0#32) = pvv b2 w 7 := rfl
theorem n60 (w : BitVec 32) (c) : k0_pay60 (F := Ideal) w (sqv c 6) (pvv c w 7) = pvv c w 13 := rfl
theorem n61 (c) : k0_pay61 (F := Ideal) (sqv c 6) = sqv c 13 := rfl
theorem n68 (w : BitVec 32) (c) : k0_pay68 (F := Ideal) w (pvv c w 13) (sqv c 13) (Scalar.andi (Scalar.shrsi w 13#32) 1#32) 1#32 = pvv c w 20 := rfl
theorem n69 (c) : k0_pay69 (F := Ideal) (sqv c 13) = sqv c 20 := rfl
theorem n75 (c) : k0_pay75 (F := Ideal) (sqv c 20) = sqv c 26 := rfl
theorem n76 (w : BitVec 32) (c) : k0_pay76 (F := Ideal) w (pvv c w 20) (sqv c 20) (Scalar.shrsi w 20#32) = pvv c w 27 := rfl
theorem n1 (w : BitVec 32) (c) : k0_pay1 (F := Ideal) w (sqv c 26) (pvv c w 27)
    = shapeCast S1x8x128 (subf (broadcast S8x128 (Scalar.ofBits .f32 0x3F800000#32)) (pvv c w 31)) shapeCasts_S8x128_S1x8x128 := rfl

theorem bcV_eq (w : BitVec 32) : bcV (F := Ideal) w = shapeCast S1x8x128 (subf (broadcast S8x128 (Scalar.ofBits .f32 0x3F800000#32)) (pvv b2 w 31)) shapeCasts_S8x128_S1x8x128 := by
  unfold bcV
  rw [n52, n53, n60, n61, n68, n69, n75, n76, n1]

theorem sqv_apply (c : ℝ) (n : ℕ) (j : S8x128.Idx) : sqv ((c : ℝ) : EReal) n j = ((c ^ (2 ^ n) : ℝ) : EReal) := by
  induction n with
  | zero => simp [sqv, broadcast]
  | succ n ih =>
    have : sqv ((c : ℝ) : EReal) (n + 1) j = (sqv ((c : ℝ) : EReal) n j * sqv ((c : ℝ) : EReal) n j : EReal) := rfl
    rw [this, ih, ← EReal.coe_mul, ← pow_add, pow_succ, mul_two]

theorem bitW_eq (w : BitVec 32) (n : ℕ) (hn : n < 31) : bitW w n = BitVec.ofBool (w.toNat.testBit n) := by
  have h1 : Scalar.shrsi w (BitVec.ofNat 32 n) = w.sshiftRight n := by
    show (if (BitVec.ofNat 32 n).toNat < 32 then w.sshiftRight' (BitVec.ofNat 32 n) else _) = _
    have e : (BitVec.ofNat 32 n).toNat = n := by rw [BitVec.toNat_ofNat]; omega
    rw [if_pos (by omega), BitVec.sshiftRight', e]
  have h2 : Scalar.andi (w.sshiftRight n) 1#32 = BitVec.setWidth 32 (BitVec.ofBool (w.toNat.testBit n)) := by
    show w.sshiftRight n &&& 1#32 = _
    rw [BitVec.and_one_eq_setWidth_ofBool_getLsbD, BitVec.getLsbD_sshiftRight]
    have : n < 32 := by omega
    simp [this, BitVec.testBit_toNat]
  unfold bitW
  rw [h1, h2]
  cases w.toNat.testBit n <;> decide

theorem pvv_apply (c : ℝ) (w : BitVec 32) (n : ℕ) (hn : n ≤ 31) (j : S8x128.Idx) : pvv ((c : ℝ) : EReal) w n j = ((c ^ (w.toNat % 2 ^ n) : ℝ) : EReal) := by
  induction n with
  | zero => simp [pvv, broadcast, Nat.mod_one]
  | succ n ih =>
    have e : pvv ((c : ℝ) : EReal) w (n + 1) j = Scalar.select (bitW w n) (pvv ((c : ℝ) : EReal) w n j * sqv ((c : ℝ) : EReal) n j : EReal) (pvv ((c : ℝ) : EReal) w n j) := by
      show (Scalar.select (bitW w n) _ _ : FVec Ideal S8x128 .f32) j = _
      unfold Scalar.select
      split <;> rfl
    rw [e, bitW_eq w n (by omega), ih (by omega), sqv_apply, Nat.mod_pow_succ]
    unfold Scalar.select
    have hb := Nat.testBit_eq_decide_div_mod_eq (x := w.toNat) (i := n)
    have h2 := Nat.mod_lt (w.toNat / 2 ^ n) (show 0 < 2 by decide)
    cases h : w.toNat.testBit n
    · rw [h] at hb
      have : w.toNat / 2 ^ n % 2 = 0 := by
        have := of_decide_eq_false hb.symm
        omega
      simp [this]
    · rw [h] at hb
      have : w.toNat / 2 ^ n % 2 = 1 := of_decide_eq_true hb.symm
      simp [this, pow_add, EReal.coe_mul]

/-- The two decay rates are finite. -/
theorem b1_real : ∃ c : ℝ, Ideal.ofBits .f32 0x3F666666#32 = ((c : ℝ) : EReal) := by
  simp only [Ideal.ofBits, Ideal.ieee]
  exact ⟨_, rfl⟩
theorem b2_real : ∃ c : ℝ, Ideal.ofBits .f32 0x3F733333#32 = ((c : ℝ) : EReal) := by
  simp only [Ideal.ofBits, Ideal.ieee]
  exact ⟨_, rfl⟩

theorem pvv_pow (b : BitVec 32) (hb : ∃ c : ℝ, Ideal.ofBits .f32 b = ((c : ℝ) : EReal)) (w : BitVec 32) (hw : 0 ≤ w.toInt) (j : S8x128.Idx) :
    pvv (Scalar.ofBits .f32 b) w 31 j = Ideal.pow (Ideal.ofBits .f32 b) ((w.toInt : ℝ) : EReal) := by
  obtain ⟨c, hc⟩ := hb
  have h0 : (Scalar.ofBits .f32 b : Ideal .f32) = ((c : ℝ) : EReal) := hc
  have hlt : w.toNat < 2 ^ 31 := by
    have h1 := BitVec.toInt_eq_toNat_cond w
    have := w.isLt
    split at h1 <;> omega
  have hi : w.toInt = (w.toNat : ℤ) := BitVec.toInt_eq_toNat_of_lt (by omega)
  rw [h0, pvv_apply c w 31 (le_refl _) j, hc, Ideal.pow_coe_coe, Nat.mod_eq_of_lt hlt, hi, Real.rpow_eq_pow, Int.cast_natCast, Real.rpow_natCast]

theorem bcM_apply (w : BitVec 32) (hw : 0 ≤ w.toInt) (a : Fin 8) (l : Fin 128) :
    bcM (F := Ideal) w (ix3 0 a l) = Ideal.ofBits .f32 0x3F800000#32 - Ideal.pow (Ideal.ofBits .f32 0x3F666666#32) ((w.toInt : ℝ) : EReal) := by
  rw [bcM_eq, ← pvv_pow _ b1_real w hw (ix2 a l)]
  pointwise []
theorem bcV_apply (w : BitVec 32) (hw : 0 ≤ w.toInt) (a : Fin 8) (l : Fin 128) :
    bcV (F := Ideal) w (ix3 0 a l) = Ideal.ofBits .f32 0x3F800000#32 - Ideal.pow (Ideal.ofBits .f32 0x3F733333#32) ((w.toInt : ℝ) : EReal) := by
  rw [bcV_eq, ← pvv_pow _ b2_real w hw (ix2 a l)]
  pointwise []

end Cert.Proof.KernelIdeal

end
-- ==== Proof.KernelIdeal.Tile.lean ====
/- What one grid point leaves in its five output blocks, element by element, by the blocks it reads. -/
module

public import proofs.«01_k».proof.Proof.KernelIdeal.Codes
public import proofs.«01_k».proof.Proof.KernelIdeal.Pow
public import proofs.«01_k».proof.Proof.KernelIdeal.Rates
public import Idealize.ShloMosaic.Lib.Pointwise
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe

theorem rows64_apply {e} (x : Vec Ideal S3584x128 e) (k : Fin k0_t4_loop.trips) (r : Fin 64) (l : Fin 128) (h : 64 * k.val + r.val < 3584) :
    rows64 x k (ix2 r l) = x (ix2 ⟨64 * k.val + r.val, h⟩ l) := by
  refine View.ld_unit_apply_of x _ _ _ _ (ix2 ⟨64 * k.val + r.val, h⟩ l) fun c => ?_
  have h0 : k0_off6 k 0 = 64 * k.val := by rw [off6_eq]; rfl
  have h1 : k0_off6 k 1 = 0 := by rw [off6_eq]; rfl
  fin_cases c
  · show 64 * k.val + r.val = k0_off6 k 0 + r.val
    omega
  · show l.val = k0_off6 k 1 + l.val
    omega
theorem row0_apply (x : Vec Ideal S2x128 .f32) (l : Fin 128) : row0 x (ix2 0 l) = x (ix2 0 l) := by
  refine View.ld_unit_apply_of x _ _ _ _ (ix2 0 l) fun c => ?_
  fin_cases c
  · rfl
  · show l.val = 0 + l.val
    omega
theorem row1_apply (x : Vec Ideal S2x128 .f32) (l : Fin 128) : row1 x (ix2 0 l) = x (ix2 1 l) := by
  refine View.ld_unit_apply_of x _ _ _ _ (ix2 1 l) fun c => ?_
  fin_cases c
  · rfl
  · show l.val = 0 + l.val
    omega
theorem bc0_apply (x : Vec Ideal S2x8x128 .f32) (l : Fin 128) : bc0 x (ix3 0 0 l) = x (ix3 0 0 l) := by
  refine View.ld_unit_apply_of x _ _ _ _ (ix3 0 0 l) fun c => ?_
  fin_cases c
  · rfl
  · rfl
  · show l.val = 0 + l.val
    omega
theorem bc1_apply (x : Vec Ideal S2x8x128 .f32) (l : Fin 128) : bc1 x (ix3 0 0 l) = x (ix3 1 0 l) := by
  refine View.ld_unit_apply_of x _ _ _ _ (ix3 1 0 l) fun c => ?_
  fin_cases c
  · rfl
  · rfl
  · show l.val = 0 + l.val
    omega

theorem off7_eq : ∀ (i : grid0.Coords) (k : Fin k0_t4_loop.trips) (r : Fin 4), k0_off7 i k (BitVec.ofNat 32 r.val) 0 = 224 * (i 0).val + 4 * k.val + r.val := by decide +kernel
theorem off8_eq : ∀ (i : grid0.Coords) (k : Fin k0_t4_loop.trips) (r : Fin 16), k0_off8 i k (BitVec.ofNat 32 r.val) 0 = 896 * (i 0).val + 16 * k.val + r.val := by decide +kernel
theorem off10_eq : ∀ k : Fin k0_t5_loop.trips, k0_off10 k 0 = k.val := by decide +kernel
theorem off11_eq : ∀ k : Fin k0_t5_loop.trips, k0_off11 k 0 = k.val + 1 := by decide +kernel

theorem k_lt (k : Fin k0_t4_loop.trips) : k.val < 56 := t4_trips ▸ k.isLt
theorem i_lt (i : grid0.Coords) : (i 0).val < 7 := (i 0).isLt

/-- The old first and second moment, the gradient and the updated moments of a tile at a row and a lane. -/
def tM (i : grid0.Coords) (x3 : Vec Ideal S1568 .f32) (x5 : Vec Ideal S6272 .f32) (x10 : Vec Ideal S3584x128 .fp8e5m2) (x11 : Vec Ideal S3584x128 .i8) (x13 : Vec Ideal S2x128 .f32)
    (R : Fin 3584) (l : Fin 128) : EReal :=
  Ideal.ofBits .f32 0x3F666666#32 * (tab2 (row0 x13) (row1 x13) (x11 (ix2 R l)) * x3 (ix1 ⟨224 * (i 0).val + R.val / 16, by have := i_lt i; omega⟩))
    + Ideal.ofBits .f32 0x3DCCCCCD#32 * (x10 (ix2 R l) * x5 (ix1 ⟨896 * (i 0).val + R.val / 4, by have := i_lt i; omega⟩))
def tV (i : grid0.Coords) (x4 : Vec Ideal S1568 .f32) (x5 : Vec Ideal S6272 .f32) (x10 : Vec Ideal S3584x128 .fp8e5m2) (x12 : Vec Ideal S3584x128 .i8) (x14 : Vec Ideal S2x128 .f32)
    (R : Fin 3584) (l : Fin 128) : EReal :=
  Ideal.ofBits .f32 0x3F733333#32 * (tab2 (row0 x14) (row1 x14) (x12 (ix2 R l)) * x4 (ix1 ⟨224 * (i 0).val + R.val / 16, by have := i_lt i; omega⟩))
    + Ideal.ofBits .f32 0x3D4CCCCD#32 * (x10 (ix2 R l) * x5 (ix1 ⟨896 * (i 0).val + R.val / 4, by have := i_lt i; omega⟩))
      * (x10 (ix2 R l) * x5 (ix1 ⟨896 * (i 0).val + R.val / 4, by have := i_lt i; omega⟩))

theorem s7_eq (x : Vec Ideal S1568 .f32) (i : grid0.Coords) (k : Fin k0_t4_loop.trips) (r : Fin 4) (n : ℕ) (hn : n < 1568) (h : n = 224 * (i 0).val + 4 * k.val + r.val) :
    s7 x i k r = x (ix1 ⟨n, hn⟩) := ld1 x _ _ _ _ hn ((off7_eq i k r).trans h.symm)
theorem s8_eq (x : Vec Ideal S6272 .f32) (i : grid0.Coords) (k : Fin k0_t4_loop.trips) (r : Fin 16) (n : ℕ) (hn : n < 6272) (h : n = 896 * (i 0).val + 16 * k.val + r.val) :
    s8 x i k r = x (ix1 ⟨n, hn⟩) := ld1 x _ _ _ _ hn ((off8_eq i k r).trans h.symm)

theorem cM_apply (i : grid0.Coords) (k : Fin k0_t4_loop.trips) (x3 : Vec Ideal S1568 .f32) (x5 : Vec Ideal S6272 .f32) (x10 : Vec Ideal S3584x128 .fp8e5m2)
    (x11 : Vec Ideal S3584x128 .i8) (x13 : Vec Ideal S2x128 .f32) (r : Fin 64) (l : Fin 128) (R : Fin 3584) (hR : R.val = 64 * k.val + r.val) :
    cM i k x3 x5 x10 x11 x13 (ix2 r l) = tM i x3 x5 x10 x11 x13 R l := by
  have hk := k_lt k
  have hi := i_lt i
  have e : R = ⟨64 * k.val + r.val, by omega⟩ := Fin.ext hR
  unfold cM
  rw [mNew_apply, mOld_apply, rows64_apply x11 k r l (by omega), rows64_apply x10 k r l (by omega)]
  rw [s7_eq x3 i k _ (224 * (i 0).val + R.val / 16) (by omega) (by dsimp only; omega), s8_eq x5 i k _ (896 * (i 0).val + R.val / 4) (by omega) (by dsimp only; omega), ← e]
  rfl
theorem cV_apply (i : grid0.Coords) (k : Fin k0_t4_loop.trips) (x4 : Vec Ideal S1568 .f32) (x5 : Vec Ideal S6272 .f32) (x10 : Vec Ideal S3584x128 .fp8e5m2)
    (x12 : Vec Ideal S3584x128 .i8) (x14 : Vec Ideal S2x128 .f32) (r : Fin 64) (l : Fin 128) (R : Fin 3584) (hR : R.val = 64 * k.val + r.val) :
    cV i k x4 x5 x10 x12 x14 (ix2 r l) = tV i x4 x5 x10 x12 x14 R l := by
  have hk := k_lt k
  have hi := i_lt i
  have e : R = ⟨64 * k.val + r.val, by omega⟩ := Fin.ext hR
  unfold cV
  rw [vNew_apply, vOld_apply, rows64_apply x12 k r l (by omega), rows64_apply x10 k r l (by omega)]
  rw [s7_eq x4 i k _ (224 * (i 0).val + R.val / 16) (by omega) (by dsimp only; omega), s8_eq x5 i k _ (896 * (i 0).val + R.val / 4) (by omega) (by dsimp only; omega), ← e]
  rfl

/-- The `b`-th row of sixteen of a tile's `q`-th block. -/
def rowT (q : Fin 224) (a : Fin 16) : Fin 3584 := ⟨16 * q.val + a.val, by omega⟩

theorem mxM_apply (i : grid0.Coords) (k : Fin k0_t4_loop.trips) (x3 : Vec Ideal S1568 .f32) (x5 : Vec Ideal S6272 .f32) (x10 : Vec Ideal S3584x128 .fp8e5m2)
    (x11 : Vec Ideal S3584x128 .i8) (x13 : Vec Ideal S2x128 .f32) (r : Fin 4) (q : Fin 224) (hq : q.val = 4 * k.val + r.val) :
    mxM (cM i k x3 x5 x10 x11 x13) r = blkMax fun a b => FloatOps.absf (F := Ideal) (φ := .f32) (tM i x3 x5 x10 x11 x13 (rowT q a) b) := by
  unfold mxM
  congr 1
  funext a b
  rw [cM_apply i k x3 x5 x10 x11 x13 (rowQ r a) b (rowT q a) (by rw [rowQ_val]; show 16 * q.val + a.val = _; omega)]
theorem mxV_apply (i : grid0.Coords) (k : Fin k0_t4_loop.trips) (x4 : Vec Ideal S1568 .f32) (x5 : Vec Ideal S6272 .f32) (x10 : Vec Ideal S3584x128 .fp8e5m2)
    (x12 : Vec Ideal S3584x128 .i8) (x14 : Vec Ideal S2x128 .f32) (r : Fin 4) (q : Fin 224) (hq : q.val = 4 * k.val + r.val) :
    mxV (cV i k x4 x5 x10 x12 x14) r = blkMax fun a b => tV i x4 x5 x10 x12 x14 (rowT q a) b := by
  unfold mxV
  congr 1
  funext a b
  rw [cV_apply i k x4 x5 x10 x12 x14 (rowQ r a) b (rowT q a) (by rw [rowQ_val]; show 16 * q.val + a.val = _; omega)]

/-! ## The blocks as their chunks make them -/

theorem allAt64 {e} (w : Fin k0_t4_loop.trips → Vec Ideal S64x128 e) (R : Fin 3584) (l : Fin 128) (v : Elt Ideal e)
    (h : ∀ (k : Fin k0_t4_loop.trips) (r : Fin 64), R.val = 64 * k.val + r.val → w k (ix2 r l) = v) : ∀ n, View.AllAt (pieces64 w n) (ix2 R l) v := by
  intro n
  induction n with
  | zero => exact View.allAt_nil _ _
  | succ n ih =>
    by_cases hn : n < k0_t4_loop.trips
    · rw [show n + 1 = ((⟨n, hn⟩ : Fin k0_t4_loop.trips).val + 1) from rfl, pieces64_succ]
      refine View.allAt_cons_unit _ _ _ _ _ (fun x hx => ?_) ih
      have h0 := hx 0
      have h1 := hx 1
      rw [off6_eq] at h0 h1
      have e : x = (ix2 (x 0) l : S64x128.Idx) := by
        funext c
        fin_cases c
        · rfl
        · apply Fin.ext
          have h1 : l.val = 0 + (x 1).val := h1
          show (x 1).val = l.val
          omega
      rw [e]
      exact h ⟨n, hn⟩ (x 0) h0
    · rw [show pieces64 w (n + 1) = pieces64 w n from dif_neg hn]
      exact ih
theorem canon64 {e} (w : Fin k0_t4_loop.trips → Vec Ideal S64x128 e) (R : Fin 3584) (l : Fin 128) (v : Elt Ideal e)
    (h : ∀ (k : Fin k0_t4_loop.trips) (r : Fin 64), R.val = 64 * k.val + r.val → w k (ix2 r l) = v) : View.canon (pieces64 w 56) (ix2 R l) = v :=
  View.canon_eq_of_allAt _ _ _ (cover64 w _) (allAt64 w R l v h 56)

theorem allAt4 {e} (w : Fin k0_t4_loop.trips → Vec Ideal S4x128 e) (R : Fin 224) (l : Fin 128) (v : Elt Ideal e)
    (h : ∀ (k : Fin k0_t4_loop.trips) (r : Fin 4), R.val = 4 * k.val + r.val → w k (ix2 r l) = v) : ∀ n, View.AllAt (pieces4 w n) (ix2 R l) v := by
  intro n
  induction n with
  | zero => exact View.allAt_nil _ _
  | succ n ih =>
    by_cases hn : n < k0_t4_loop.trips
    · rw [show n + 1 = ((⟨n, hn⟩ : Fin k0_t4_loop.trips).val + 1) from rfl, pieces4_succ]
      refine View.allAt_cons_unit _ _ _ _ _ (fun x hx => ?_) ih
      have h0 := hx 0
      have h1 := hx 1
      rw [off9_eq] at h0 h1
      have e : x = (ix2 (x 0) l : S4x128.Idx) := by
        funext c
        fin_cases c
        · rfl
        · apply Fin.ext
          have h1 : l.val = 0 + (x 1).val := h1
          show (x 1).val = l.val
          omega
      rw [e]
      exact h ⟨n, hn⟩ (x 0) h0
    · rw [show pieces4 w (n + 1) = pieces4 w n from dif_neg hn]
      exact ih
theorem canon4 {e} (w : Fin k0_t4_loop.trips → Vec Ideal S4x128 e) (R : Fin 224) (l : Fin 128) (v : Elt Ideal e)
    (h : ∀ (k : Fin k0_t4_loop.trips) (r : Fin 4), R.val = 4 * k.val + r.val → w k (ix2 r l) = v) : View.canon (pieces4 w 56) (ix2 R l) = v :=
  View.canon_eq_of_allAt _ _ _ (cover4 w _) (allAt4 w R l v h 56)

theorem oAM_apply (i : grid0.Coords) (x3 : Vec Ideal S1568 .f32) (x5 : Vec Ideal S6272 .f32) (x10 : Vec Ideal S3584x128 .fp8e5m2)
    (x11 : Vec Ideal S3584x128 .i8) (x13 : Vec Ideal S2x128 .f32) (q : Fin 224) (l : Fin 128) :
    oAM i x3 x5 x10 x11 x13 (ix2 q l) = blkMax fun a b => FloatOps.absf (F := Ideal) (φ := .f32) (tM i x3 x5 x10 x11 x13 (rowT q a) b) :=
  canon4 _ q l _ fun k r h => (amM_apply _ r l).trans (mxM_apply i k x3 x5 x10 x11 x13 r q h)
theorem oAV_apply (i : grid0.Coords) (x4 : Vec Ideal S1568 .f32) (x5 : Vec Ideal S6272 .f32) (x10 : Vec Ideal S3584x128 .fp8e5m2)
    (x12 : Vec Ideal S3584x128 .i8) (x14 : Vec Ideal S2x128 .f32) (q : Fin 224) (l : Fin 128) :
    oAV i x4 x5 x10 x12 x14 (ix2 q l) = blkMax fun a b => tV i x4 x5 x10 x12 x14 (rowT q a) b :=
  canon4 _ q l _ fun k r h => (amV_apply _ r l).trans (mxV_apply i k x4 x5 x10 x12 x14 r q h)

theorem oM_apply (i : grid0.Coords) (x3 : Vec Ideal S1568 .f32) (x5 : Vec Ideal S6272 .f32) (x7 : Vec Ideal S256 .f32) (x10 : Vec Ideal S3584x128 .fp8e5m2)
    (x11 : Vec Ideal S3584x128 .i8) (x13 : Vec Ideal S2x128 .f32) (R : Fin 3584) (l : Fin 128) :
    oM i x3 x5 x7 x10 x11 x13 (ix2 R l) = BitVec.setWidth 8 (cntW x7 (Ideal.div (tM i x3 x5 x10 x11 x13 R l)
      (blkMax fun a b => FloatOps.absf (F := Ideal) (φ := .f32) (tM i x3 x5 x10 x11 x13 (rowT ⟨R.val / 16, by omega⟩ a) b))) k0_t5_loop.trips) :=
  canon64 _ R l _ fun k r h => by
    rw [codM_apply, cM_apply i k x3 x5 x10 x11 x13 r l R h, mxM_apply i k x3 x5 x10 x11 x13 ⟨r.val / 16, by omega⟩ ⟨R.val / 16, by omega⟩ (by dsimp only; omega)]
theorem oV_apply (i : grid0.Coords) (x4 : Vec Ideal S1568 .f32) (x5 : Vec Ideal S6272 .f32) (x8 : Vec Ideal S256 .f32) (x10 : Vec Ideal S3584x128 .fp8e5m2)
    (x12 : Vec Ideal S3584x128 .i8) (x14 : Vec Ideal S2x128 .f32) (R : Fin 3584) (l : Fin 128) :
    oV i x4 x5 x8 x10 x12 x14 (ix2 R l) = BitVec.setWidth 8 (cntW x8 (Ideal.div (tV i x4 x5 x10 x12 x14 R l)
      (blkMax fun a b => tV i x4 x5 x10 x12 x14 (rowT ⟨R.val / 16, by omega⟩ a) b)) k0_t5_loop.trips) :=
  canon64 _ R l _ fun k r h => by
    rw [codV_apply, cV_apply i k x4 x5 x10 x12 x14 r l R h, mxV_apply i k x4 x5 x10 x12 x14 ⟨r.val / 16, by omega⟩ ⟨R.val / 16, by omega⟩ (by dsimp only; omega)]

theorem oU_apply (i : grid0.Coords) (x1 : Vec Ideal S97 .i32) (x3 x4 : Vec Ideal S1568 .f32) (x5 : Vec Ideal S6272 .f32) (x6 : Vec Ideal S96 .f32) (x9 : Vec Ideal S3584x128 .f32)
    (x10 : Vec Ideal S3584x128 .fp8e5m2) (x11 x12 : Vec Ideal S3584x128 .i8) (x13 x14 : Vec Ideal S2x128 .f32) (b : Vec Ideal S2x8x128 .f32) (R : Fin 3584) (l : Fin 128) :
    oU i x1 x3 x4 x5 x6 x9 x10 x11 x12 x13 x14 b (ix2 R l)
    = (Ideal.ofBits .f32 0x00000000#32 - lrOf i x1 x6 (ix2 R l)) * (Ideal.div (Ideal.div (tM i x3 x5 x10 x11 x13 R l) (b (ix3 0 0 l)))
        (Ideal.sqrt (Ideal.div (tV i x4 x5 x10 x12 x14 R l) (b (ix3 1 0 l))) + Ideal.ofBits .f32 0x322BCC77#32) + Ideal.ofBits .f32 0x3DCCCCCD#32 * x9 (ix2 R l)) :=
  canon64 _ R l _ fun k r h => by
    have hk := k_lt k
    have e : R = ⟨64 * k.val + r.val, by omega⟩ := Fin.ext h
    have hM := cM_apply i k x3 x5 x10 x11 x13 r l R h
    have hV := cV_apply i k x4 x5 x10 x12 x14 r l R h
    unfold cM at hM
    unfold cV at hV
    unfold cU
    rw [cU132, mHat_apply, vHat_apply, hM, hV, bc0_apply, bc1_apply, rows64_apply x9 k r l (by omega), rows64_apply (lrOf i x1 x6) k r l (by omega), ← e]

/-- The two rows of powers, read. -/
theorem bc21_0 (w : BitVec 32) (l : Fin 128) : bc21 (F := Ideal) w (ix3 0 0 l) = bcM (F := Ideal) w (ix3 0 0 l) := by
  refine View.canon_eq_of_allAt _ _ _ (cover21 _ _ _) ?_
  refine View.allAt_cons_unit _ _ _ _ _ (fun x hx => ?_) (View.allAt_cons_unit _ _ _ _ _ (fun x hx => ?_) (View.allAt_nil _ _))
  · have h0 : 0 = 1 + (x 0).val := hx 0
    omega
  · have e : x = (ix3 0 0 l : S1x8x128.Idx) := by
      funext c
      apply Fin.ext
      have := hx c
      fin_cases c
      · have h : 0 = 0 + (x 0).val := this
        show (x 0).val = 0
        omega
      · have h : 0 = 0 + (x 1).val := this
        show (x 1).val = 0
        omega
      · have h : l.val = 0 + (x 2).val := this
        show (x 2).val = l.val
        omega
    rw [e]
theorem bc21_1 (w : BitVec 32) (l : Fin 128) : bc21 (F := Ideal) w (ix3 1 0 l) = bcV (F := Ideal) w (ix3 0 0 l) := by
  refine View.canon_eq_of_allAt _ _ _ (cover21 _ _ _) ?_
  refine View.allAt_cons_unit _ _ _ _ _ (fun x hx => ?_) (View.allAt_cons_unit _ _ _ _ _ (fun x hx => ?_) (View.allAt_nil _ _))
  · have e : x = (ix3 0 0 l : S1x8x128.Idx) := by
      funext c
      apply Fin.ext
      have := hx c
      fin_cases c
      · have h : 1 = 1 + (x 0).val := this
        show (x 0).val = 0
        omega
      · have h : 0 = 0 + (x 1).val := this
        show (x 1).val = 0
        omega
      · have h : l.val = 0 + (x 2).val := this
        show (x 2).val = l.val
        omega
    rw [e]
  · have h0 : 1 = 0 + (x 0).val := hx 0
    have h1 : (x 0).val < 1 := (x 0).isLt
    omega

end Cert.Proof.KernelIdeal

end
-- ==== Proof.KernelIdeal.Points.lean ====
/- One grid point's output blocks in terms of the arguments its input blocks are cut from. -/
module

public import proofs.«01_k».proof.Proof.KernelIdeal.Spec
public import proofs.«01_k».proof.Proof.KernelIdeal.Tile
public import proofs.«01_k».proof.Proof.KernelIdeal.Tile
public import Idealize.ShloMosaic.Lib.Pointwise
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe
open Idealize.SL.Sem

variable (A : Args) (i : grid0.Coords)

/-- A block of a flat argument: point `i`'s rows of it, 128 to a row. -/
def IsBlk {e} (i : grid0.Coords) (x : Vec Ideal S3584x128 e) (a : Vec Ideal S3211264 e) : Prop :=
  ∀ (R : Fin 3584) (l : Fin 128) (e : Fin 3211264), e.val = 128 * (3584 * (i 0).val + R.val) + l.val → x (ix2 R l) = a (ix1 e)
/-- A table as two rows of 128. -/
def IsTab (x : Vec Ideal S2x128 .f32) (a : Vec Ideal S256 .f32) : Prop :=
  ∀ (R : Fin 2) (l : Fin 128) (e : Fin 256), e.val = 128 * R.val + l.val → x (ix2 R l) = a (ix1 e)

theorem ent_of (x : Vec Ideal S2x128 .f32) (a : Vec Ideal S256 .f32) (h : IsTab x a) (b : BitVec 8) : tab2 (row0 x) (row1 x) b = Args.entry a b := by
  unfold tab2
  have hb := b.isLt
  rw [row0_apply, row1_apply]
  split
  · exact h 1 _ ⟨b.toNat, hb⟩ (by show b.toNat = 128 * 1 + b.toNat % 128; omega)
  · exact h 0 _ ⟨b.toNat, hb⟩ (by show b.toNat = 128 * 0 + b.toNat % 128; omega)

theorem grad_of (x10 : Vec Ideal S3584x128 .fp8e5m2) (h10 : IsBlk i x10 A.g) (R : Fin 3584) (l : Fin 128) (e : Fin 3211264)
    (he : e.val = 128 * (3584 * (i 0).val + R.val) + l.val) (n : ℕ) (hn : n < 6272) (h : n = 896 * (i 0).val + R.val / 4) :
    (x10 (ix2 R l) : EReal) * A.gs (ix1 ⟨n, hn⟩) = A.grad e := by
  have hi := i_lt i
  rw [h10 R l e he]
  unfold Args.grad
  rw [show (⟨n, hn⟩ : Fin 6272) = ⟨e.val / 512, by omega⟩ from Fin.ext (by dsimp only; omega)]

theorem tM_of (x10 : Vec Ideal S3584x128 .fp8e5m2) (h10 : IsBlk i x10 A.g) (x11 : Vec Ideal S3584x128 .i8) (h11 : IsBlk i x11 A.mc)
    (x13 : Vec Ideal S2x128 .f32) (h13 : IsTab x13 A.mq) (R : Fin 3584) (l : Fin 128) (e : Fin 3211264) (he : e.val = 128 * (3584 * (i 0).val + R.val) + l.val) :
    tM i A.ma A.gs x10 x11 x13 R l = A.mom e := by
  have hi := i_lt i
  unfold tM
  rw [grad_of A i x10 h10 R l e he _ _ rfl, ent_of x13 A.mq h13, h11 R l e he]
  unfold Args.mom
  rw [show (⟨224 * (i 0).val + R.val / 16, by omega⟩ : Fin 1568) = ⟨e.val / 2048, by omega⟩ from Fin.ext (by dsimp only; omega)]
theorem tV_of (x10 : Vec Ideal S3584x128 .fp8e5m2) (h10 : IsBlk i x10 A.g) (x12 : Vec Ideal S3584x128 .i8) (h12 : IsBlk i x12 A.vc)
    (x14 : Vec Ideal S2x128 .f32) (h14 : IsTab x14 A.vq) (R : Fin 3584) (l : Fin 128) (e : Fin 3211264) (he : e.val = 128 * (3584 * (i 0).val + R.val) + l.val) :
    tV i A.va A.gs x10 x12 x14 R l = A.var e := by
  have hi := i_lt i
  unfold tV
  rw [grad_of A i x10 h10 R l e he _ _ rfl, ent_of x14 A.vq h14, h12 R l e he]
  unfold Args.var
  rw [show (⟨224 * (i 0).val + R.val / 16, by omega⟩ : Fin 1568) = ⟨e.val / 2048, by omega⟩ from Fin.ext (by dsimp only; omega)]

theorem oAM_of (x10 : Vec Ideal S3584x128 .fp8e5m2) (h10 : IsBlk i x10 A.g) (x11 : Vec Ideal S3584x128 .i8) (h11 : IsBlk i x11 A.mc)
    (x13 : Vec Ideal S2x128 .f32) (h13 : IsTab x13 A.mq) (q : Fin 224) (l : Fin 128) (b : Fin 1568) (hb : b.val = 224 * (i 0).val + q.val) :
    oAM i A.ma A.gs x10 x11 x13 (ix2 q l) = A.mmax b := by
  rw [oAM_apply]
  unfold Args.mmax
  congr 1
  funext r l
  rw [tM_of A i x10 h10 x11 h11 x13 h13 (rowT q r) l (Args.el b r l)
    (by show 2048 * b.val + 128 * r.val + l.val = 128 * (3584 * (i 0).val + (16 * q.val + r.val)) + l.val; omega)]
theorem oAV_of (x10 : Vec Ideal S3584x128 .fp8e5m2) (h10 : IsBlk i x10 A.g) (x12 : Vec Ideal S3584x128 .i8) (h12 : IsBlk i x12 A.vc)
    (x14 : Vec Ideal S2x128 .f32) (h14 : IsTab x14 A.vq) (q : Fin 224) (l : Fin 128) (b : Fin 1568) (hb : b.val = 224 * (i 0).val + q.val) :
    oAV i A.va A.gs x10 x12 x14 (ix2 q l) = A.vmax b := by
  rw [oAV_apply]
  unfold Args.vmax
  congr 1
  funext r l
  rw [tV_of A i x10 h10 x12 h12 x14 h14 (rowT q r) l (Args.el b r l)
    (by show 2048 * b.val + 128 * r.val + l.val = 128 * (3584 * (i 0).val + (16 * q.val + r.val)) + l.val; omega)]

theorem oM_of (x10 : Vec Ideal S3584x128 .fp8e5m2) (h10 : IsBlk i x10 A.g) (x11 : Vec Ideal S3584x128 .i8) (h11 : IsBlk i x11 A.mc)
    (x13 : Vec Ideal S2x128 .f32) (h13 : IsTab x13 A.mq) (R : Fin 3584) (l : Fin 128) (e : Fin 3211264) (he : e.val = 128 * (3584 * (i 0).val + R.val) + l.val) :
    oM i A.ma A.gs A.mq x10 x11 x13 (ix2 R l) = A.mcode e := by
  have hi := i_lt i
  have h := oAM_of A i x10 h10 x11 h11 x13 h13 ⟨R.val / 16, by omega⟩ l ⟨e.val / 2048, by omega⟩ (by dsimp only; omega)
  rw [oAM_apply] at h
  rw [oM_apply, h, tM_of A i x10 h10 x11 h11 x13 h13 R l e he, t5_trips]
  rfl
theorem oV_of (x10 : Vec Ideal S3584x128 .fp8e5m2) (h10 : IsBlk i x10 A.g) (x12 : Vec Ideal S3584x128 .i8) (h12 : IsBlk i x12 A.vc)
    (x14 : Vec Ideal S2x128 .f32) (h14 : IsTab x14 A.vq) (R : Fin 3584) (l : Fin 128) (e : Fin 3211264) (he : e.val = 128 * (3584 * (i 0).val + R.val) + l.val) :
    oV i A.va A.gs A.vq x10 x12 x14 (ix2 R l) = A.vcode e := by
  have hi := i_lt i
  have h := oAV_of A i x10 h10 x12 h12 x14 h14 ⟨R.val / 16, by omega⟩ l ⟨e.val / 2048, by omega⟩ (by dsimp only; omega)
  rw [oAV_apply] at h
  rw [oV_apply, h, tV_of A i x10 h10 x12 h12 x14 h14 R l e he, t5_trips]
  rfl

theorem zeros_apply (R : Fin 3584) (l : Fin 128) : (k0_pay2 (F := Ideal) : FVec Ideal S3584x128 .f32) (ix2 R l) = 0 := by
  pointwise [k0_pay2]
theorem lrOf_of (h1 : ∀ t, 2752512 - 2147483648 ≤ (A.off t : BitVec 32).toInt) (R : Fin 3584) (l : Fin 128) (e : Fin 3211264)
    (he : e.val = 128 * (3584 * (i 0).val + R.val) + l.val) : lrOf i A.off A.lr (ix2 R l) = A.rate e := by
  unfold lrOf
  have ht : Scf.trips k0_t1_loop.lb k0_t1_loop.ub k0_t1_loop.st = 96 := t1_trips
  rw [ht, lr20_apply i A.off A.lr h1 _ R l (zeros_apply R l) 96 (Nat.le_refl _), rateK_eq]
  unfold Args.rate
  rw [show (458752 * ((i 0).val : ℤ) + (128 * (R.val : ℤ) + l.val)) = (e.val : ℤ) by omega]

theorem oU_of (h1 : ∀ t, 2752512 - 2147483648 ≤ (A.off t : BitVec 32).toInt) (hs : 0 ≤ A.st.toInt)
    (x9 : Vec Ideal S3584x128 .f32) (h9 : IsBlk i x9 A.p) (x10 : Vec Ideal S3584x128 .fp8e5m2) (h10 : IsBlk i x10 A.g)
    (x11 : Vec Ideal S3584x128 .i8) (h11 : IsBlk i x11 A.mc) (x12 : Vec Ideal S3584x128 .i8) (h12 : IsBlk i x12 A.vc)
    (x13 : Vec Ideal S2x128 .f32) (h13 : IsTab x13 A.mq) (x14 : Vec Ideal S2x128 .f32) (h14 : IsTab x14 A.vq)
    (R : Fin 3584) (l : Fin 128) (e : Fin 3211264) (he : e.val = 128 * (3584 * (i 0).val + R.val) + l.val) :
    oU i A.off A.ma A.va A.gs A.lr x9 x10 x11 x12 x13 x14 (bc21 A.st) (ix2 R l) = A.upd e := by
  rw [oU_apply, lrOf_of A i h1 R l e he, tM_of A i x10 h10 x11 h11 x13 h13 R l e he, tV_of A i x10 h10 x12 h12 x14 h14 R l e he,
    bc21_0, bc21_1, bcM_apply _ hs, bcV_apply _ hs, h9 R l e he]
  rfl

/-! The same with every whole-argument block named. -/

theorem oU_blk (h1 : ∀ t, 2752512 - 2147483648 ≤ (A.off t : BitVec 32).toInt) (hs : 0 ≤ A.st.toInt)
    {x1 : Vec Ideal S97 .i32} {x3 x4 : Vec Ideal S1568 .f32} {x5 : Vec Ideal S6272 .f32} {x6 : Vec Ideal S96 .f32} {b : Vec Ideal S2x8x128 .f32}
    (e1 : x1 = A.off) (e3 : x3 = A.ma) (e4 : x4 = A.va) (e5 : x5 = A.gs) (e6 : x6 = A.lr) (eb : b = bc21 A.st)
    {x9 : Vec Ideal S3584x128 .f32} (h9 : IsBlk i x9 A.p) {x10 : Vec Ideal S3584x128 .fp8e5m2} (h10 : IsBlk i x10 A.g)
    {x11 : Vec Ideal S3584x128 .i8} (h11 : IsBlk i x11 A.mc) {x12 : Vec Ideal S3584x128 .i8} (h12 : IsBlk i x12 A.vc)
    {x13 : Vec Ideal S2x128 .f32} (h13 : IsTab x13 A.mq) {x14 : Vec Ideal S2x128 .f32} (h14 : IsTab x14 A.vq)
    (R : Fin 3584) (l : Fin 128) (e : Fin 3211264) (he : e.val = 128 * (3584 * (i 0).val + R.val) + l.val) :
    oU i x1 x3 x4 x5 x6 x9 x10 x11 x12 x13 x14 b (ix2 R l) = A.upd e := by
  subst e1 e3 e4 e5 e6 eb
  exact oU_of A i h1 hs x9 h9 x10 h10 x11 h11 x12 h12 x13 h13 x14 h14 R l e he
theorem oM_blk {x3 : Vec Ideal S1568 .f32} {x5 : Vec Ideal S6272 .f32} {x7 : Vec Ideal S256 .f32} (e3 : x3 = A.ma) (e5 : x5 = A.gs) (e7 : x7 = A.mq)
    {x10 : Vec Ideal S3584x128 .fp8e5m2} (h10 : IsBlk i x10 A.g) {x11 : Vec Ideal S3584x128 .i8} (h11 : IsBlk i x11 A.mc)
    {x13 : Vec Ideal S2x128 .f32} (h13 : IsTab x13 A.mq) (R : Fin 3584) (l : Fin 128) (e : Fin 3211264) (he : e.val = 128 * (3584 * (i 0).val + R.val) + l.val) :
    oM i x3 x5 x7 x10 x11 x13 (ix2 R l) = A.mcode e := by
  subst e3 e5 e7
  exact oM_of A i x10 h10 x11 h11 x13 h13 R l e he
theorem oV_blk {x3 : Vec Ideal S1568 .f32} {x5 : Vec Ideal S6272 .f32} {x7 : Vec Ideal S256 .f32} (e3 : x3 = A.va) (e5 : x5 = A.gs) (e7 : x7 = A.vq)
    {x10 : Vec Ideal S3584x128 .fp8e5m2} (h10 : IsBlk i x10 A.g) {x11 : Vec Ideal S3584x128 .i8} (h11 : IsBlk i x11 A.vc)
    {x13 : Vec Ideal S2x128 .f32} (h13 : IsTab x13 A.vq) (R : Fin 3584) (l : Fin 128) (e : Fin 3211264) (he : e.val = 128 * (3584 * (i 0).val + R.val) + l.val) :
    oV i x3 x5 x7 x10 x11 x13 (ix2 R l) = A.vcode e := by
  subst e3 e5 e7
  exact oV_of A i x10 h10 x11 h11 x13 h13 R l e he
theorem oAM_blk {x3 : Vec Ideal S1568 .f32} {x5 : Vec Ideal S6272 .f32} (e3 : x3 = A.ma) (e5 : x5 = A.gs)
    {x10 : Vec Ideal S3584x128 .fp8e5m2} (h10 : IsBlk i x10 A.g) {x11 : Vec Ideal S3584x128 .i8} (h11 : IsBlk i x11 A.mc)
    {x13 : Vec Ideal S2x128 .f32} (h13 : IsTab x13 A.mq) (q : Fin 224) (l : Fin 128) (b : Fin 1568) (hb : b.val = 224 * (i 0).val + q.val) :
    oAM i x3 x5 x10 x11 x13 (ix2 q l) = A.mmax b := by
  subst e3 e5
  exact oAM_of A i x10 h10 x11 h11 x13 h13 q l b hb
theorem oAV_blk {x3 : Vec Ideal S1568 .f32} {x5 : Vec Ideal S6272 .f32} (e3 : x3 = A.va) (e5 : x5 = A.gs)
    {x10 : Vec Ideal S3584x128 .fp8e5m2} (h10 : IsBlk i x10 A.g) {x11 : Vec Ideal S3584x128 .i8} (h11 : IsBlk i x11 A.vc)
    {x13 : Vec Ideal S2x128 .f32} (h13 : IsTab x13 A.vq) (q : Fin 224) (l : Fin 128) (b : Fin 1568) (hb : b.val = 224 * (i 0).val + q.val) :
    oAV i x3 x5 x10 x11 x13 (ix2 q l) = A.vmax b := by
  subst e3 e5
  exact oAV_of A i x10 h10 x11 h11 x13 h13 q l b hb

end Cert.Proof.KernelIdeal

end
-- ==== Proof.KernelIdeal.Host.lean ====
/- The lines of @main around the call, the prefetched tables, and each window's block at a grid point. -/
module

public import proofs.«01_k».proof.Proof.KernelIdeal.Body
public import Idealize.ShloMosaic.Lib.Pipeline.FrameBody
public import Idealize.ShloMosaic.Lib.Pipeline.FrameSuffix
public import Idealize.ShloMosaic.Lib.Claim
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- The buffers when the call is entered: after the lines before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- What each line after the call writes. -/
abbrev hostOps1_W : List (Ref sig .tc) := [main_v8, main_v9, main_v10, main_v11, main_v12, main_v13, main_v14]
theorem hostOps1_writes : (hostOps1 : List (HloOp τ sig (Elt F))).Forall fun op => op.writes ⊆ (hostOps1_W.map (Proc.devRef (τ := τ) .tc)).toFinset :=
  StableHlo.forall_writes_sub_of_map rfl
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset :=
  StableHlo.forall_writes_sub_of_map rfl

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the call touch the call's arrays and the bypassing buffers only, allocate nothing, and write no array of the call. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl
  all_goals intro j; fin_cases j <;> simp only [StableHlo.reshape_bufs, StableHlo.unary_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  intro w hb
  obtain ⟨y, hy, he⟩ := List.mem_map.mp (List.mem_toFinset.mp ((List.forall_iff_forall_mem.mp hostOps1_writes) op hop hb))
  exact (by decide +kernel : ∀ w, Pipeline.arrRef spec0 w ∉ hostOps1_W) w (Proc.devRef_injective _ he ▸ hy)

/-- No line before the call writes an argument: the call finds each as launched. -/
theorem V_arg (c : Dev nD) (b : Ref sig .tc) (hb : b ∉ hostOps0_W) : V m c b = m ((c : Thread nD τ).loc b) := by
  unfold V V0
  rw [List.flatten_cons, List.flatten_nil, List.append_nil, StableHlo.after_of_writes_sub (r := b) hostOps0 _ hostOps0_writes hb]

/-! ## The tables -/

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)
abbrev tb0 : Memref sig .tc .smem S97 .i32 := Memref.whole main_arg9
abbrev tb1 : Memref sig .tc .smem S1 .i32 := Memref.whole main_v0
abbrev sc0 : Memref sig .tc .vmem S3584x128 .f32 := Memref.whole cc0_scratch0
abbrev sc1 : Memref sig .tc .vmem S2x8x128 .f32 := Memref.whole cc0_scratch1
theorem PhiT0_eq (c : Dev nD) : (Pipeline.ΦT pre0 (tbl m) c : sProp 𝕄) = iprop(ownT c tb0 (tbl m 0) ∗ ownT c tb1 (tbl m 1)) := by
  unfold Pipeline.ΦT Pipeline.prefHeld
  rw [show (Finset.univ : Finset (Fin 2)) = {(0 : Fin 2), (1 : Fin 2)} from by decide, bigSep_insert (by decide), bigSep_singleton]
  unfold ownT
  rw [show tb0.view.set = Finset.univ from (Memref.isWhole_whole _).set_eq_univ, show tb1.view.set = Finset.univ from (Memref.isWhole_whole _).set_eq_univ]
  rfl

/-! ## The windows' blocks -/

/-- Window `w`'s block at point `t`, read off its array as the call finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ (cfgM m) c) (hA : dat.A 8 = V m c (Pipeline.arrRef spec0 8))
    (hafter : ∀ t, dat.after 8 t = iblk m c 8 t) (t : Fin (cfgM m).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ (cfgM m) c) (hA : dat.A 9 = V m c (Pipeline.arrRef spec0 9))
    (hafter : ∀ t, dat.after 9 t = iblk m c 9 t) (t : Fin (cfgM m).N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ (cfgM m) c) (hA : dat.A 10 = V m c (Pipeline.arrRef spec0 10))
    (hafter : ∀ t, dat.after 10 t = iblk m c 10 t) (t : Fin (cfgM m).N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ (cfgM m) c) (hA : dat.A 11 = V m c (Pipeline.arrRef spec0 11))
    (hafter : ∀ t, dat.after 11 t = iblk m c 11 t) (t : Fin (cfgM m).N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

end Cert.Proof.KernelIdeal

end
-- ==== Proof.KernelIdeal.Data.lean ====
/- The proof data of the pipelined call: what every buffer holds before and after the body at every grid point. -/
module

public import proofs.«01_k».proof.Proof.KernelIdeal.Host
public import Idealize.ShloMosaic.Lib.Pipeline.FrameBody
public import Idealize.ShloMosaic.Lib.Pipeline.FrameSuffix
public import Idealize.ShloMosaic.Lib.Claim
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the second scratch holds after the first point: the bias corrections of the step. -/
def bcB : Vec F S2x8x128 .f32 := bc21 (w2 (tb1.view.read (Elt F) (tbl m 1)))

theorem bcB_eq : bcB m = bc21 (w2 (tb1.view.read (Elt F) (tbl m 1))) := rfl

/-- Between two points: the scratches, the second one filled once the first point has run; the tables; the generator register. -/
def Phi (c : Dev nD) (n : ℕ) : sProp 𝕄 :=
  iprop((∃ f, own c sc0 f) ∗ (∃ f, own c sc1 f ∗ ⌜n ≠ 0 → sc1.view.read (Elt F) f = bcB m⌝) ∗ (ownT c tb0 (tbl m 0) ∗ ownT c tb1 (tbl m 1)) ∗ ∃ r, prngReg c r)

/-- The proof data: the arrays as the call finds them; each input's buffer at its block, each output's as the body leaves it. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => oU (grid0.coords t) (tb0.view.read (Elt F) (tbl m 0)) (iblk m c 0 t) (iblk m c 1 t) (iblk m c 2 t) (iblk m c 3 t) (iblk m c 6 t) (iblk m c 7 t) (iblk m c 8 t) (iblk m c 9 t) (iblk m c 10 t) (iblk m c 11 t) (bcB m)
    | ⟨13, _⟩ => oM (grid0.coords t) (iblk m c 0 t) (iblk m c 2 t) (iblk m c 4 t) (iblk m c 7 t) (iblk m c 8 t) (iblk m c 10 t)
    | ⟨14, _⟩ => oV (grid0.coords t) (iblk m c 1 t) (iblk m c 2 t) (iblk m c 5 t) (iblk m c 7 t) (iblk m c 9 t) (iblk m c 11 t)
    | ⟨15, _⟩ => oAM (grid0.coords t) (iblk m c 0 t) (iblk m c 2 t) (iblk m c 7 t) (iblk m c 8 t) (iblk m c 10 t)
    | ⟨16, _⟩ => oAV (grid0.coords t) (iblk m c 1 t) (iblk m c 2 t) (iblk m c 7 t) (iblk m c 9 t) (iblk m c 11 t)
    | ⟨_ + 17, h⟩ => absurd h (Nat.not_lt.2 (Nat.le_add_left _ _))
  Φ t := Phi m c t.val
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by unfold dats; rfl
theorem after0_1 (c : Dev nD) (t : Fin (cfgM m).N) : (dats m 0 c).after 1 t = iblk m c 1 t := by unfold dats; rfl
theorem after0_2 (c : Dev nD) (t : Fin (cfgM m).N) : (dats m 0 c).after 2 t = iblk m c 2 t := by unfold dats; rfl
theorem after0_3 (c : Dev nD) (t : Fin (cfgM m).N) : (dats m 0 c).after 3 t = iblk m c 3 t := by unfold dats; rfl
theorem after0_4 (c : Dev nD) (t : Fin (cfgM m).N) : (dats m 0 c).after 4 t = iblk m c 4 t := by unfold dats; rfl
theorem after0_5 (c : Dev nD) (t : Fin (cfgM m).N) : (dats m 0 c).after 5 t = iblk m c 5 t := by unfold dats; rfl
theorem after0_6 (c : Dev nD) (t : Fin (cfgM m).N) : (dats m 0 c).after 6 t = iblk m c 6 t := by unfold dats; rfl
theorem after0_7 (c : Dev nD) (t : Fin (cfgM m).N) : (dats m 0 c).after 7 t = iblk m c 7 t := by unfold dats; rfl
theorem after0_8 (c : Dev nD) (t : Fin (cfgM m).N) : (dats m 0 c).after 8 t = iblk m c 8 t := by unfold dats; rfl
theorem after0_9 (c : Dev nD) (t : Fin (cfgM m).N) : (dats m 0 c).after 9 t = iblk m c 9 t := by unfold dats; rfl
theorem after0_10 (c : Dev nD) (t : Fin (cfgM m).N) : (dats m 0 c).after 10 t = iblk m c 10 t := by unfold dats; rfl
theorem after0_11 (c : Dev nD) (t : Fin (cfgM m).N) : (dats m 0 c).after 11 t = iblk m c 11 t := by unfold dats; rfl
theorem after0_12 (c : Dev nD) (t : Fin (cfgM m).N) : (dats m 0 c).after 12 t = oU (grid0.coords t) (tb0.view.read (Elt F) (tbl m 0)) (iblk m c 0 t) (iblk m c 1 t) (iblk m c 2 t) (iblk m c 3 t) (iblk m c 6 t) (iblk m c 7 t) (iblk m c 8 t) (iblk m c 9 t) (iblk m c 10 t) (iblk m c 11 t) (bcB m) := by unfold dats; rfl
theorem after0_13 (c : Dev nD) (t : Fin (cfgM m).N) : (dats m 0 c).after 13 t = oM (grid0.coords t) (iblk m c 0 t) (iblk m c 2 t) (iblk m c 4 t) (iblk m c 7 t) (iblk m c 8 t) (iblk m c 10 t) := by unfold dats; rfl
theorem after0_14 (c : Dev nD) (t : Fin (cfgM m).N) : (dats m 0 c).after 14 t = oV (grid0.coords t) (iblk m c 1 t) (iblk m c 2 t) (iblk m c 5 t) (iblk m c 7 t) (iblk m c 9 t) (iblk m c 11 t) := by unfold dats; rfl
theorem after0_15 (c : Dev nD) (t : Fin (cfgM m).N) : (dats m 0 c).after 15 t = oAM (grid0.coords t) (iblk m c 0 t) (iblk m c 2 t) (iblk m c 7 t) (iblk m c 8 t) (iblk m c 10 t) := by unfold dats; rfl
theorem after0_16 (c : Dev nD) (t : Fin (cfgM m).N) : (dats m 0 c).after 16 t = oAV (grid0.coords t) (iblk m c 1 t) (iblk m c 2 t) (iblk m c 7 t) (iblk m c 9 t) (iblk m c 11 t) := by unfold dats; rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d
theorem before0_4 (c : Dev nD) (t : Fin (cfgM m).N) (d) : (dats m 0 c).before 4 t d = iblk m c 4 t :=
  before0_4_of m (dats m 0 c) (A_eq m c 4) (after0_4 m c) t d
theorem before0_5 (c : Dev nD) (t : Fin (cfgM m).N) (d) : (dats m 0 c).before 5 t d = iblk m c 5 t :=
  before0_5_of m (dats m 0 c) (A_eq m c 5) (after0_5 m c) t d
theorem before0_6 (c : Dev nD) (t : Fin (cfgM m).N) (d) : (dats m 0 c).before 6 t d = iblk m c 6 t :=
  before0_6_of m (dats m 0 c) (A_eq m c 6) (after0_6 m c) t d
theorem before0_7 (c : Dev nD) (t : Fin (cfgM m).N) (d) : (dats m 0 c).before 7 t d = iblk m c 7 t :=
  before0_7_of m (dats m 0 c) (A_eq m c 7) (after0_7 m c) t d
theorem before0_8 (c : Dev nD) (t : Fin (cfgM m).N) (d) : (dats m 0 c).before 8 t d = iblk m c 8 t :=
  before0_8_of m (dats m 0 c) (A_eq m c 8) (after0_8 m c) t d
theorem before0_9 (c : Dev nD) (t : Fin (cfgM m).N) (d) : (dats m 0 c).before 9 t d = iblk m c 9 t :=
  before0_9_of m (dats m 0 c) (A_eq m c 9) (after0_9 m c) t d
theorem before0_10 (c : Dev nD) (t : Fin (cfgM m).N) (d) : (dats m 0 c).before 10 t d = iblk m c 10 t :=
  before0_10_of m (dats m 0 c) (A_eq m c 10) (after0_10 m c) t d
theorem before0_11 (c : Dev nD) (t : Fin (cfgM m).N) (d) : (dats m 0 c).before 11 t d = iblk m c 11 t :=
  before0_11_of m (dats m 0 c) (A_eq m c 11) (after0_11 m c) t d

end Cert.Proof.KernelIdeal

end
-- ==== Proof.KernelIdeal.Point.lean ====
/- The body at every grid point: the pipeline's body obligation. -/
module

public import proofs.«01_k».proof.Proof.KernelIdeal.Data
public import Idealize.ShloMosaic.Lib.Pipeline.FrameBody
public import Idealize.ShloMosaic.Lib.Pipeline.FrameSuffix
public import Idealize.ShloMosaic.Lib.Claim
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at every point -/

abbrev st0_0 (t : Fin (cfgM m).N) := ((cfgM m).win 0).stage ((cfgM m).slots t 0)
abbrev st0_1 (t : Fin (cfgM m).N) := ((cfgM m).win 1).stage ((cfgM m).slots t 1)
abbrev st0_2 (t : Fin (cfgM m).N) := ((cfgM m).win 2).stage ((cfgM m).slots t 2)
abbrev st0_3 (t : Fin (cfgM m).N) := ((cfgM m).win 3).stage ((cfgM m).slots t 3)
abbrev st0_4 (t : Fin (cfgM m).N) := ((cfgM m).win 4).stage ((cfgM m).slots t 4)
abbrev st0_5 (t : Fin (cfgM m).N) := ((cfgM m).win 5).stage ((cfgM m).slots t 5)
abbrev st0_6 (t : Fin (cfgM m).N) := ((cfgM m).win 6).stage ((cfgM m).slots t 6)
abbrev st0_7 (t : Fin (cfgM m).N) := ((cfgM m).win 7).stage ((cfgM m).slots t 7)
abbrev st0_8 (t : Fin (cfgM m).N) := ((cfgM m).win 8).stage ((cfgM m).slots t 8)
abbrev st0_9 (t : Fin (cfgM m).N) := ((cfgM m).win 9).stage ((cfgM m).slots t 9)
abbrev st0_10 (t : Fin (cfgM m).N) := ((cfgM m).win 10).stage ((cfgM m).slots t 10)
abbrev st0_11 (t : Fin (cfgM m).N) := ((cfgM m).win 11).stage ((cfgM m).slots t 11)
abbrev st0_12 (t : Fin (cfgM m).N) := ((cfgM m).win 12).stage ((cfgM m).slots t 12)
abbrev st0_13 (t : Fin (cfgM m).N) := ((cfgM m).win 13).stage ((cfgM m).slots t 13)
abbrev st0_14 (t : Fin (cfgM m).N) := ((cfgM m).win 14).stage ((cfgM m).slots t 14)
abbrev st0_15 (t : Fin (cfgM m).N) := ((cfgM m).win 15).stage ((cfgM m).slots t 15)
abbrev st0_16 (t : Fin (cfgM m).N) := ((cfgM m).win 16).stage ((cfgM m).slots t 16)
abbrev bodyAt0 (t : Fin (cfgM m).N) : Prog (TpuEff nD τ sig (Elt F) Λ₀ .tc) PUnit :=
  cc0__body (grid0.coords t) tb0 (Memref.isWhole_whole _) tb1 (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (spec0_10.stage ((cfgM m).slots t 10)) (hstage0_10 (((cfgM m).slots t 10).cast nbuf0_10)) (spec0_11.stage ((cfgM m).slots t 11)) (hstage0_11 (((cfgM m).slots t 11).cast nbuf0_11)) (spec0_12.stage ((cfgM m).slots t 12)) (hstage0_12 (((cfgM m).slots t 12).cast nbuf0_12)) (spec0_13.stage ((cfgM m).slots t 13)) (hstage0_13 (((cfgM m).slots t 13).cast nbuf0_13)) (spec0_14.stage ((cfgM m).slots t 14)) (hstage0_14 (((cfgM m).slots t 14).cast nbuf0_14)) (spec0_15.stage ((cfgM m).slots t 15)) (hstage0_15 (((cfgM m).slots t 15).cast nbuf0_15)) (spec0_16.stage ((cfgM m).slots t 16)) (hstage0_16 (((cfgM m).slots t 16).cast nbuf0_16)) sc0 (Memref.isWhole_whole _) sc1 (Memref.isWhole_whole _)

def bodyPre (c : Dev nD) (t : Fin (cfgM m).N) : sProp 𝕄 :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d))
    ∗ (∃ d, owns (c : Thread nD τ) (st0_2 m t) fullShare ((dats m 0 c).before 2 t d))
    ∗ (∃ d, owns (c : Thread nD τ) (st0_3 m t) fullShare ((dats m 0 c).before 3 t d))
    ∗ (∃ d, owns (c : Thread nD τ) (st0_4 m t) fullShare ((dats m 0 c).before 4 t d))
    ∗ (∃ d, owns (c : Thread nD τ) (st0_5 m t) fullShare ((dats m 0 c).before 5 t d))
    ∗ (∃ d, owns (c : Thread nD τ) (st0_6 m t) fullShare ((dats m 0 c).before 6 t d))
    ∗ (∃ d, owns (c : Thread nD τ) (st0_7 m t) fullShare ((dats m 0 c).before 7 t d))
    ∗ (∃ d, owns (c : Thread nD τ) (st0_8 m t) fullShare ((dats m 0 c).before 8 t d))
    ∗ (∃ d, owns (c : Thread nD τ) (st0_9 m t) fullShare ((dats m 0 c).before 9 t d))
    ∗ (∃ d, owns (c : Thread nD τ) (st0_10 m t) fullShare ((dats m 0 c).before 10 t d))
    ∗ (∃ d, owns (c : Thread nD τ) (st0_11 m t) fullShare ((dats m 0 c).before 11 t d))
    ∗ (∃ d, owns (c : Thread nD τ) (st0_12 m t) fullShare ((dats m 0 c).before 12 t d))
    ∗ (∃ d, owns (c : Thread nD τ) (st0_13 m t) fullShare ((dats m 0 c).before 13 t d))
    ∗ (∃ d, owns (c : Thread nD τ) (st0_14 m t) fullShare ((dats m 0 c).before 14 t d))
    ∗ (∃ d, owns (c : Thread nD τ) (st0_15 m t) fullShare ((dats m 0 c).before 15 t d))
    ∗ (∃ d, owns (c : Thread nD τ) (st0_16 m t) fullShare ((dats m 0 c).before 16 t d)))
def bodyPost (c : Dev nD) (t : Fin (cfgM m).N) : sProp 𝕄 :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t)
    ∗ owns (c : Thread nD τ) (st0_2 m t) fullShare ((dats m 0 c).after 2 t)
    ∗ owns (c : Thread nD τ) (st0_3 m t) fullShare ((dats m 0 c).after 3 t)
    ∗ owns (c : Thread nD τ) (st0_4 m t) fullShare ((dats m 0 c).after 4 t)
    ∗ owns (c : Thread nD τ) (st0_5 m t) fullShare ((dats m 0 c).after 5 t)
    ∗ owns (c : Thread nD τ) (st0_6 m t) fullShare ((dats m 0 c).after 6 t)
    ∗ owns (c : Thread nD τ) (st0_7 m t) fullShare ((dats m 0 c).after 7 t)
    ∗ owns (c : Thread nD τ) (st0_8 m t) fullShare ((dats m 0 c).after 8 t)
    ∗ owns (c : Thread nD τ) (st0_9 m t) fullShare ((dats m 0 c).after 9 t)
    ∗ owns (c : Thread nD τ) (st0_10 m t) fullShare ((dats m 0 c).after 10 t)
    ∗ owns (c : Thread nD τ) (st0_11 m t) fullShare ((dats m 0 c).after 11 t)
    ∗ owns (c : Thread nD τ) (st0_12 m t) fullShare ((dats m 0 c).after 12 t)
    ∗ owns (c : Thread nD τ) (st0_13 m t) fullShare ((dats m 0 c).after 13 t)
    ∗ owns (c : Thread nD τ) (st0_14 m t) fullShare ((dats m 0 c).after 14 t)
    ∗ owns (c : Thread nD τ) (st0_15 m t) fullShare ((dats m 0 c).after 15 t)
    ∗ owns (c : Thread nD τ) (st0_16 m t) fullShare ((dats m 0 c).after 16 t))

theorem isFirst_iff : ∀ t : Fin grid0.N, isFirst (grid0.coords t) ↔ t.val = 0 := by decide +kernel

attribute [local irreducible] tbl iblk oU oM oV oAM oAV bcB

set_option maxHeartbeats 400000 in
theorem sound_body (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  unfold Phi
  iintro ⟨⟨S0, ⟨%g, S1, %hg⟩, ⟨T0, T1⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) tb0 (Memref.isWhole_whole _) tb1 (Memref.isWhole_whole _) (st0_0 m t) (hstage0_0 (((cfgM m).slots t 0).cast nbuf0_0)) (st0_1 m t) (hstage0_1 (((cfgM m).slots t 1).cast nbuf0_1)) (st0_2 m t) (hstage0_2 (((cfgM m).slots t 2).cast nbuf0_2)) (st0_3 m t) (hstage0_3 (((cfgM m).slots t 3).cast nbuf0_3)) (st0_4 m t) (hstage0_4 (((cfgM m).slots t 4).cast nbuf0_4)) (st0_5 m t) (hstage0_5 (((cfgM m).slots t 5).cast nbuf0_5)) (st0_6 m t) (hstage0_6 (((cfgM m).slots t 6).cast nbuf0_6)) (st0_7 m t) (hstage0_7 (((cfgM m).slots t 7).cast nbuf0_7)) (st0_8 m t) (hstage0_8 (((cfgM m).slots t 8).cast nbuf0_8)) (st0_9 m t) (hstage0_9 (((cfgM m).slots t 9).cast nbuf0_9)) (st0_10 m t) (hstage0_10 (((cfgM m).slots t 10).cast nbuf0_10)) (st0_11 m t) (hstage0_11 (((cfgM m).slots t 11).cast nbuf0_11)) (st0_12 m t) (hstage0_12 (((cfgM m).slots t 12).cast nbuf0_12)) (st0_13 m t) (hstage0_13 (((cfgM m).slots t 13).cast nbuf0_13)) (st0_14 m t) (hstage0_14 (((cfgM m).slots t 14).cast nbuf0_14)) (st0_15 m t) (hstage0_15 (((cfgM m).slots t 15).cast nbuf0_15)) (st0_16 m t) (hstage0_16 (((cfgM m).slots t 16).cast nbuf0_16)) sc0 (Memref.isWhole_whole _) sc1 (Memref.isWhole_whole _) (tbl m 0) (tbl m 1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) g (bcB m)
    (fun _ => bcB_eq m) (fun h => (hg (fun h0 => h ((isFirst_iff t).2 h0))).symm) _)
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [S0]; · iexact S0
  isplitl [S1]; · iexact S1
  iintro ⟨T0, T1, H0, H1, H2, H3, H4, H5, H6, H7, H8, H9, H10, H11, H12, H13, H14, H15, H16, S0, S1⟩
  isplitl [S0 S1 T0 T1 Hp]
  · isplitl [S0]; · iexact S0
    isplitl [S1]
    · unfold owns
      icases S1 with ⟨%f, %hf, S1⟩
      iexists f; isplitl [S1]; · iexact S1
      ipureintro; exact fun _ => hf
    isplitl [T0 T1]
    · isplitl [T0]; · iexact T0
      iexact T1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin (cfgM m).N) :
    defs₀ (F := F) .tc (cfgM m).body ((cfgM m).bodyArgs t ((cfgM m).slots t)) = bodyAt0 m t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Proof.KernelIdeal

end
-- ==== Proof.KernelIdeal.Frame.lean ====
/- The run of @main: every array of the call as the blocks make it, every other buffer as the lines leave it. -/
module

public import proofs.«01_k».proof.Proof.KernelIdeal.Point
public import Idealize.ShloMosaic.Lib.Pipeline.FrameBody
public import Idealize.ShloMosaic.Lib.Pipeline.FrameSuffix
public import Idealize.ShloMosaic.Lib.Claim
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hin (c : Dev nD) : iprop(Pipeline.ΦA spec0 c ∗ Pipeline.ΦT pre0 (tbl m) c) ⊢ (dats m 0 c).Φ 0 := by
  rw [show (dats m 0 c).Φ 0 = Phi m c 0 from rfl, PhiT0_eq]
  unfold Pipeline.ΦA Phi own
  rw [scopedRest0_eq, show sc0.view.set = Finset.univ from (Memref.isWhole_whole _).set_eq_univ, show sc1.view.set = Finset.univ from (Memref.isWhole_whole _).set_eq_univ]
  iintro ⟨⟨⟨S0, ⟨%f, S1⟩⟩, Hp⟩, HT⟩
  isplitl [S0]; · iexact S0
  isplitl [S1]
  · iexists f; isplitl [S1]; · iexact S1
    ipureintro; exact fun h => absurd rfl h
  isplitl [HT]; · iexact HT
  iexact Hp

theorem hout (c : Dev nD) : (dats m 0 c).Φ (Fin.last (cfgM m).N) ⊢ Pipeline.ΦA spec0 c := by
  rw [show (dats m 0 c).Φ (Fin.last (cfgM m).N) = Phi m c (cfgM m).N from rfl]
  unfold Pipeline.ΦA Phi own
  rw [scopedRest0_eq, show sc0.view.set = Finset.univ from (Memref.isWhole_whole _).set_eq_univ, show sc1.view.set = Finset.univ from (Memref.isWhole_whole _).set_eq_univ]
  iintro ⟨S0, ⟨%f, S1, -⟩, -, Hp⟩
  isplitl [S0 S1]
  · isplitl [S0]; · iexact S0
    iexists f; iexact S1
  iexact Hp

/-! ## The run -/

set_option backward.isDefEq.respectTransparency.types false in
set_option maxHeartbeats 800000 in
/-- Every run of @main ends with the call's arrays as the blocks make them, every other buffer as the lines leave it, and every
    semaphore counter at zero. -/
theorem run_main : θ_run defs (onTc (τ := τ) (main (F := F))) (s₀ m ρ)
    (fun r => Pipeline.FramePost (Pipeline.pin pcfgs (fun _ => adm m)) (dats m) 0 (Pipeline.afterTail pcfgs (fun _ => adm m) (dats m) 0 (V0 m) [hostOps1]) r ∧ r.2.sem = fun _ => 0) :=
  Pipeline.θ_run_frameP_around_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hin := hin m) (hout := hout m)

/-- An argument the call stages no window of ends as launched: no line writes it. -/
theorem W_arg (c : Dev nD) (b : Ref sig .tc) (h0 : b ∉ hostOps0_W) (h1 : b ∉ hostOps1_W) (hw : ∀ w, Pipeline.arrRef spec0 w ≠ b) :
    Pipeline.afterTail pcfgs (fun _ => adm m) (dats m) 0 (V0 m) [hostOps1] c b = m ((c : Thread nD τ).loc b) := by
  unfold Pipeline.afterTail
  rw [List.flatten_cons, List.flatten_nil, List.append_nil,
    StableHlo.after_of_writes_sub (r := b) hostOps1 _ hostOps1_writes h1,
    Pipeline.withArrays_of_ne _ c (V0 m c) _ b hw]
  exact V_arg m c b h0

/-- What every run keeps of the arguments. -/
theorem kept (r : PUnit × MemSt nD τ sig (Elt F))
    (h : Pipeline.FramePost (Pipeline.pin pcfgs (fun _ => adm m)) (dats m) 0 (Pipeline.afterTail pcfgs (fun _ => adm m) (dats m) 0 (V0 m) [hostOps1]) r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := fun c =>
  ⟨((h c).2 main_arg0 (Pipeline.mem_restRefs_of main_arg0 (by decide) (by exact (by decide : ∀ w, Pipeline.arrRef spec0 w ≠ main_arg0)))).trans (W_arg m c main_arg0 (by decide +kernel) (by decide +kernel) (by exact (by decide : ∀ w, Pipeline.arrRef spec0 w ≠ main_arg0))),
    ((h c).2 main_arg1 (Pipeline.mem_restRefs_of main_arg1 (by decide) (by exact (by decide : ∀ w, Pipeline.arrRef spec0 w ≠ main_arg1)))).trans (W_arg m c main_arg1 (by decide +kernel) (by decide +kernel) (by exact (by decide : ∀ w, Pipeline.arrRef spec0 w ≠ main_arg1))),
    ((h c).1 2).trans (((dats m 0 c).arrAt_in 2 rfl _).trans ((A_eq m c 2).trans (V_arg m c main_arg2 (by decide +kernel)))),
    ((h c).2 main_arg3 (Pipeline.mem_restRefs_of main_arg3 (by decide) (by exact (by decide : ∀ w, Pipeline.arrRef spec0 w ≠ main_arg3)))).trans (W_arg m c main_arg3 (by decide +kernel) (by decide +kernel) (by exact (by decide : ∀ w, Pipeline.arrRef spec0 w ≠ main_arg3))),
    ((h c).1 0).trans (((dats m 0 c).arrAt_in 0 rfl _).trans ((A_eq m c 0).trans (V_arg m c main_arg4 (by decide +kernel)))),
    ((h c).2 main_arg5 (Pipeline.mem_restRefs_of main_arg5 (by decide) (by exact (by decide : ∀ w, Pipeline.arrRef spec0 w ≠ main_arg5)))).trans (W_arg m c main_arg5 (by decide +kernel) (by decide +kernel) (by exact (by decide : ∀ w, Pipeline.arrRef spec0 w ≠ main_arg5))),
    ((h c).1 1).trans (((dats m 0 c).arrAt_in 1 rfl _).trans ((A_eq m c 1).trans (V_arg m c main_arg6 (by decide +kernel)))),
    ((h c).1 4).trans (((dats m 0 c).arrAt_in 4 rfl _).trans ((A_eq m c 4).trans (V_arg m c main_arg7 (by decide +kernel)))),
    ((h c).1 5).trans (((dats m 0 c).arrAt_in 5 rfl _).trans ((A_eq m c 5).trans (V_arg m c main_arg8 (by decide +kernel)))),
    ((h c).2 main_arg9 (Pipeline.mem_restRefs_of main_arg9 (by decide) (by exact (by decide : ∀ w, Pipeline.arrRef spec0 w ≠ main_arg9)))).trans (W_arg m c main_arg9 (by decide +kernel) (by decide +kernel) (by exact (by decide : ∀ w, Pipeline.arrRef spec0 w ≠ main_arg9))),
    ((h c).1 3).trans (((dats m 0 c).arrAt_in 3 rfl _).trans ((A_eq m c 3).trans (V_arg m c main_arg10 (by decide +kernel)))),
    ((h c).2 main_arg11 (Pipeline.mem_restRefs_of main_arg11 (by decide) (by exact (by decide : ∀ w, Pipeline.arrRef spec0 w ≠ main_arg11)))).trans (W_arg m c main_arg11 (by decide +kernel) (by decide +kernel) (by exact (by decide : ∀ w, Pipeline.arrRef spec0 w ≠ main_arg11)))⟩

/-- The frame: every run ends with the arguments unchanged and every semaphore counter at zero. -/
theorem frame_k : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨kept m r h.1, h.2⟩) (run_main m ρ)

end Cert.Proof.KernelIdeal

end
-- ==== Proof.KernelIdeal.Blocks.lean ====
/- The blocks the call reads, and the arrays it leaves, in terms of the arguments. -/
module

public import proofs.«01_k».proof.Proof.KernelIdeal.Spec
public import proofs.«01_k».proof.Proof.KernelIdeal.Points
public import proofs.«01_k».proof.Proof.KernelIdeal.Frame
public import Idealize.ShloMosaic.Lib.Pointwise
public import Idealize.ShloMosaic.Lib.Pipeline.ValueKit
public import Idealize.ShloMosaic.Lib.Pipeline.Covers

@[expose] public section

set_option maxRecDepth 16384

noncomputable section

namespace Cert.Proof.KernelIdeal

open Cert.KernelIdeal Cert.KernelIdeal.Gen
open Idealize.ShloMosaic Idealize.ShloMosaic.TcCoe
open Idealize.SL.Sem

/-! ## The blocks of the call, read off the arguments -/

variable (m : (ℓ : Loc nD τ sig) → Buf (Elt Ideal) ℓ)

theorem coords_eq : ∀ t : Fin grid0.N, (grid0.coords t 0).val = t.val := by decide +kernel
theorem trW : ∀ t : Fin grid0.N, cc0_transform_6 (grid0.coords t) = ![t.val, 0] ∧ cc0_transform_7 (grid0.coords t) = ![t.val, 0] ∧ cc0_transform_8 (grid0.coords t) = ![t.val, 0] ∧ cc0_transform_9 (grid0.coords t) = ![t.val, 0] ∧ cc0_transform_12 (grid0.coords t) = ![t.val, 0] ∧ cc0_transform_13 (grid0.coords t) = ![t.val, 0] ∧ cc0_transform_14 (grid0.coords t) = ![t.val, 0] ∧ cc0_transform_15 (grid0.coords t) = ![t.val, 0] ∧ cc0_transform_16 (grid0.coords t) = ![t.val, 0] := by decide +kernel
theorem trF : ∀ t : Fin grid0.N, cc0_transform_0 (grid0.coords t) = ![0] ∧ cc0_transform_1 (grid0.coords t) = ![0] ∧ cc0_transform_2 (grid0.coords t) = ![0] ∧ cc0_transform_3 (grid0.coords t) = ![0] ∧ cc0_transform_4 (grid0.coords t) = ![0] ∧ cc0_transform_5 (grid0.coords t) = ![0] ∧ cc0_transform_10 (grid0.coords t) = ![0, 0] ∧ cc0_transform_11 (grid0.coords t) = ![0, 0] := by decide +kernel
theorem idx6 (t : Fin (cfgM m).N) : (pcfg0.win (adm m) 6).index t = ![t.val, 0] := (trW t).1
theorem idx7 (t : Fin (cfgM m).N) : (pcfg0.win (adm m) 7).index t = ![t.val, 0] := (trW t).2.1
theorem idx8 (t : Fin (cfgM m).N) : (pcfg0.win (adm m) 8).index t = ![t.val, 0] := (trW t).2.2.1
theorem idx9 (t : Fin (cfgM m).N) : (pcfg0.win (adm m) 9).index t = ![t.val, 0] := (trW t).2.2.2.1
theorem idx12 (t : Fin (cfgM m).N) : (pcfg0.win (adm m) 12).index t = ![t.val, 0] := (trW t).2.2.2.2.1
theorem idx13 (t : Fin (cfgM m).N) : (pcfg0.win (adm m) 13).index t = ![t.val, 0] := (trW t).2.2.2.2.2.1
theorem idx14 (t : Fin (cfgM m).N) : (pcfg0.win (adm m) 14).index t = ![t.val, 0] := (trW t).2.2.2.2.2.2.1
theorem idx15 (t : Fin (cfgM m).N) : (pcfg0.win (adm m) 15).index t = ![t.val, 0] := (trW t).2.2.2.2.2.2.2.1
theorem idx16 (t : Fin (cfgM m).N) : (pcfg0.win (adm m) 16).index t = ![t.val, 0] := (trW t).2.2.2.2.2.2.2.2
theorem idx0 (t : Fin (cfgM m).N) : (pcfg0.win (adm m) 0).index t = ![0] := (trF t).1
theorem idx1 (t : Fin (cfgM m).N) : (pcfg0.win (adm m) 1).index t = ![0] := (trF t).2.1
theorem idx2 (t : Fin (cfgM m).N) : (pcfg0.win (adm m) 2).index t = ![0] := (trF t).2.2.1
theorem idx3 (t : Fin (cfgM m).N) : (pcfg0.win (adm m) 3).index t = ![0] := (trF t).2.2.2.1
theorem idx4 (t : Fin (cfgM m).N) : (pcfg0.win (adm m) 4).index t = ![0] := (trF t).2.2.2.2.1
theorem idx5 (t : Fin (cfgM m).N) : (pcfg0.win (adm m) 5).index t = ![0] := (trF t).2.2.2.2.2.1
theorem idx10 (t : Fin (cfgM m).N) : (pcfg0.win (adm m) 10).index t = ![0, 0] := (trF t).2.2.2.2.2.2.1
theorem idx11 (t : Fin (cfgM m).N) : (pcfg0.win (adm m) 11).index t = ![0, 0] := (trF t).2.2.2.2.2.2.2

/-! The windows over whole arguments. -/

theorem ib0 (c : Dev nD) (t : Fin (cfgM m).N) : (iblk m c 0 t : Vec Ideal S1568 .f32) = (argsK m c).ma := by
  blk_ext! [iblk, V]
  exact (congrArg (fun n : ℕ => n * 1568 + _) (congrFun (idx0 m t) 0)).trans (Nat.zero_add _)
theorem ib1 (c : Dev nD) (t : Fin (cfgM m).N) : (iblk m c 1 t : Vec Ideal S1568 .f32) = (argsK m c).va := by
  blk_ext! [iblk, V]
  exact (congrArg (fun n : ℕ => n * 1568 + _) (congrFun (idx1 m t) 0)).trans (Nat.zero_add _)
theorem ib2 (c : Dev nD) (t : Fin (cfgM m).N) : (iblk m c 2 t : Vec Ideal S6272 .f32) = (argsK m c).gs := by
  blk_ext! [iblk, V]
  exact (congrArg (fun n : ℕ => n * 6272 + _) (congrFun (idx2 m t) 0)).trans (Nat.zero_add _)
theorem ib3 (c : Dev nD) (t : Fin (cfgM m).N) : (iblk m c 3 t : Vec Ideal S96 .f32) = (argsK m c).lr := by
  blk_ext! [iblk, V]
  exact (congrArg (fun n : ℕ => n * 96 + _) (congrFun (idx3 m t) 0)).trans (Nat.zero_add _)
theorem ib4 (c : Dev nD) (t : Fin (cfgM m).N) : (iblk m c 4 t : Vec Ideal S256 .f32) = (argsK m c).mq := by
  blk_ext! [iblk, V]
  exact (congrArg (fun n : ℕ => n * 256 + _) (congrFun (idx4 m t) 0)).trans (Nat.zero_add _)
theorem ib5 (c : Dev nD) (t : Fin (cfgM m).N) : (iblk m c 5 t : Vec Ideal S256 .f32) = (argsK m c).vq := by
  blk_ext! [iblk, V]
  exact (congrArg (fun n : ℕ => n * 256 + _) (congrFun (idx5 m t) 0)).trans (Nat.zero_add _)

/-! The windows over reshaped arguments. -/

theorem t_lt (t : Fin (cfgM m).N) : t.val < 7 := t.isLt
theorem V6 (c : Dev nD) (R : Fin 25088) (l : Fin 128) (e : Fin 3211264) (he : e.val = 128 * R.val + l.val) :
    (V m c main_v1 : Vec Ideal S25088x128 .f32) (ix2 R l) = (argsK m c).p (ix1 e) := by
  show StableHlo.after hostOps0 (fun b => m (c, b)) (Proc.devRef .tc main_v1) (ix2 R l) = _
  entry_read
  pointwise
  exact congrArg (argsK m c).p (congrArg ix1 (Fin.ext (by dsimp only; omega)))
theorem ib6 (c : Dev nD) (t : Fin (cfgM m).N) (R : Fin 3584) (l : Fin 128) (e : Fin 3211264) (he : e.val = 128 * (3584 * t.val + R.val) + l.val) :
    (iblk m c 6 t : Vec Ideal S3584x128 .f32) (ix2 R l) = (argsK m c).p (ix1 e) := by
  have ht := t_lt m t
  refine Eq.trans ?_ (V6 m c ⟨3584 * t.val + R.val, by omega⟩ l e he)
  show V m c main_v1 ((((cfgM m).win 6).blk t).view.emb (ix2 R l)) = _
  blk_ext
  · exact (congrArg (fun n : ℕ => n * 3584 + R.val) (congrFun (idx6 m t) 0)).trans (by show t.val * 3584 + R.val = 3584 * t.val + R.val; omega)
  · exact (congrArg (fun n : ℕ => n * 128 + l.val) (congrFun (idx6 m t) 1)).trans (Nat.zero_add _)
theorem V7 (c : Dev nD) (R : Fin 25088) (l : Fin 128) (e : Fin 3211264) (he : e.val = 128 * R.val + l.val) :
    (V m c main_v2 : Vec Ideal S25088x128 .fp8e5m2) (ix2 R l) = (argsK m c).g (ix1 e) := by
  show StableHlo.after hostOps0 (fun b => m (c, b)) (Proc.devRef .tc main_v2) (ix2 R l) = _
  entry_read
  pointwise
  exact congrArg (argsK m c).g (congrArg ix1 (Fin.ext (by dsimp only; omega)))
theorem ib7 (c : Dev nD) (t : Fin (cfgM m).N) (R : Fin 3584) (l : Fin 128) (e : Fin 3211264) (he : e.val = 128 * (3584 * t.val + R.val) + l.val) :
    (iblk m c 7 t : Vec Ideal S3584x128 .fp8e5m2) (ix2 R l) = (argsK m c).g (ix1 e) := by
  have ht := t_lt m t
  refine Eq.trans ?_ (V7 m c ⟨3584 * t.val + R.val, by omega⟩ l e he)
  show V m c main_v2 ((((cfgM m).win 7).blk t).view.emb (ix2 R l)) = _
  blk_ext
  · exact (congrArg (fun n : ℕ => n * 3584 + R.val) (congrFun (idx7 m t) 0)).trans (by show t.val * 3584 + R.val = 3584 * t.val + R.val; omega)
  · exact (congrArg (fun n : ℕ => n * 128 + l.val) (congrFun (idx7 m t) 1)).trans (Nat.zero_add _)
theorem V8 (c : Dev nD) (R : Fin 25088) (l : Fin 128) (e : Fin 3211264) (he : e.val = 128 * R.val + l.val) :
    (V m c main_v3 : Vec Ideal S25088x128 .i8) (ix2 R l) = (argsK m c).mc (ix1 e) := by
  show StableHlo.after hostOps0 (fun b => m (c, b)) (Proc.devRef .tc main_v3) (ix2 R l) = _
  entry_read
  pointwise
  exact congrArg (argsK m c).mc (congrArg ix1 (Fin.ext (by dsimp only; omega)))
theorem ib8 (c : Dev nD) (t : Fin (cfgM m).N) (R : Fin 3584) (l : Fin 128) (e : Fin 3211264) (he : e.val = 128 * (3584 * t.val + R.val) + l.val) :
    (iblk m c 8 t : Vec Ideal S3584x128 .i8) (ix2 R l) = (argsK m c).mc (ix1 e) := by
  have ht := t_lt m t
  refine Eq.trans ?_ (V8 m c ⟨3584 * t.val + R.val, by omega⟩ l e he)
  show V m c main_v3 ((((cfgM m).win 8).blk t).view.emb (ix2 R l)) = _
  blk_ext
  · exact (congrArg (fun n : ℕ => n * 3584 + R.val) (congrFun (idx8 m t) 0)).trans (by show t.val * 3584 + R.val = 3584 * t.val + R.val; omega)
  · exact (congrArg (fun n : ℕ => n * 128 + l.val) (congrFun (idx8 m t) 1)).trans (Nat.zero_add _)
theorem V9 (c : Dev nD) (R : Fin 25088) (l : Fin 128) (e : Fin 3211264) (he : e.val = 128 * R.val + l.val) :
    (V m c main_v4 : Vec Ideal S25088x128 .i8) (ix2 R l) = (argsK m c).vc (ix1 e) := by
  show StableHlo.after hostOps0 (fun b => m (c, b)) (Proc.devRef .tc main_v4) (ix2 R l) = _
  entry_read
  pointwise
  exact congrArg (argsK m c).vc (congrArg ix1 (Fin.ext (by dsimp only; omega)))
theorem ib9 (c : Dev nD) (t : Fin (cfgM m).N) (R : Fin 3584) (l : Fin 128) (e : Fin 3211264) (he : e.val = 128 * (3584 * t.val + R.val) + l.val) :
    (iblk m c 9 t : Vec Ideal S3584x128 .i8) (ix2 R l) = (argsK m c).vc (ix1 e) := by
  have ht := t_lt m t
  refine Eq.trans ?_ (V9 m c ⟨3584 * t.val + R.val, by omega⟩ l e he)
  show V m c main_v4 ((((cfgM m).win 9).blk t).view.emb (ix2 R l)) = _
  blk_ext
  · exact (congrArg (fun n : ℕ => n * 3584 + R.val) (congrFun (idx9 m t) 0)).trans (by show t.val * 3584 + R.val = 3584 * t.val + R.val; omega)
  · exact (congrArg (fun n : ℕ => n * 128 + l.val) (congrFun (idx9 m t) 1)).trans (Nat.zero_add _)
theorem V10 (c : Dev nD) (R : Fin 2) (l : Fin 128) (e : Fin 256) (he : e.val = 128 * R.val + l.val) :
    (V m c main_v5 : Vec Ideal S2x128 .f32) (ix2 R l) = (argsK m c).mq (ix1 e) := by
  show StableHlo.after hostOps0 (fun b => m (c, b)) (Proc.devRef .tc main_v5) (ix2 R l) = _
  entry_read
  pointwise
  exact congrArg (argsK m c).mq (congrArg ix1 (Fin.ext (by dsimp only; omega)))
theorem ib10 (c : Dev nD) (t : Fin (cfgM m).N) (R : Fin 2) (l : Fin 128) (e : Fin 256) (he : e.val = 128 * R.val + l.val) :
    (iblk m c 10 t : Vec Ideal S2x128 .f32) (ix2 R l) = (argsK m c).mq (ix1 e) := by
  refine Eq.trans ?_ (V10 m c R l e he)
  show V m c main_v5 ((((cfgM m).win 10).blk t).view.emb (ix2 R l)) = _
  blk_ext
  · exact (congrArg (fun n : ℕ => n * 2 + R.val) (congrFun (idx10 m t) 0)).trans (Nat.zero_add _)
  · exact (congrArg (fun n : ℕ => n * 128 + l.val) (congrFun (idx10 m t) 1)).trans (Nat.zero_add _)
theorem V11 (c : Dev nD) (R : Fin 2) (l : Fin 128) (e : Fin 256) (he : e.val = 128 * R.val + l.val) :
    (V m c main_v6 : Vec Ideal S2x128 .f32) (ix2 R l) = (argsK m c).vq (ix1 e) := by
  show StableHlo.after hostOps0 (fun b => m (c, b)) (Proc.devRef .tc main_v6) (ix2 R l) = _
  entry_read
  pointwise
  exact congrArg (argsK m c).vq (congrArg ix1 (Fin.ext (by dsimp only; omega)))
theorem ib11 (c : Dev nD) (t : Fin (cfgM m).N) (R : Fin 2) (l : Fin 128) (e : Fin 256) (he : e.val = 128 * R.val + l.val) :
    (iblk m c 11 t : Vec Ideal S2x128 .f32) (ix2 R l) = (argsK m c).vq (ix1 e) := by
  refine Eq.trans ?_ (V11 m c R l e he)
  show V m c main_v6 ((((cfgM m).win 11).blk t).view.emb (ix2 R l)) = _
  blk_ext
  · exact (congrArg (fun n : ℕ => n * 2 + R.val) (congrFun (idx11 m t) 0)).trans (Nat.zero_add _)
  · exact (congrArg (fun n : ℕ => n * 128 + l.val) (congrFun (idx11 m t) 1)).trans (Nat.zero_add _)

/-! The two tables. -/

theorem tab0_eq (c : Dev nD) : (tb0.view.read (Elt Ideal) (tbl m 0) : Vec Ideal S97 .i32) = (argsK m c).off := by
  obtain rfl : c = 0 := Subsingleton.elim _ _
  show tb0.view.read (Elt Ideal) (StableHlo.after hostOps0 (fun b => m (0, b)) (Proc.devRef .tc main_arg9)) = _
  entry_read
  rfl
theorem tab1_eq (c : Dev nD) : w2 (tb1.view.read (Elt Ideal) (tbl m 1) : Vec Ideal S1 .i32) = (argsK m c).st := by
  obtain rfl : c = 0 := Subsingleton.elim _ _
  show w2 (tb1.view.read (Elt Ideal) (StableHlo.after hostOps0 (fun b => m (0, b)) (Proc.devRef .tc main_v0))) = _
  entry_read
  show shapeCast S1 (m (0, Proc.devRef .tc main_arg11)) _ _ = _
  pointwise
  rfl

/-! ## The arrays the call leaves -/

variable {m} in
theorem off_of {t : Fin (cfgM m).N} {R l e : ℕ} (he : e = 128 * (3584 * t.val + R) + l) : e = 128 * (3584 * (grid0.coords t 0).val + R) + l := by
  rw [show (grid0.coords t 0).val = t.val from coords_eq t]
  exact he

theorem blk6 (c : Dev nD) (t : Fin (cfgM m).N) : IsBlk (grid0.coords t) (iblk m c 6 t : Vec Ideal S3584x128 .f32) (argsK m c).p := fun R l e he =>
  ib6 m c t R l e (by rw [show t.val = (grid0.coords t 0).val from (coords_eq t).symm]; exact he)
theorem blk7 (c : Dev nD) (t : Fin (cfgM m).N) : IsBlk (grid0.coords t) (iblk m c 7 t : Vec Ideal S3584x128 .fp8e5m2) (argsK m c).g := fun R l e he =>
  ib7 m c t R l e (by rw [show t.val = (grid0.coords t 0).val from (coords_eq t).symm]; exact he)
theorem blk8 (c : Dev nD) (t : Fin (cfgM m).N) : IsBlk (grid0.coords t) (iblk m c 8 t : Vec Ideal S3584x128 .i8) (argsK m c).mc := fun R l e he =>
  ib8 m c t R l e (by rw [show t.val = (grid0.coords t 0).val from (coords_eq t).symm]; exact he)
theorem blk9 (c : Dev nD) (t : Fin (cfgM m).N) : IsBlk (grid0.coords t) (iblk m c 9 t : Vec Ideal S3584x128 .i8) (argsK m c).vc := fun R l e he =>
  ib9 m c t R l e (by rw [show t.val = (grid0.coords t 0).val from (coords_eq t).symm]; exact he)
theorem tabl10 (c : Dev nD) (t : Fin (cfgM m).N) : IsTab (iblk m c 10 t : Vec Ideal S2x128 .f32) (argsK m c).mq := ib10 m c t
theorem tabl11 (c : Dev nD) (t : Fin (cfgM m).N) : IsTab (iblk m c 11 t : Vec Ideal S2x128 .f32) (argsK m c).vq := ib11 m c t
theorem cov12 : ((cfgM m).win 12).Covers := by
  have n0 : ((cfgM m).win 12).nblk (0 : Fin 2) = 7 := (by decide : (25088 + 3584 - 1) / 3584 = 7)
  have n1 : ((cfgM m).win 12).nblk (1 : Fin 2) = 1 := (by decide : (128 + 128 - 1) / 128 = 1)
  refine Pipeline.Window.covers_of_index_surj _ rfl (fun a => (by decide : ∀ a : Fin 2, 0 < S3584x128.size a) a) fun β => ⟨⟨(β (0 : Fin 2)).val, Nat.lt_of_lt_of_eq (β (0 : Fin 2)).isLt n0⟩, fun a => ?_⟩
  refine (congrFun (idx12 m _) a).trans ?_
  revert a
  refine fun (a : Fin 2) => ?_
  fin_cases a
  · rfl
  · have h : (β (1 : Fin 2)).val < 1 := Nat.lt_of_lt_of_eq (β (1 : Fin 2)).isLt n1
    show 0 = (β (1 : Fin 2)).val
    omega
theorem cov13 : ((cfgM m).win 13).Covers := by
  have n0 : ((cfgM m).win 13).nblk (0 : Fin 2) = 7 := (by decide : (25088 + 3584 - 1) / 3584 = 7)
  have n1 : ((cfgM m).win 13).nblk (1 : Fin 2) = 1 := (by decide : (128 + 128 - 1) / 128 = 1)
  refine Pipeline.Window.covers_of_index_surj _ rfl (fun a => (by decide : ∀ a : Fin 2, 0 < S3584x128.size a) a) fun β => ⟨⟨(β (0 : Fin 2)).val, Nat.lt_of_lt_of_eq (β (0 : Fin 2)).isLt n0⟩, fun a => ?_⟩
  refine (congrFun (idx13 m _) a).trans ?_
  revert a
  refine fun (a : Fin 2) => ?_
  fin_cases a
  · rfl
  · have h : (β (1 : Fin 2)).val < 1 := Nat.lt_of_lt_of_eq (β (1 : Fin 2)).isLt n1
    show 0 = (β (1 : Fin 2)).val
    omega
theorem cov14 : ((cfgM m).win 14).Covers := by
  have n0 : ((cfgM m).win 14).nblk (0 : Fin 2) = 7 := (by decide : (25088 + 3584 - 1) / 3584 = 7)
  have n1 : ((cfgM m).win 14).nblk (1 : Fin 2) = 1 := (by decide : (128 + 128 - 1) / 128 = 1)
  refine Pipeline.Window.covers_of_index_surj _ rfl (fun a => (by decide : ∀ a : Fin 2, 0 < S3584x128.size a) a) fun β => ⟨⟨(β (0 : Fin 2)).val, Nat.lt_of_lt_of_eq (β (0 : Fin 2)).isLt n0⟩, fun a => ?_⟩
  refine (congrFun (idx14 m _) a).trans ?_
  revert a
  refine fun (a : Fin 2) => ?_
  fin_cases a
  · rfl
  · have h : (β (1 : Fin 2)).val < 1 := Nat.lt_of_lt_of_eq (β (1 : Fin 2)).isLt n1
    show 0 = (β (1 : Fin 2)).val
    omega
theorem cov15 : ((cfgM m).win 15).Covers := by
  have n0 : ((cfgM m).win 15).nblk (0 : Fin 2) = 7 := (by decide : (1568 + 224 - 1) / 224 = 7)
  have n1 : ((cfgM m).win 15).nblk (1 : Fin 2) = 1 := (by decide : (128 + 128 - 1) / 128 = 1)
  refine Pipeline.Window.covers_of_index_surj _ rfl (fun a => (by decide : ∀ a : Fin 2, 0 < S224x128.size a) a) fun β => ⟨⟨(β (0 : Fin 2)).val, Nat.lt_of_lt_of_eq (β (0 : Fin 2)).isLt n0⟩, fun a => ?_⟩
  refine (congrFun (idx15 m _) a).trans ?_
  revert a
  refine fun (a : Fin 2) => ?_
  fin_cases a
  · rfl
  · have h : (β (1 : Fin 2)).val < 1 := Nat.lt_of_lt_of_eq (β (1 : Fin 2)).isLt n1
    show 0 = (β (1 : Fin 2)).val
    omega
theorem cov16 : ((cfgM m).win 16).Covers := by
  have n0 : ((cfgM m).win 16).nblk (0 : Fin 2) = 7 := (by decide : (1568 + 224 - 1) / 224 = 7)
  have n1 : ((cfgM m).win 16).nblk (1 : Fin 2) = 1 := (by decide : (128 + 128 - 1) / 128 = 1)
  refine Pipeline.Window.covers_of_index_surj _ rfl (fun a => (by decide : ∀ a : Fin 2, 0 < S224x128.size a) a) fun β => ⟨⟨(β (0 : Fin 2)).val, Nat.lt_of_lt_of_eq (β (0 : Fin 2)).isLt n0⟩, fun a => ?_⟩
  refine (congrFun (idx16 m _) a).trans ?_
  revert a
  refine fun (a : Fin 2) => ?_
  fin_cases a
  · rfl
  · have h : (β (1 : Fin 2)).val < 1 := Nat.lt_of_lt_of_eq (β (1 : Fin 2)).isLt n1
    show 0 = (β (1 : Fin 2)).val
    omega

/-- A flat array as rows of 128. -/
def rows {α : Type} (f : Fin 3211264 → α) (j : S25088x128.Idx) : α := f ⟨128 * (j 0).val + (j 1).val, by
  have h0 : (j 0).val < 25088 := (j 0).isLt
  have h1 : (j 1).val < 128 := (j 1).isLt
  omega⟩
/-- One value per row, in every lane. -/
def lanes {α : Type} (f : Fin 1568 → α) (j : S1568x128.Idx) : α := f ⟨(j 0).val, (j 0).isLt⟩

theorem arrU (c : Dev nD) (hoff : ∀ t, 2752512 - 2147483648 ≤ ((argsK m c).off t : BitVec 32).toInt) (hs : 0 ≤ (argsK m c).st.toInt) : ((dats m 0 c).arrAt 12 (cfgM m).N : Vec Ideal S25088x128 .f32) = rows (argsK m c).upd := by
  refine (dats m 0 c).arrAt_eq_of_covers 12 _ (cov12 m) fun t _ y => ?_
  blk_simp
  rw [after0_12]
  have ht := t_lt m t
  have hc : (grid0.coords t 0).val = t.val := coords_eq t
  have y0 : (y (0 : Fin 2)).val < 3584 := (y (0 : Fin 2)).isLt
  have y1 : (y (1 : Fin 2)).val < 128 := (y (1 : Fin 2)).isLt
  obtain ⟨R, hR⟩ : ∃ R : Fin 3584, R.val = (y (0 : Fin 2)).val := ⟨⟨_, y0⟩, rfl⟩
  obtain ⟨l, hl⟩ : ∃ l : Fin 128, l.val = (y (1 : Fin 2)).val := ⟨⟨_, y1⟩, rfl⟩
  have hy : y = (ix2 R l : S3584x128.Idx) := by
    funext a
    revert a
    refine fun (a : Fin 2) => ?_
    fin_cases a
    · exact Fin.ext hR.symm
    · exact Fin.ext hl.symm
  have h0 : ((((cfgM m).win 12).blk t).view.emb y (0 : Fin 2)).val = t.val * 3584 + R.val := by
    rw [hR]
    exact Eq.trans (by blk_simp; rfl) (congrArg (fun n : ℕ => n * 3584 + (y (0 : Fin 2)).val) (congrFun (idx12 m t) 0))
  have h1 : ((((cfgM m).win 12).blk t).view.emb y (1 : Fin 2)).val = l.val := by
    rw [hl]
    exact Eq.trans (by blk_simp; rfl) ((congrArg (fun n : ℕ => n * 128 + (y (1 : Fin 2)).val) (congrFun (idx12 m t) 1)).trans (Nat.zero_add _))
  obtain ⟨e, he⟩ : ∃ e : Fin 3211264, e.val = 128 * (3584 * (grid0.coords t 0).val + R.val) + l.val := ⟨⟨_, by rw [hc]; omega⟩, rfl⟩
  have hr : rows (argsK m c).upd ((((cfgM m).win 12).blk t).view.emb y) = (argsK m c).upd e :=
    congrArg (argsK m c).upd (Fin.ext (by rw [he, hc]; exact (congrArg₂ (fun a b : ℕ => 128 * a + b) h0 h1).trans (by dsimp only; omega)))
  refine Eq.trans ?_ hr.symm
  rw [hy]
  exact oU_blk (argsK m c) (grid0.coords t) hoff hs (tab0_eq m c) (ib0 m c t) (ib1 m c t) (ib2 m c t) (ib3 m c t) ((bcB_eq m).trans (congrArg _ (tab1_eq m c))) (blk6 m c t) (blk7 m c t) (blk8 m c t) (blk9 m c t) (tabl10 m c t) (tabl11 m c t) R l e he

theorem arrM (c : Dev nD) : ((dats m 0 c).arrAt 13 (cfgM m).N : Vec Ideal S25088x128 .i8) = rows (argsK m c).mcode := by
  refine (dats m 0 c).arrAt_eq_of_covers 13 _ (cov13 m) fun t _ y => ?_
  blk_simp
  rw [after0_13]
  have ht := t_lt m t
  have hc : (grid0.coords t 0).val = t.val := coords_eq t
  have y0 : (y (0 : Fin 2)).val < 3584 := (y (0 : Fin 2)).isLt
  have y1 : (y (1 : Fin 2)).val < 128 := (y (1 : Fin 2)).isLt
  obtain ⟨R, hR⟩ : ∃ R : Fin 3584, R.val = (y (0 : Fin 2)).val := ⟨⟨_, y0⟩, rfl⟩
  obtain ⟨l, hl⟩ : ∃ l : Fin 128, l.val = (y (1 : Fin 2)).val := ⟨⟨_, y1⟩, rfl⟩
  have hy : y = (ix2 R l : S3584x128.Idx) := by
    funext a
    revert a
    refine fun (a : Fin 2) => ?_
    fin_cases a
    · exact Fin.ext hR.symm
    · exact Fin.ext hl.symm
  have h0 : ((((cfgM m).win 13).blk t).view.emb y (0 : Fin 2)).val = t.val * 3584 + R.val := by
    rw [hR]
    exact Eq.trans (by blk_simp; rfl) (congrArg (fun n : ℕ => n * 3584 + (y (0 : Fin 2)).val) (congrFun (idx13 m t) 0))
  have h1 : ((((cfgM m).win 13).blk t).view.emb y (1 : Fin 2)).val = l.val := by
    rw [hl]
    exact Eq.trans (by blk_simp; rfl) ((congrArg (fun n : ℕ => n * 128 + (y (1 : Fin 2)).val) (congrFun (idx13 m t) 1)).trans (Nat.zero_add _))
  obtain ⟨e, he⟩ : ∃ e : Fin 3211264, e.val = 128 * (3584 * (grid0.coords t 0).val + R.val) + l.val := ⟨⟨_, by rw [hc]; omega⟩, rfl⟩
  have hr : rows (argsK m c).mcode ((((cfgM m).win 13).blk t).view.emb y) = (argsK m c).mcode e :=
    congrArg (argsK m c).mcode (Fin.ext (by rw [he, hc]; exact (congrArg₂ (fun a b : ℕ => 128 * a + b) h0 h1).trans (by dsimp only; omega)))
  refine Eq.trans ?_ hr.symm
  rw [hy]
  exact oM_blk (argsK m c) (grid0.coords t) (ib0 m c t) (ib2 m c t) (ib4 m c t) (blk7 m c t) (blk8 m c t) (tabl10 m c t) R l e he

theorem arrV (c : Dev nD) : ((dats m 0 c).arrAt 14 (cfgM m).N : Vec Ideal S25088x128 .i8) = rows (argsK m c).vcode := by
  refine (dats m 0 c).arrAt_eq_of_covers 14 _ (cov14 m) fun t _ y => ?_
  blk_simp
  rw [after0_14]
  have ht := t_lt m t
  have hc : (grid0.coords t 0).val = t.val := coords_eq t
  have y0 : (y (0 : Fin 2)).val < 3584 := (y (0 : Fin 2)).isLt
  have y1 : (y (1 : Fin 2)).val < 128 := (y (1 : Fin 2)).isLt
  obtain ⟨R, hR⟩ : ∃ R : Fin 3584, R.val = (y (0 : Fin 2)).val := ⟨⟨_, y0⟩, rfl⟩
  obtain ⟨l, hl⟩ : ∃ l : Fin 128, l.val = (y (1 : Fin 2)).val := ⟨⟨_, y1⟩, rfl⟩
  have hy : y = (ix2 R l : S3584x128.Idx) := by
    funext a
    revert a
    refine fun (a : Fin 2) => ?_
    fin_cases a
    · exact Fin.ext hR.symm
    · exact Fin.ext hl.symm
  have h0 : ((((cfgM m).win 14).blk t).view.emb y (0 : Fin 2)).val = t.val * 3584 + R.val := by
    rw [hR]
    exact Eq.trans (by blk_simp; rfl) (congrArg (fun n : ℕ => n * 3584 + (y (0 : Fin 2)).val) (congrFun (idx14 m t) 0))
  have h1 : ((((cfgM m).win 14).blk t).view.emb y (1 : Fin 2)).val = l.val := by
    rw [hl]
    exact Eq.trans (by blk_simp; rfl) ((congrArg (fun n : ℕ => n * 128 + (y (1 : Fin 2)).val) (congrFun (idx14 m t) 1)).trans (Nat.zero_add _))
  obtain ⟨e, he⟩ : ∃ e : Fin 3211264, e.val = 128 * (3584 * (grid0.coords t 0).val + R.val) + l.val := ⟨⟨_, by rw [hc]; omega⟩, rfl⟩
  have hr : rows (argsK m c).vcode ((((cfgM m).win 14).blk t).view.emb y) = (argsK m c).vcode e :=
    congrArg (argsK m c).vcode (Fin.ext (by rw [he, hc]; exact (congrArg₂ (fun a b : ℕ => 128 * a + b) h0 h1).trans (by dsimp only; omega)))
  refine Eq.trans ?_ hr.symm
  rw [hy]
  exact oV_blk (argsK m c) (grid0.coords t) (ib1 m c t) (ib2 m c t) (ib5 m c t) (blk7 m c t) (blk9 m c t) (tabl11 m c t) R l e he

theorem arrAM (c : Dev nD) : ((dats m 0 c).arrAt 15 (cfgM m).N : Vec Ideal S1568x128 .f32) = lanes (argsK m c).mmax := by
  refine (dats m 0 c).arrAt_eq_of_covers 15 _ (cov15 m) fun t _ y => ?_
  blk_simp
  rw [after0_15]
  have ht := t_lt m t
  have hc : (grid0.coords t 0).val = t.val := coords_eq t
  have y0 : (y (0 : Fin 2)).val < 224 := (y (0 : Fin 2)).isLt
  have y1 : (y (1 : Fin 2)).val < 128 := (y (1 : Fin 2)).isLt
  obtain ⟨R, hR⟩ : ∃ R : Fin 224, R.val = (y (0 : Fin 2)).val := ⟨⟨_, y0⟩, rfl⟩
  obtain ⟨l, hl⟩ : ∃ l : Fin 128, l.val = (y (1 : Fin 2)).val := ⟨⟨_, y1⟩, rfl⟩
  have hy : y = (ix2 R l : S224x128.Idx) := by
    funext a
    revert a
    refine fun (a : Fin 2) => ?_
    fin_cases a
    · exact Fin.ext hR.symm
    · exact Fin.ext hl.symm
  have h0 : ((((cfgM m).win 15).blk t).view.emb y (0 : Fin 2)).val = t.val * 224 + R.val := by
    rw [hR]
    exact Eq.trans (by blk_simp; rfl) (congrArg (fun n : ℕ => n * 224 + (y (0 : Fin 2)).val) (congrFun (idx15 m t) 0))
  have h1 : ((((cfgM m).win 15).blk t).view.emb y (1 : Fin 2)).val = l.val := by
    rw [hl]
    exact Eq.trans (by blk_simp; rfl) ((congrArg (fun n : ℕ => n * 128 + (y (1 : Fin 2)).val) (congrFun (idx15 m t) 1)).trans (Nat.zero_add _))
  obtain ⟨b, hb⟩ : ∃ b : Fin 1568, b.val = 224 * (grid0.coords t 0).val + R.val := ⟨⟨_, by rw [hc]; omega⟩, rfl⟩
  have hr : lanes (argsK m c).mmax ((((cfgM m).win 15).blk t).view.emb y) = (argsK m c).mmax b :=
    congrArg (argsK m c).mmax (Fin.ext (by rw [hb, hc]; exact h0.trans (by omega)))
  refine Eq.trans ?_ hr.symm
  rw [hy]
  exact oAM_blk (argsK m c) (grid0.coords t) (ib0 m c t) (ib2 m c t) (blk7 m c t) (blk8 m c t) (tabl10 m c t) R l b hb

theorem arrAV (c : Dev nD) : ((dats m 0 c).arrAt 16 (cfgM m).N : Vec Ideal S1568x128 .f32) = lanes (argsK m c).vmax := by
  refine (dats m 0 c).arrAt_eq_of_covers 16 _ (cov16 m) fun t _ y => ?_
  blk_simp
  rw [after0_16]
  have ht := t_lt m t
  have hc : (grid0.coords t 0).val = t.val := coords_eq t
  have y0 : (y (0 : Fin 2)).val < 224 := (y (0 : Fin 2)).isLt
  have y1 : (y (1 : Fin 2)).val < 128 := (y (1 : Fin 2)).isLt
  obtain ⟨R, hR⟩ : ∃ R : Fin 224, R.val = (y (0 : Fin 2)).val := ⟨⟨_, y0⟩, rfl⟩
  obtain ⟨l, hl⟩ : ∃ l : Fin 128, l.val = (y (1 : Fin 2)).val := ⟨⟨_, y1⟩, rfl⟩
  have hy : y = (ix2 R l : S224x128.Idx) := by
    funext a
    revert a
    refine fun (a : Fin 2) => ?_
    fin_cases a
    · exact Fin.ext hR.symm
    · exact Fin.ext hl.symm
  have h0 : ((((cfgM m).win 16).blk t).view.emb y (0 : Fin 2)).val = t.val * 224 + R.val := by
    rw [hR]
    exact Eq.trans (by blk_simp; rfl) (congrArg (fun n : ℕ => n * 224 + (y (0 : Fin 2)).val) (congrFun (idx16 m t) 0))
  have h1 : ((((cfgM m).win 16).blk t).view.emb y (1 : Fin 2)).val = l.val := by
    rw [hl]
    exact Eq.trans (by blk_simp; rfl) ((congrArg (fun n : ℕ => n * 128 + (y (1 : Fin 2)).val) (congrFun (idx16 m t) 1)).trans (Nat.zero_add _))
  obtain ⟨b, hb⟩ : ∃ b : Fin 1568, b.val = 224 * (grid0.coords t 0).val + R.val := ⟨⟨_, by rw [hc]; omega⟩, rfl⟩
  have hr : lanes (argsK m c).vmax ((((cfgM m).win 16).blk t).view.emb y) = (argsK m c).vmax b :=
    congrArg (argsK m c).vmax (Fin.ext (by rw [hb, hc]; exact h0.trans (by omega)))
  refine Eq.trans ?_ hr.symm
  rw [hy]
  exact oAV_blk (argsK m c) (grid0.coords t) (ib1 m c t) (ib2 m c t) (blk7 m c t) (blk9 m c t) (tabl11 m c t) R l b hb

end Cert.Proof.KernelIdeal

end
-- ==== Proof.KernelIdeal.Results.lean ====
/- The kernel's five results are the step's specified values. -/
module

public import proofs.«01_k».proof.Proof.KernelIdeal.Blocks

@[expose] public section

set_option maxRecDepth 16384

noncomputable section

namespace Cert.Proof.KernelIdeal

open Cert.KernelIdeal Cert.KernelIdeal.Gen
open Idealize.ShloMosaic Idealize.ShloMosaic.TcCoe
open Idealize.SL.Sem

/-! ## The operations after the call, from any contents of the buffers -/

section
variable (U : Valuation τ sig (Elt Ideal))

theorem U_v8 : (StableHlo.after hostOps1 U (Proc.devRef .tc main_v8) : Vec Ideal S3211264 .f32)
    = shapeCast S3211264 (U (Proc.devRef .tc main_v7_0) : Vec Ideal S25088x128 .f32) shapeCasts_S25088x128_S3211264 := by
  entry_read
  rfl
theorem U_v9 : (StableHlo.after hostOps1 U (Proc.devRef .tc main_v9) : Vec Ideal S3211264 .i8)
    = shapeCast S3211264 (U (Proc.devRef .tc main_v7_1) : Vec Ideal S25088x128 .i8) shapeCasts_S25088x128_S3211264 := by
  entry_read
  rfl
theorem U_v12 : (StableHlo.after hostOps1 U (Proc.devRef .tc main_v12) : Vec Ideal S3211264 .i8)
    = shapeCast S3211264 (U (Proc.devRef .tc main_v7_2) : Vec Ideal S25088x128 .i8) shapeCasts_S25088x128_S3211264 := by
  entry_read
  rfl
theorem U_v11 : (StableHlo.after hostOps1 U (Proc.devRef .tc main_v11) : Vec Ideal S1568 .f32)
    = shapeCast S1568 (extractStridedSlice S1568x1 ![0, 0] (U (Proc.devRef .tc main_v7_3) : Vec Ideal S1568x128 .f32) slices_S1568x128_S1568x1_0_0) shapeCasts_S1568x1_S1568 := by
  entry_read
  rfl
theorem U_v14 : (StableHlo.after hostOps1 U (Proc.devRef .tc main_v14) : Vec Ideal S1568 .f32)
    = shapeCast S1568 (extractStridedSlice S1568x1 ![0, 0] (U (Proc.devRef .tc main_v7_4) : Vec Ideal S1568x128 .f32) slices_S1568x128_S1568x1_0_0) shapeCasts_S1568x1_S1568 := by
  entry_read
  rfl
end

theorem rows_at {α : Type} (f : Fin 3211264 → α) : shapeCast S3211264 (rows f) shapeCasts_S25088x128_S3211264 = fun j => f (j 0) := by
  funext j
  idx_vars j
  pointwise
  exact congrArg f (Fin.ext (by simp only [Idealize.ShloMosaic.ix1, Idealize.ShloMosaic.ix2]; omega))

theorem lanes_at {α : Type} (f : Fin 1568 → α) :
    shapeCast S1568 (extractStridedSlice S1568x1 ![0, 0] (lanes f) slices_S1568x128_S1568x1_0_0) shapeCasts_S1568x1_S1568 = fun j => f (j 0) := by
  funext j
  idx_vars j
  pointwise
  rfl

/-! ## The run's results -/

variable (m : (ℓ : Loc nD τ sig) → Buf (Elt Ideal) ℓ)

/-- The buffers when the call returns, and at the end. -/
abbrev W (c : Dev nD) : Valuation τ sig (Elt Ideal) :=
  Pipeline.withArrays (Pipeline.pin pcfgs (fun _ => adm m) 0).spec c (V0 m c) fun w => (dats m 0 c).arrAt w (Pipeline.pin pcfgs (fun _ => adm m) 0).N
abbrev fin (c : Dev nD) (b : Ref sig .tc) := Pipeline.afterTail pcfgs (fun _ => adm m) (dats m) 0 (V0 m) [hostOps1] c b

theorem fin_eq (c : Dev nD) (b : Ref sig .tc) : fin m c b = StableHlo.after hostOps1 (W m c) (Proc.devRef .tc b) := by
  unfold fin Pipeline.afterTail
  rw [List.flatten_cons, List.flatten_nil, List.append_nil]

theorem arr_inj : Function.Injective (Pipeline.arrRef spec0) := by decide

theorem W_arr (c : Dev nD) (w) : W m c (Proc.devRef .tc (Pipeline.arrRef spec0 w)) = (dats m 0 c).arrAt w (cfgM m).N :=
  Pipeline.withArrays_arr spec0 arr_inj c (V0 m c) (fun w => (dats m 0 c).arrAt w (cfgM m).N) w

theorem fin_v8 (c : Dev nD) (hoff : ∀ t, 2752512 - 2147483648 ≤ ((argsK m c).off t : BitVec 32).toInt) (hs : 0 ≤ (argsK m c).st.toInt) :
    (fin m c main_v8 : Vec Ideal S3211264 .f32) = fun j => (argsK m c).upd (j 0) := by
  refine (fin_eq m c main_v8).trans ((U_v8 (W m c)).trans ?_)
  rw [show (W m c (Proc.devRef .tc main_v7_0) : Vec Ideal S25088x128 .f32) = rows (argsK m c).upd from (W_arr m c 12).trans (arrU m c hoff hs)]
  exact rows_at _
theorem fin_v9 (c : Dev nD) : (fin m c main_v9 : Vec Ideal S3211264 .i8) = fun j => (argsK m c).mcode (j 0) := by
  refine (fin_eq m c main_v9).trans ((U_v9 (W m c)).trans ?_)
  rw [show (W m c (Proc.devRef .tc main_v7_1) : Vec Ideal S25088x128 .i8) = rows (argsK m c).mcode from (W_arr m c 13).trans (arrM m c)]
  exact rows_at _
theorem fin_v12 (c : Dev nD) : (fin m c main_v12 : Vec Ideal S3211264 .i8) = fun j => (argsK m c).vcode (j 0) := by
  refine (fin_eq m c main_v12).trans ((U_v12 (W m c)).trans ?_)
  rw [show (W m c (Proc.devRef .tc main_v7_2) : Vec Ideal S25088x128 .i8) = rows (argsK m c).vcode from (W_arr m c 14).trans (arrV m c)]
  exact rows_at _
theorem fin_v11 (c : Dev nD) : (fin m c main_v11 : Vec Ideal S1568 .f32) = fun j => (argsK m c).mmax (j 0) := by
  refine (fin_eq m c main_v11).trans ((U_v11 (W m c)).trans ?_)
  rw [show (W m c (Proc.devRef .tc main_v7_3) : Vec Ideal S1568x128 .f32) = lanes (argsK m c).mmax from (W_arr m c 15).trans (arrAM m c)]
  exact lanes_at _
theorem fin_v14 (c : Dev nD) : (fin m c main_v14 : Vec Ideal S1568 .f32) = fun j => (argsK m c).vmax (j 0) := by
  refine (fin_eq m c main_v14).trans ((U_v14 (W m c)).trans ?_)
  rw [show (W m c (Proc.devRef .tc main_v7_4) : Vec Ideal S1568x128 .f32) = lanes (argsK m c).vmax from (W_arr m c 16).trans (arrAV m c)]
  exact lanes_at _

/-! ## The run -/

/-- Every run ends with the five results at their specified values and the arguments unchanged. -/
theorem run (ρ : Dev nD → PrngReg) (hoff : ∀ c t, 2752512 - 2147483648 ≤ ((argsK m c).off t : BitVec 32).toInt) (hs : ∀ c, 0 ≤ (argsK m c).st.toInt) :
    θ_run defs (onTc (τ := τ) (main (F := Ideal))) ⟨m, fun _ => 0, ρ⟩ (fun r => ∀ c : Dev nD,
      r.2.mem ((c.tc : Thread nD τ).loc main_v8) = (fun j => (argsK m c).upd (j 0))
      ∧ r.2.mem ((c.tc : Thread nD τ).loc main_v9) = (fun j => (argsK m c).mcode (j 0))
      ∧ r.2.mem ((c.tc : Thread nD τ).loc main_v11) = (fun j => (argsK m c).mmax (j 0))
      ∧ r.2.mem ((c.tc : Thread nD τ).loc main_v12) = (fun j => (argsK m c).vcode (j 0))
      ∧ r.2.mem ((c.tc : Thread nD τ).loc main_v14) = (fun j => (argsK m c).vmax (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h.1 c).2 main_v8 (Pipeline.mem_restRefs_of main_v8 (by decide) (by exact (by decide : ∀ w, Pipeline.arrRef spec0 w ≠ main_v8)))).trans (fin_v8 m c (hoff c) (hs c)),
    ((h.1 c).2 main_v9 (Pipeline.mem_restRefs_of main_v9 (by decide) (by exact (by decide : ∀ w, Pipeline.arrRef spec0 w ≠ main_v9)))).trans (fin_v9 m c),
    ((h.1 c).2 main_v11 (Pipeline.mem_restRefs_of main_v11 (by decide) (by exact (by decide : ∀ w, Pipeline.arrRef spec0 w ≠ main_v11)))).trans (fin_v11 m c),
    ((h.1 c).2 main_v12 (Pipeline.mem_restRefs_of main_v12 (by decide) (by exact (by decide : ∀ w, Pipeline.arrRef spec0 w ≠ main_v12)))).trans (fin_v12 m c),
    ((h.1 c).2 main_v14 (Pipeline.mem_restRefs_of main_v14 (by decide) (by exact (by decide : ∀ w, Pipeline.arrRef spec0 w ≠ main_v14)))).trans (fin_v14 m c),
    kept m r h.1 c⟩) (run_main m ρ)

end Cert.Proof.KernelIdeal

end
-- ==== Proof.ReferenceIdeal.Entry.lean ====
/- What the reference holds when it reaches the conversion of the gradient codes: learning rates and old moments, element by element. -/
module

public import proofs.«01_k».proof.Proof.Gen.ReferenceIdeal.Frame
public import proofs.«01_k».proof.Proof.KernelIdeal.Spec
public import Idealize.ShloMosaic.Lib.Pointwise
public import Idealize.ShloMosaic.Lib.IdealHost
public import Idealize.ShloMosaic.Lib.Pipeline.ValueKit

@[expose] public section

set_option maxRecDepth 16384

noncomputable section

namespace Cert.Proof.ReferenceIdeal

open Cert.ReferenceIdeal Cert.ReferenceIdeal.Gen
open Idealize.ShloMosaic Idealize.ShloMosaic.TcCoe
open Idealize.SL.Sem
open Cert.Proof.KernelIdeal (select_ofBool select_iff andi_one sge_iff slt_iff offZ lrN)

variable (m : (ℓ : Loc nD τ sig) → Buf (Elt Ideal) ℓ)

/-- The table entries the codes pick, as the reference picks them: a sum over the table of the entry where the code is its number. -/
def pick (q : Vec Ideal S256 .f32) (b : Vec Ideal S3211264 .i8) : FVec Ideal S1568x2048 .f32 :=
  Host.reduceAdd
    (select (cmpi .eq
        (broadcastInDim S256x1568x2048 ![0, 1, 2] bcast_S1x1568x2048_S256x1568x2048_0_1_2
          (broadcastInDim S1x1568x2048 ![1, 2] bcast_S1568x2048_S1x1568x2048_1_2
            (shapeCast S1568x2048 (extui 32 b natLt_8_32) shapeCasts_S3211264_S1568x2048)))
        (broadcastInDim S256x1568x2048 ![0, 1, 2] bcast_S256x1x1_S256x1568x2048_0_1_2 (shapeCast S256x1x1 (iotaInDim S256 32 0) shapeCasts_S256_S256x1x1)))
      (broadcastInDim S256x1568x2048 ![0, 1, 2] bcast_S256x1x1_S256x1568x2048_0_1_2 (shapeCast S256x1x1 q shapeCasts_S256_S256x1x1))
      (broadcastInDim S256x1568x2048 ![] bcast_S_S256x1568x2048 (constant (F := Ideal) S_ .f32 0x00000000#32)))
    (constant (F := Ideal) S_ .f32 0x00000000#32) reducesTo_S256x1568x2048_S1568x2048_d0 h_S_

theorem eq_code {α} (b : BitVec 8) (n : Fin 256) (x y : α) :
    Scalar.select (IntOp.cmpi .eq (BitVec.setWidth 32 b) (BitVec.ofNat 32 n.val)) x y = if b.toNat = n.val then x else y := by
  have h : IntOp.cmpi .eq (BitVec.setWidth 32 b) (BitVec.ofNat 32 n.val) = 1 ↔ b.toNat = n.val := by
    have e : (BitVec.setWidth 32 b = BitVec.ofNat 32 n.val) ↔ b.toNat = n.val := by
      rw [← BitVec.toNat_inj, BitVec.toNat_setWidth, BitVec.toNat_ofNat]
      have := b.isLt
      have := n.isLt
      omega
    rw [← e]
    unfold IntOp.cmpi
    by_cases hc : BitVec.setWidth 32 b = BitVec.ofNat 32 n.val
    · simp [hc]
    · have : (BitVec.setWidth 32 b == BitVec.ofNat 32 n.val) = false := beq_eq_false_iff_ne.2 hc
      simp only [this, hc, iff_false]
      decide
  exact select_iff _ _ h x y

theorem pick_at (q : Vec Ideal S256 .f32) (b : Vec Ideal S3211264 .i8) (r : Fin 1568) (s : Fin 2048) (e : Fin 3211264) (he : e.val = 2048 * r.val + s.val) :
    pick q b (ix2 r s) = Cert.Proof.KernelIdeal.Args.entry q (b (ix1 e)) := by
  have hx : (⟨r.val * 2048 + s.val, by omega⟩ : Fin 3211264) = e := Fin.ext (by dsimp only; omega)
  have hlt : (b (ix1 e) : BitVec 8).toNat < 256 := (b (ix1 e) : BitVec 8).isLt
  have key : ∀ x : Fin 256, Scalar.select (IntOp.cmpi CmpIPredicate.eq (BitVec.setWidth 32 (b (ix1 e) : BitVec 8)) (BitVec.ofNat 32 x.val)) (q (ix1 x) : EReal) 0
      = if x = ⟨(b (ix1 e) : BitVec 8).toNat, hlt⟩ then q (ix1 x) else 0 := fun x => by
    rw [eq_code]
    exact if_congr (by rw [Fin.ext_iff]; exact eq_comm) rfl rfl
  pointwise [pick]
  rw [hx]
  refine (Finset.sum_congr rfl fun x _ => key x).trans ?_
  rw [Finset.sum_ite_eq' Finset.univ, if_pos (Finset.mem_univ _)]
  rfl

/-- The old first and second moment of the reference. -/
def old (q : Vec Ideal S256 .f32) (b : Vec Ideal S3211264 .i8) (a : Vec Ideal S1568 .f32) : FVec Ideal S1568x2048 .f32 :=
  mulf (pick q b) (broadcastInDim S1568x2048 ![0, 1] bcast_S1568x1_S1568x2048_0_1 (broadcastInDim S1568x1 ![0] bcast_S1568_S1568x1_0 a))

/-- The learning rates of the reference. -/
def rates (off : Vec Ideal S97 .i32) (lr : Vec Ideal S96 .f32) : FVec Ideal S1568x2048 .f32 :=
  mulf (broadcastInDim S1568x2048 ![] bcast_S_S1568x2048 (constant (F := Ideal) S_ .f32 0x3951B717#32))
    (Host.reduceAdd
      (select (andi
          (cmpi .sge
            (broadcastInDim S96x1568x2048 ![0, 1, 2] bcast_S1x1568x2048_S96x1568x2048_0_1_2
              (broadcastInDim S1x1568x2048 ![1, 2] bcast_S1568x2048_S1x1568x2048_1_2 (shapeCast S1568x2048 (iotaInDim S3211264 32 0) shapeCasts_S3211264_S1568x2048)))
            (broadcastInDim S96x1568x2048 ![0, 1, 2] bcast_S96x1x1_S96x1568x2048_0_1_2
              (broadcastInDim S96x1x1 ![0] bcast_S96_S96x1x1_0 (extractStridedSlice S96 ![0] off slices_S97_S96_0))))
          (cmpi .slt
            (broadcastInDim S96x1568x2048 ![0, 1, 2] bcast_S1x1568x2048_S96x1568x2048_0_1_2
              (broadcastInDim S1x1568x2048 ![1, 2] bcast_S1568x2048_S1x1568x2048_1_2 (shapeCast S1568x2048 (iotaInDim S3211264 32 0) shapeCasts_S3211264_S1568x2048)))
            (broadcastInDim S96x1568x2048 ![0, 1, 2] bcast_S96x1x1_S96x1568x2048_0_1_2
              (broadcastInDim S96x1x1 ![0] bcast_S96_S96x1x1_0 (extractStridedSlice S96 ![1] off slices_S97_S96_1)))))
        (broadcastInDim S96x1568x2048 ![0, 1, 2] bcast_S96x1x1_S96x1568x2048_0_1_2 (broadcastInDim S96x1x1 ![0] bcast_S96_S96x1x1_0 lr))
        (broadcastInDim S96x1568x2048 ![] bcast_S_S96x1568x2048 (constant (F := Ideal) S_ .f32 0x00000000#32)))
      (constant (F := Ideal) S_ .f32 0x00000000#32) reducesTo_S96x1568x2048_S1568x2048_d0 h_S_)

theorem rates_at (off : Vec Ideal S97 .i32) (lr : Vec Ideal S96 .f32) (r : Fin 1568) (s : Fin 2048) (e : Fin 3211264) (he : e.val = 2048 * r.val + s.val) :
    rates off lr (ix2 r s) = Ideal.ofBits .f32 0x3951B717#32 * ∑ t ∈ Finset.range 96, (if offZ off t ≤ (e.val : ℤ) ∧ (e.val : ℤ) < offZ off (t + 1) then lrN lr t else 0) := by
  have hn : r.val * 2048 + s.val = e.val := by omega
  have hZ : Affine.IsInt (BitVec.ofNat 32 e.val) (e.val : ℤ) := by
    have := e.isLt
    have h : (BitVec.ofNat 32 e.val).toInt = (e.val : ℤ) := by
      rw [BitVec.toInt_ofNat', Int.bmod_eq_of_le (by norm_num) (by norm_num; omega)]
    unfold Affine.IsInt
    exact h
  have hO : ∀ w : BitVec 32, Affine.IsInt w w.toInt := fun w => by
    unfold Affine.IsInt
    rfl
  have key : ∀ x : Fin 96, Scalar.select (IntOp.andi (IntOp.cmpi CmpIPredicate.sge (BitVec.ofNat 32 e.val) (off (ix1 ⟨x.val, by omega⟩) : BitVec 32))
        (IntOp.cmpi CmpIPredicate.slt (BitVec.ofNat 32 e.val) (off (ix1 ⟨1 + x.val, by omega⟩) : BitVec 32))) (lr (ix1 x) : EReal) 0
      = if offZ off x.val ≤ (e.val : ℤ) ∧ (e.val : ℤ) < offZ off (x.val + 1) then lrN lr x.val else 0 := fun x => by
    rw [offZ, dif_pos (show x.val < 97 by omega), offZ, dif_pos (show x.val + 1 < 97 by omega), lrN, dif_pos x.isLt]
    refine select_iff _ _ ?_ _ _
    rw [andi_one, show (⟨1 + x.val, by omega⟩ : Fin 97) = ⟨x.val + 1, by omega⟩ from Fin.ext (Nat.add_comm _ _)]
    exact and_congr (sge_iff hZ (hO _)) (slt_iff hZ (hO _))
  rw [Finset.sum_range]
  pointwise [rates]
  rw [hn]
  exact congrArg _ (Finset.sum_congr rfl fun x _ => key x)

/-! ## What the buffers hold there -/

theorem V_v33 (c : Dev nD) : (V m c main_v33 : Vec Ideal S1568x2048 .f32) = old (m ((c : Thread nD τ).loc main_arg7)) (m ((c : Thread nD τ).loc main_arg3)) (m ((c : Thread nD τ).loc main_arg4)) := by
  show StableHlo.after (hostOps0 ++ (hostOps0_1 ++ (hostOps0_2 ++ (hostOps0_3 ++ (hostOps0_4 ++ (hostOps0_5 ++ hostOps0_6)))))) (fun b => m (c, b)) (Proc.devRef .tc main_v33) = _
  simp only [hostOps0, hostOps0_1, hostOps0_2, hostOps0_3, hostOps0_4, hostOps0_5, hostOps0_6, List.cons_append, List.nil_append]
  entry_read
  rfl
theorem V_v47 (c : Dev nD) : (V m c main_v47 : Vec Ideal S1568x2048 .f32) = old (m ((c : Thread nD τ).loc main_arg8)) (m ((c : Thread nD τ).loc main_arg5)) (m ((c : Thread nD τ).loc main_arg6)) := by
  show StableHlo.after (hostOps0 ++ (hostOps0_1 ++ (hostOps0_2 ++ (hostOps0_3 ++ (hostOps0_4 ++ (hostOps0_5 ++ hostOps0_6)))))) (fun b => m (c, b)) (Proc.devRef .tc main_v47) = _
  simp only [hostOps0, hostOps0_1, hostOps0_2, hostOps0_3, hostOps0_4, hostOps0_5, hostOps0_6, List.cons_append, List.nil_append]
  entry_read
  rfl
theorem V_v19 (c : Dev nD) : (V m c main_v19 : Vec Ideal S1568x2048 .f32) = rates (m ((c : Thread nD τ).loc main_arg9)) (m ((c : Thread nD τ).loc main_arg10)) := by
  show StableHlo.after (hostOps0 ++ (hostOps0_1 ++ (hostOps0_2 ++ (hostOps0_3 ++ (hostOps0_4 ++ (hostOps0_5 ++ hostOps0_6)))))) (fun b => m (c, b)) (Proc.devRef .tc main_v19) = _
  simp only [hostOps0, hostOps0_1, hostOps0_2, hostOps0_3, hostOps0_4, hostOps0_5, hostOps0_6, List.cons_append, List.nil_append]
  entry_read
  rfl

end Cert.Proof.ReferenceIdeal

end
-- ==== Proof.ReferenceIdeal.Tail.lean ====
/- The reference's results as functions of the decoded gradient, the old moments and the learning rates, element by element. -/
module

public import proofs.«01_k».proof.Proof.ReferenceIdeal.Entry
public import proofs.«01_k».proof.Proof.KernelIdeal.Tile
public import Idealize.ShloMosaic.Lib.Routing.OpsSearch

@[expose] public section

set_option maxRecDepth 16384

noncomputable section

namespace Cert.Proof.ReferenceIdeal

open Cert.ReferenceIdeal Cert.ReferenceIdeal.Gen
open Idealize.ShloMosaic Idealize.ShloMosaic.TcCoe
open Idealize.SL.Sem
open Cert.Proof.KernelIdeal (Args blkMax fold_max_congr cntW q10 q11 offZ lrN)

theorem old_at (q : Vec Ideal S256 .f32) (b : Vec Ideal S3211264 .i8) (a : Vec Ideal S1568 .f32) (r : Fin 1568) (s : Fin 2048) (e : Fin 3211264) (he : e.val = 2048 * r.val + s.val) :
    old q b a (ix2 r s) = Args.entry q (b (ix1 e)) * a (ix1 r) := by
  rw [← pick_at q b r s e he]
  pointwise [old]

/-- The scaled gradient. -/
def grads (g : Vec Ideal S3211264 .f32) (gs : Vec Ideal S6272 .f32) : FVec Ideal S1568x2048 .f32 :=
  shapeCast S1568x2048
    (mulf (shapeCast S1568x4x512 g shapeCasts_S3211264_S1568x4x512 : FVec Ideal S1568x4x512 .f32)
      (broadcastInDim S1568x4x512 ![0, 1, 2] bcast_S1568x4x1_S1568x4x512_0_1_2
        (broadcastInDim S1568x4x1 ![0, 1] bcast_S1568x4_S1568x4x1_0_1 (shapeCast S1568x4 gs shapeCasts_S6272_S1568x4))))
    shapeCasts_S1568x4x512_S1568x2048

theorem grads_at (g : Vec Ideal S3211264 .f32) (gs : Vec Ideal S6272 .f32) (r : Fin 1568) (s : Fin 2048) (e : Fin 3211264) (he : e.val = 2048 * r.val + s.val) :
    grads g gs (ix2 r s) = g (ix1 e) * gs (ix1 ⟨e.val / 512, by omega⟩) := by
  pointwise [grads]
  exact congr_arg₂ (· * ·) (congrArg (fun k => g (ix1 k)) (Fin.ext (by dsimp only; omega))) (congrArg (fun k => gs (ix1 k)) (Fin.ext (by dsimp only; omega)))

/-- The updated moments. -/
def mom (o gr : FVec Ideal S1568x2048 .f32) : FVec Ideal S1568x2048 .f32 :=
  addf (mulf (broadcastInDim S1568x2048 ![] bcast_S_S1568x2048 (constant (F := Ideal) S_ .f32 0x3F666666#32)) o)
    (mulf (broadcastInDim S1568x2048 ![] bcast_S_S1568x2048 (constant (F := Ideal) S_ .f32 0x3DCCCCCD#32)) gr)
def var (o gr : FVec Ideal S1568x2048 .f32) : FVec Ideal S1568x2048 .f32 :=
  addf (mulf (broadcastInDim S1568x2048 ![] bcast_S_S1568x2048 (constant (F := Ideal) S_ .f32 0x3F733333#32)) o)
    (mulf (mulf (broadcastInDim S1568x2048 ![] bcast_S_S1568x2048 (constant (F := Ideal) S_ .f32 0x3D4CCCCD#32)) gr) gr)

/-- One minus a decay to the power of the step. -/
def corr (b : BitVec 32) (st : Vec Ideal S_ .i32) : FVec Ideal S_ .f32 :=
  subf (constant (F := Ideal) S_ .f32 0x3F800000#32) (Host.powf (constant (F := Ideal) S_ .f32 b) (sitofp .f32 st))

/-- The update. -/
def upd (rt mo va : FVec Ideal S1568x2048 .f32) (st : Vec Ideal S_ .i32) (p : Vec Ideal S3211264 .f32) : FVec Ideal S1568x2048 .f32 :=
  mulf (Host.negf rt)
    (addf
      (Host.divf (Host.divf mo (broadcastInDim S1568x2048 ![] bcast_S_S1568x2048 (corr 0x3F666666#32 st)))
        (addf (Host.sqrt (Host.divf va (broadcastInDim S1568x2048 ![] bcast_S_S1568x2048 (corr 0x3F733333#32 st))))
          (broadcastInDim S1568x2048 ![] bcast_S_S1568x2048 (constant (F := Ideal) S_ .f32 0x322BCC77#32))))
      (mulf (broadcastInDim S1568x2048 ![] bcast_S_S1568x2048 (constant (F := Ideal) S_ .f32 0x3DCCCCCD#32))
        (shapeCast S1568x2048 p shapeCasts_S3211264_S1568x2048)))

theorem upd_at (rt mo va : FVec Ideal S1568x2048 .f32) (st : Vec Ideal S_ .i32) (p : Vec Ideal S3211264 .f32) (r : Fin 1568) (s : Fin 2048) (e : Fin 3211264) (he : e.val = 2048 * r.val + s.val) :
    upd rt mo va st p (ix2 r s) = (Ideal.ofBits .f32 0x00000000#32 - rt (ix2 r s)) *
      (Ideal.div (Ideal.div (mo (ix2 r s)) (Ideal.ofBits .f32 0x3F800000#32 - Ideal.pow (Ideal.ofBits .f32 0x3F666666#32) (((st ix0 : BitVec 32).toInt : ℝ) : EReal)))
        (Ideal.sqrt (Ideal.div (va (ix2 r s)) (Ideal.ofBits .f32 0x3F800000#32 - Ideal.pow (Ideal.ofBits .f32 0x3F733333#32) (((st ix0 : BitVec 32).toInt : ℝ) : EReal))) + Ideal.ofBits .f32 0x322BCC77#32)
        + Ideal.ofBits .f32 0x3DCCCCCD#32 * p (ix1 e)) := by
  have hx : (⟨r.val * 2048 + s.val, by omega⟩ : Fin 3211264) = e := Fin.ext (by dsimp only; omega)
  pointwise [upd, corr]
  rw [hx, zero_sub]
  rfl

/-- The largest value of a block. -/
def top (x : FVec Ideal S1568x2048 .f32) : FVec Ideal S1568 .f32 :=
  Host.reduce FloatOps.maximumf x (constant (F := Ideal) S_ .f32 0xFF800000#32) reducesTo_S1568x2048_S1568_d1 h_S_

theorem top_at (x : FVec Ideal S1568x2048 .f32) (r : Fin 1568) (f : Fin 16 → Fin 128 → EReal) (hf : ∀ p l, f p l = x (ix2 r ⟨128 * p.val + l.val, by omega⟩)) :
    top x (ix1 r) = blkMax f := by
  pointwise [top]
  refine fold_max_congr _ _ _ _ _ (fun s _ => ⟨(⟨s.val / 128, by omega⟩, ⟨s.val % 128, by omega⟩), Finset.mem_univ _, ?_⟩)
    (fun y _ => ⟨⟨128 * y.1.val + y.2.val, by omega⟩, Finset.mem_univ _, (hf _ _).symm⟩)
  rw [hf]
  congr 2
  exact Fin.ext (by dsimp only; omega)

/-- Which midpoints of a table lie below a value over its block's largest. -/
def below (x : FVec Ideal S1568x2048 .f32) (t : FVec Ideal S1568 .f32) (q : Vec Ideal S256 .f32) : IVec S255x1568x2048 1 :=
  cmpf .olt
    (broadcastInDim S255x1568x2048 ![0, 1, 2] bcast_S255x1x1_S255x1568x2048_0_1_2
      (broadcastInDim S255x1x1 ![0] bcast_S255_S255x1x1_0
        (mulf (addf (extractStridedSlice S255 ![0] q slices_S256_S255_0 : FVec Ideal S255 .f32) (extractStridedSlice S255 ![1] q slices_S256_S255_1))
          (broadcastInDim S255 ![] bcast_S_S255 (constant (F := Ideal) S_ .f32 0x3F000000#32)))))
    (broadcastInDim S255x1568x2048 ![0, 1, 2] bcast_S1x1568x2048_S255x1568x2048_0_1_2
      (broadcastInDim S1x1568x2048 ![1, 2] bcast_S1568x2048_S1x1568x2048_1_2
        (Host.divf x (broadcastInDim S1568x2048 ![0, 1] bcast_S1568x1_S1568x2048_0_1 (broadcastInDim S1568x1 ![0] bcast_S1568_S1568x1_0 t)) : FVec Ideal S1568x2048 .f32)))

/-- Their number, and the code it is. -/
def counts (b : IVec S255x1568x2048 1) : IVec S1568x2048 32 :=
  Host.reduce IntOp.addi (extui 32 b natLt_1_32) (constantI S_ 32 0#32) reducesTo_S255x1568x2048_S1568x2048_d0 h_S_
def codes (x : FVec Ideal S1568x2048 .f32) (t : FVec Ideal S1568 .f32) (q : Vec Ideal S256 .f32) : IVec S1568x2048 8 :=
  trunci 8 (counts (below x t q)) natLt_8_32

/-- A midpoint of the table lies below a value. -/
def Below (q : Vec Ideal S256 .f32) (x : EReal) (n : ℕ) : Prop :=
  ∃ h : n < 255, (q (ix1 ⟨n, by omega⟩) + q (ix1 ⟨n + 1, by omega⟩)) * Ideal.ofBits .f32 0x3F000000#32 < x

open Classical in
theorem cntW_count (q : Vec Ideal S256 .f32) (x : EReal) (n : ℕ) (hn : n ≤ 255) : cntW q x n = BitVec.ofNat 32 (Nat.count (Below q x) n) := by
  induction n with
  | zero => rfl
  | succ n ih =>
    have hl : n < Cert.KernelIdeal.k0_t5_loop.trips := by
      rw [Cert.Proof.KernelIdeal.t5_trips]
      omega
    have h10 : q10 q ⟨n, hl⟩ = q (ix1 ⟨n, by omega⟩) := Cert.Proof.KernelIdeal.ld1 q _ _ _ n (by omega) (Cert.Proof.KernelIdeal.off10_eq ⟨n, hl⟩)
    have h11 : q11 q ⟨n, hl⟩ = q (ix1 ⟨n + 1, by omega⟩) := Cert.Proof.KernelIdeal.ld1 q _ _ _ (n + 1) (by omega) (Cert.Proof.KernelIdeal.off11_eq ⟨n, hl⟩)
    rw [cntW, dif_pos hl, ih (by omega), Nat.count_succ, h10, h11]
    by_cases hb : Below q x n
    · obtain ⟨_, hb'⟩ := id hb
      rw [if_pos hb, decide_eq_true hb', BitVec.ofNat_add]
      rfl
    · have hb' : ¬ (q (ix1 ⟨n, by omega⟩) + q (ix1 ⟨n + 1, by omega⟩)) * Ideal.ofBits .f32 0x3F000000#32 < x := fun h => hb ⟨by omega, h⟩
      rw [if_neg hb, decide_eq_false hb', BitVec.ofNat_add]
      rfl

theorem below_at (x : FVec Ideal S1568x2048 .f32) (t : FVec Ideal S1568 .f32) (q : Vec Ideal S256 .f32) (j : Fin 255) (r : Fin 1568) (s : Fin 2048) :
    below x t q (ix3 j r s) = 1#1 ↔ Below q (Ideal.div (x (ix2 r s)) (t (ix1 r))) j.val := by
  have hj := j.isLt
  have e : (⟨1 + j.val, by omega⟩ : Fin 256) = ⟨j.val + 1, by omega⟩ := Fin.ext (Nat.add_comm _ _)
  pointwise [below]
  rw [e]
  constructor
  · intro h
    refine ⟨hj, ?_⟩
    by_contra hc
    rw [decide_eq_false hc] at h
    exact absurd h (by decide)
  · rintro ⟨_, h⟩
    rw [decide_eq_true h]
    rfl

theorem counts_at (b : IVec S255x1568x2048 1) (r : Fin 1568) (s : Fin 2048) (Q : ℕ → Prop) [DecidablePred Q] (hQ : ∀ j : Fin 255, b (ix3 j r s) = 1#1 ↔ Q j.val) :
    counts b (ix2 r s) = BitVec.ofNat 32 (Nat.count Q 255) := by
  unfold counts
  exact Routing.reduce_count_slabs (N := 255) (a := 1568) (b := 2048) (by norm_num) b natLt_1_32 reducesTo_S255x1568x2048_S1568x2048_d0 h_S_ r s Q hQ

theorem codes_at (x : FVec Ideal S1568x2048 .f32) (t : FVec Ideal S1568 .f32) (q : Vec Ideal S256 .f32) (r : Fin 1568) (s : Fin 2048) :
    codes x t q (ix2 r s) = BitVec.setWidth 8 (cntW q (Ideal.div (x (ix2 r s)) (t (ix1 r))) 255) := by
  classical
  rw [cntW_count _ _ _ le_rfl, ← counts_at (below x t q) r s _ fun j => below_at x t q j r s]
  rfl

end Cert.Proof.ReferenceIdeal

end
-- ==== Proof.ReferenceIdeal.Call.lean ====
/- The conversion of the gradient codes: the array it leaves holds the values of its operand's. -/
module

public import proofs.«01_k».proof.Proof.Gen.ReferenceIdeal.Frame
public import Idealize.ShloMosaic.Lib.Pointwise
public import Idealize.ShloMosaic.Lib.IdealHost
public import Idealize.ShloMosaic.Lib.Pipeline.ValueKit
public import Idealize.ShloMosaic.Lib.Pipeline.Covers

@[expose] public section

set_option maxRecDepth 16384

noncomputable section

namespace Cert.Proof.ReferenceIdeal

open Cert.ReferenceIdeal Cert.ReferenceIdeal.Gen
open Idealize.ShloMosaic Idealize.ShloMosaic.TcCoe
open Idealize.SL.Sem

variable (m : (ℓ : Loc nD τ sig) → Buf (Elt Ideal) ℓ)

theorem out_at (x : Vec Ideal S3211264 .fp8e5m2) (j : S3211264.Idx) : out0_1 x j = x j := by
  frame_out
  pointwise [k0_pay1]

theorem cov1 : (cfg0.win 1).Covers := by
  have n0 : (cfg0.win 1).nblk (0 : Fin 1) = 1 := (by decide : (3211264 + 3211264 - 1) / 3211264 = 1)
  refine Pipeline.Window.covers_of_index_surj _ rfl (fun a => (by decide : ∀ a : Fin 1, 0 < S3211264.size a) a) fun β => ⟨t0_0, fun a => ?_⟩
  revert a
  refine fun (a : Fin 1) => ?_
  fin_cases a
  have h : (β (0 : Fin 1)).val < 1 := Nat.lt_of_lt_of_eq (β (0 : Fin 1)).isLt n0
  show 0 = (β (0 : Fin 1)).val
  omega

/-- The call's one block is the whole array. -/
theorem emb0 (t : Fin cfg0.N) (y) : (((cfg0.win 0).blk t).view.emb y (0 : Fin 1)).val = (y (0 : Fin 1)).val := by
  have hi : (cfg0.win 0).index t (0 : Fin 1) = 0 := by
    obtain rfl := fin_N0 t
    rfl
  refine Eq.trans (b := (cfg0.win 0).index t (0 : Fin 1) * 3211264 + (y (0 : Fin 1)).val) (by blk_simp) ?_
  rw [hi]
  exact (congrArg (· + (y (0 : Fin 1)).val) (Nat.zero_mul 3211264)).trans (Nat.zero_add _)
theorem emb1 (t : Fin cfg0.N) (y) : (((cfg0.win 1).blk t).view.emb y (0 : Fin 1)).val = (y (0 : Fin 1)).val := by
  have hi : (cfg0.win 1).index t (0 : Fin 1) = 0 := by
    obtain rfl := fin_N0 t
    rfl
  refine Eq.trans (b := (cfg0.win 1).index t (0 : Fin 1) * 3211264 + (y (0 : Fin 1)).val) (by blk_simp) ?_
  rw [hi]
  exact (congrArg (· + (y (0 : Fin 1)).val) (Nat.zero_mul 3211264)).trans (Nat.zero_add _)

theorem blk_at (c : Dev nD) (t : Fin cfg0.N) (y) (j : S3211264.Idx) (h : (y (0 : Fin 1)).val = (j 0).val) : (iblk m c 0 t : Vec Ideal S3211264 .fp8e5m2) y = (m ((c : Thread nD τ).loc main_arg1) : Vec Ideal S3211264 .fp8e5m2) j := by
  rw [← V_main_arg1 m c]
  refine congrArg (V m c main_arg1 : Vec Ideal S3211264 .fp8e5m2) (?_ : ((cfg0.win 0).blk t).view.emb y = j)
  funext a
  revert a
  refine fun (a : Fin 1) => ?_
  fin_cases a
  exact Fin.ext ((emb0 t y).trans h)

theorem arr_v48 (c : Dev nD) : ((dats m 0 c).arrAt 1 cfg0.N : Vec Ideal S3211264 .f32) = fun j => (m ((c : Thread nD τ).loc main_arg1) : Vec Ideal S3211264 .fp8e5m2) j := by
  refine (dats m 0 c).arrAt_eq_of_covers 1 _ cov1 fun t _ y => ?_
  rw [cast_eq]
  rw [after0_1]
  refine (out_at _ _).trans (blk_at m c t _ _ ?_)
  refine Eq.trans ?_ (emb1 t y).symm
  rfl

end Cert.Proof.ReferenceIdeal

end
-- ==== Proof.ReferenceIdeal.Results.lean ====
/- The reference's five results are the step's specified values. -/
module

public import proofs.«01_k».proof.Proof.ReferenceIdeal.Tail
public import proofs.«01_k».proof.Proof.ReferenceIdeal.Call

@[expose] public section

set_option maxRecDepth 16384

noncomputable section

namespace Cert.Proof.ReferenceIdeal

open Cert.ReferenceIdeal Cert.ReferenceIdeal.Gen
open Idealize.ShloMosaic Idealize.ShloMosaic.TcCoe
open Idealize.SL.Sem
open Cert.Proof.KernelIdeal (Args blkMax)

/-! ## The operations after the conversion, from any contents of the buffers -/

section
variable (U : Valuation τ sig (Elt Ideal))

/-- A buffer's contents at a typed reference. -/
abbrev at' (b : Ref sig .tc) := U (Proc.devRef .tc b)

/-- The updated moments there. -/
def uM : FVec Ideal S1568x2048 .f32 := mom (at' U main_v33) (grads (at' U main_v48) (at' U main_arg2))
def uV : FVec Ideal S1568x2048 .f32 := var (at' U main_v47) (grads (at' U main_v48) (at' U main_arg2))

theorem U_v122 : (StableHlo.after hostOps1 U (Proc.devRef .tc main_v122) : Vec Ideal S3211264 .f32)
    = shapeCast S3211264 (upd (at' U main_v19) (uM U) (uV U) (at' U main_arg11) (at' U main_arg0)) shapeCasts_S1568x2048_S3211264 := by
  entry_read
  rfl
theorem U_v103_1 : (StableHlo.after hostOps1 U (Proc.devRef .tc main_v103_1) : Vec Ideal S1568 .f32) = top (Host.absf (uM U)) := by
  entry_read
  rfl
theorem U_v121_1 : (StableHlo.after hostOps1 U (Proc.devRef .tc main_v121_1) : Vec Ideal S1568 .f32) = top (uV U) := by
  entry_read
  rfl
theorem U_v123 : (StableHlo.after hostOps1 U (Proc.devRef .tc main_v123) : Vec Ideal S3211264 .i8)
    = shapeCast S3211264 (codes (uM U) (top (Host.absf (uM U))) (at' U main_arg7)) shapeCasts_S1568x2048_S3211264 := by
  entry_read
  rfl
theorem U_v124 : (StableHlo.after hostOps1 U (Proc.devRef .tc main_v124) : Vec Ideal S3211264 .i8)
    = shapeCast S3211264 (codes (uV U) (top (uV U)) (at' U main_arg8)) shapeCasts_S1568x2048_S3211264 := by
  entry_read
  rfl
end

/-! ## Their values -/

section
variable (A : Args)

/-- The moments, the update, the largest values and the codes from the step's arguments. -/
def mR : FVec Ideal S1568x2048 .f32 := mom (old A.mq A.mc A.ma) (grads (fun j => A.g j) A.gs)
def vR : FVec Ideal S1568x2048 .f32 := var (old A.vq A.vc A.va) (grads (fun j => A.g j) A.gs)

theorem mR_at (r : Fin 1568) (s : Fin 2048) (e : Fin 3211264) (he : e.val = 2048 * r.val + s.val) : mR A (ix2 r s) = A.mom e := by
  have hr : (⟨e.val / 2048, by omega⟩ : Fin 1568) = r := Fin.ext (by dsimp only; omega)
  have h1 := old_at A.mq A.mc A.ma r s e he
  have h2 := grads_at (fun j => A.g j) A.gs r s e he
  unfold mR Args.mom Args.grad
  rw [hr, ← h1, ← h2]
  pointwise [mom]

theorem vR_at (r : Fin 1568) (s : Fin 2048) (e : Fin 3211264) (he : e.val = 2048 * r.val + s.val) : vR A (ix2 r s) = A.var e := by
  have hr : (⟨e.val / 2048, by omega⟩ : Fin 1568) = r := Fin.ext (by dsimp only; omega)
  have h1 := old_at A.vq A.vc A.va r s e he
  have h2 := grads_at (fun j => A.g j) A.gs r s e he
  unfold vR Args.var Args.grad
  rw [hr, ← h1, ← h2]
  pointwise [var]

theorem top_m (r : Fin 1568) : top (Host.absf (mR A)) (ix1 r) = A.mmax r := by
  refine top_at _ r _ fun p l => ?_
  rw [← mR_at A r ⟨128 * p.val + l.val, by omega⟩ (Args.el r p l) (by dsimp only [Args.el]; omega)]
  rfl

theorem top_v (r : Fin 1568) : top (vR A) (ix1 r) = A.vmax r := by
  refine top_at _ r _ fun p l => ?_
  rw [← vR_at A r ⟨128 * p.val + l.val, by omega⟩ (Args.el r p l) (by dsimp only [Args.el]; omega)]

theorem flat_at {α} (x : S1568x2048.Idx → α) (e : Fin 3211264) :
    shapeCast S3211264 x shapeCasts_S1568x2048_S3211264 (ix1 e) = x (ix2 ⟨e.val / 2048, by omega⟩ ⟨e.val % 2048, by omega⟩) := by
  pointwise

theorem code_m (e : Fin 3211264) : shapeCast S3211264 (codes (mR A) (top (Host.absf (mR A))) A.mq) shapeCasts_S1568x2048_S3211264 (ix1 e) = A.mcode e := by
  rw [flat_at, codes_at, mR_at A _ _ e (by dsimp only; omega), top_m]
  rfl
theorem code_v (e : Fin 3211264) : shapeCast S3211264 (codes (vR A) (top (vR A)) A.vq) shapeCasts_S1568x2048_S3211264 (ix1 e) = A.vcode e := by
  rw [flat_at, codes_at, vR_at A _ _ e (by dsimp only; omega), top_v]
  rfl
theorem upd_r (st : Vec Ideal S_ .i32) (hst : st ix0 = A.st) (e : Fin 3211264) :
    shapeCast S3211264 (upd (rates A.off A.lr) (mR A) (vR A) st A.p) shapeCasts_S1568x2048_S3211264 (ix1 e) = A.upd e := by
  have he : e.val = 2048 * (⟨e.val / 2048, by omega⟩ : Fin 1568).val + (⟨e.val % 2048, by omega⟩ : Fin 2048).val := by dsimp only; omega
  rw [flat_at, upd_at _ _ _ _ _ _ _ e he, mR_at A _ _ e he, vR_at A _ _ e he, rates_at _ _ _ _ e he, hst]
  rfl
end

/-! ## The run's results -/

variable (m : (ℓ : Loc nD τ sig) → Buf (Elt Ideal) ℓ)

/-- The step's arguments as the reference's program holds them. -/
def argsR (c : Dev nD) : Args where
  p := m ((c : Thread nD τ).loc main_arg0)
  g := m ((c : Thread nD τ).loc main_arg1)
  gs := m ((c : Thread nD τ).loc main_arg2)
  mc := m ((c : Thread nD τ).loc main_arg3)
  ma := m ((c : Thread nD τ).loc main_arg4)
  vc := m ((c : Thread nD τ).loc main_arg5)
  va := m ((c : Thread nD τ).loc main_arg6)
  mq := m ((c : Thread nD τ).loc main_arg7)
  vq := m ((c : Thread nD τ).loc main_arg8)
  off := m ((c : Thread nD τ).loc main_arg9)
  lr := m ((c : Thread nD τ).loc main_arg10)
  st := (m ((c : Thread nD τ).loc main_arg11) : Vec Ideal S_ .i32) ix0

/-- The buffers when the conversion returns. -/
abbrev W (c : Dev nD) : Valuation τ sig (Elt Ideal) := Pipeline.withArrays cfg0.spec c (V0 m c) fun w => (dats m 0 c).arrAt w cfg0.N

theorem W_of (c : Dev nD) (b : Ref sig .tc) (hb : ∀ w, Pipeline.arrRef spec0 w ≠ b) : W m c (Proc.devRef .tc b) = V m c b :=
  Pipeline.withArrays_of_ne _ c (V0 m c) _ b hb

theorem W_v48 (c : Dev nD) : (W m c (Proc.devRef .tc main_v48) : Vec Ideal S3211264 .f32) = fun j => (argsR m c).g j :=
  (Pipeline.withArrays_arr spec0 (by decide) c (V0 m c) (fun w => (dats m 0 c).arrAt w cfg0.N) 1).trans (arr_v48 m c)

theorem uM_eq (c : Dev nD) : uM (W m c) = mR (argsR m c) := by
  have h1 : at' (W m c) main_v33 = old (argsR m c).mq (argsR m c).mc (argsR m c).ma := (W_of m c main_v33 (by decide)).trans (V_v33 m c)
  have h2 : at' (W m c) main_arg2 = (argsR m c).gs := (W_of m c main_arg2 (by decide)).trans (V_main_arg2 m c)
  exact congr_arg₂ mom h1 (congr_arg₂ grads (W_v48 m c) h2)
theorem uV_eq (c : Dev nD) : uV (W m c) = vR (argsR m c) := by
  have h1 : at' (W m c) main_v47 = old (argsR m c).vq (argsR m c).vc (argsR m c).va := (W_of m c main_v47 (by decide)).trans (V_v47 m c)
  have h2 : at' (W m c) main_arg2 = (argsR m c).gs := (W_of m c main_arg2 (by decide)).trans (V_main_arg2 m c)
  exact congr_arg₂ var h1 (congr_arg₂ grads (W_v48 m c) h2)

theorem W_v19 (c : Dev nD) : at' (W m c) main_v19 = rates (argsR m c).off (argsR m c).lr := (W_of m c main_v19 (by decide)).trans (V_v19 m c)
theorem W_arg0 (c : Dev nD) : at' (W m c) main_arg0 = (argsR m c).p := (W_of m c main_arg0 (by decide)).trans (V_main_arg0 m c)
theorem W_arg7 (c : Dev nD) : at' (W m c) main_arg7 = (argsR m c).mq := (W_of m c main_arg7 (by decide)).trans (V_main_arg7 m c)
theorem W_arg8 (c : Dev nD) : at' (W m c) main_arg8 = (argsR m c).vq := (W_of m c main_arg8 (by decide)).trans (V_main_arg8 m c)
theorem W_arg11 (c : Dev nD) : at' (W m c) main_arg11 = m ((c : Thread nD τ).loc main_arg11) := (W_of m c main_arg11 (by decide)).trans (V_main_arg11 m c)

/-- What the buffers hold at the end. -/
abbrev fin (c : Dev nD) (b : Ref sig .tc) := Pipeline.afterTail₀ cfgs (dats m) 0 (V0 m) [hostOps1] c b

theorem fin_eq (c : Dev nD) (b : Ref sig .tc) : fin m c b = StableHlo.after hostOps1 (W m c) (Proc.devRef .tc b) := by
  unfold fin Pipeline.afterTail₀
  rw [List.flatten_cons, List.flatten_nil, List.append_nil]

theorem fin_v122 (c : Dev nD) : (fin m c main_v122 : Vec Ideal S3211264 .f32) = fun j => (argsR m c).upd (j 0) := by
  refine (fin_eq m c main_v122).trans ((U_v122 (W m c)).trans ?_)
  rw [uM_eq, uV_eq, W_v19, W_arg0, W_arg11]
  funext j
  idx_vars j
  exact upd_r (argsR m c) _ rfl j0
theorem fin_v123 (c : Dev nD) : (fin m c main_v123 : Vec Ideal S3211264 .i8) = fun j => (argsR m c).mcode (j 0) := by
  refine (fin_eq m c main_v123).trans ((U_v123 (W m c)).trans ?_)
  rw [uM_eq, W_arg7]
  funext j
  idx_vars j
  exact code_m (argsR m c) j0
theorem fin_v124 (c : Dev nD) : (fin m c main_v124 : Vec Ideal S3211264 .i8) = fun j => (argsR m c).vcode (j 0) := by
  refine (fin_eq m c main_v124).trans ((U_v124 (W m c)).trans ?_)
  rw [uV_eq, W_arg8]
  funext j
  idx_vars j
  exact code_v (argsR m c) j0
theorem fin_v103_1 (c : Dev nD) : (fin m c main_v103_1 : Vec Ideal S1568 .f32) = fun j => (argsR m c).mmax (j 0) := by
  refine (fin_eq m c main_v103_1).trans ((U_v103_1 (W m c)).trans ?_)
  rw [uM_eq]
  funext j
  idx_vars j
  exact top_m (argsR m c) j0
theorem fin_v121_1 (c : Dev nD) : (fin m c main_v121_1 : Vec Ideal S1568 .f32) = fun j => (argsR m c).vmax (j 0) := by
  refine (fin_eq m c main_v121_1).trans ((U_v121_1 (W m c)).trans ?_)
  rw [uV_eq]
  funext j
  idx_vars j
  exact top_v (argsR m c) j0

/-! ## The run -/

/-- Every run ends with the five results at their specified values and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v122) = (fun j => (argsR m c).upd (j 0))
      ∧ r.2.mem ((c.tc : Thread nD τ).loc main_v123) = (fun j => (argsR m c).mcode (j 0))
      ∧ r.2.mem ((c.tc : Thread nD τ).loc main_v103_1) = (fun j => (argsR m c).mmax (j 0))
      ∧ r.2.mem ((c.tc : Thread nD τ).loc main_v124) = (fun j => (argsR m c).vcode (j 0))
      ∧ r.2.mem ((c.tc : Thread nD τ).loc main_v121_1) = (fun j => (argsR m c).vmax (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).2 main_v122 (Pipeline.mem_restRefs_of main_v122 (by decide) (by decide))).trans (fin_v122 m c),
    ((h c).2 main_v123 (Pipeline.mem_restRefs_of main_v123 (by decide) (by decide))).trans (fin_v123 m c),
    ((h c).2 main_v103_1 (Pipeline.mem_restRefs_of main_v103_1 (by decide) (by decide))).trans (fin_v103_1 m c),
    ((h c).2 main_v124 (Pipeline.mem_restRefs_of main_v124 (by decide) (by decide))).trans (fin_v124 m c),
    ((h c).2 main_v121_1 (Pipeline.mem_restRefs_of main_v121_1 (by decide) (by decide))).trans (fin_v121_1 m c),
    ((h c).2 main_arg0 (Pipeline.mem_restRefs_of main_arg0 (by decide) (by decide))).trans (W_main_arg0 m (dats m) c),
    ((h c).1 0).trans (((dats m 0 c).arrAt_in 0 rfl _).trans ((A_eq m c 0).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c)⟩) (run_main m ρ)

end Cert.Proof.ReferenceIdeal

end
-- ==== Proof.lean ====
module

public import proofs.«01_k».proof.Defs
public import proofs.«01_k».proof.Proof.Kernel.Frame
public import proofs.«01_k».proof.Proof.KernelIdeal.Results
public import proofs.«01_k».proof.Proof.ReferenceIdeal.Results
public import Idealize.ShloMosaic.Lib.ReduceAll

@[expose] public section

set_option maxRecDepth 16384

noncomputable section

namespace Cert.Proof

open Idealize.ShloMosaic Idealize.SL.Sem

/-- The shape relations the precondition's operations take. -/
instance preFacts : Cert.Pre_words_fit.Facts where
  bcast_S_S97 := by decide
  reducesTo_S97_S_d0 := by decide
  h_S_ := by decide

/-- The precondition says what it was written to say: no offset is so small that a tile's distance from it overflows, and the step is not negative. -/
theorem words (m : (ℓ : Loc Cert.KernelIdeal.nD Cert.KernelIdeal.τ Cert.KernelIdeal.sig) → Buf (Elt Ideal) ℓ) (h : Cert.Pre_KernelIdeal_words_fit m) (c : Dev Cert.KernelIdeal.nD) :
    (∀ t, 2752512 - 2147483648 ≤ ((KernelIdeal.argsK m c).off t : BitVec 32).toInt) ∧ 0 ≤ (KernelIdeal.argsK m c).st.toInt := by
  obtain ⟨h1, h2⟩ := (KernelIdeal.andi_one _ _).1 (congrFun (h c) ix0)
  exact ⟨fun t => IntOp.cmpi_sge.1 (Host.reduce_andi_all _ _ _ _ ix0 h1 t), IntOp.cmpi_sge.1 h2⟩

/-- Programs whose argument arrays agree hold the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    ReferenceIdeal.argsR m' c = KernelIdeal.argsK m c := by
  unfold ReferenceIdeal.argsR KernelIdeal.argsK
  rw [KernelIdeal.Args.mk.injEq]
  exact ⟨h0, h1, h2, h3, h4, h5, h6, h7, h8, h9, h10, congrFun h11 ix0⟩

theorem algebraic : Cert.algebraic_KernelIdeal_ReferenceIdeal_pre_words_fit (hKernelIdeal := Cert.KernelIdeal.Gen.facts) (hReferenceIdeal := Cert.ReferenceIdeal.Gen.facts) (hPre_words_fit := preFacts) := by
  intro m g m' g' hpre hargs
  have hA : ReferenceIdeal.argsR m' = KernelIdeal.argsK m := funext fun c => by
    obtain ⟨h0, h1, h2, h3, h4, h5, h6, h7, h8, h9, h10, h11⟩ := hargs c
    exact args_eq m m' c h0 h1 h2 h3 h4 h5 h6 h7 h8 h9 h10 h11
  refine ⟨fun c j => (KernelIdeal.argsK m c).upd (j 0), fun c j => (KernelIdeal.argsK m c).mcode (j 0), fun c j => (KernelIdeal.argsK m c).mmax (j 0),
    fun c j => (KernelIdeal.argsK m c).vcode (j 0), fun c j => (KernelIdeal.argsK m c).vmax (j 0), KernelIdeal.run m g (fun c => (words m hpre c).1) (fun c => (words m hpre c).2), ?_⟩
  rw [← hA]
  exact ReferenceIdeal.run m' g'

theorem claim : Cert.Claim := ⟨Cert.Kernel.Gen.facts, Cert.KernelIdeal.Gen.facts, Cert.ReferenceIdeal.Gen.facts, preFacts,
  fun m g _ => Cert.Proof.Kernel.frame_k m g,
  fun m g _ => Cert.Proof.KernelIdeal.frame_k m g,
  fun m g _ => Cert.Proof.KernelIdeal.frame_k m g,
  fun m g _ => Cert.ReferenceIdeal.Gen.frame m g,
  fun m g _ => Cert.ReferenceIdeal.Gen.frame m g,
  trivial,
  algebraic⟩

end Cert.Proof

end
